-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6)
      ∧ r.2.mem ((c.tc : Thread Cert.Kernel2.nD Cert.Kernel2.τ).loc Cert.Kernel2.main_arg7) = m ((c.tc : Thread Cert.Kernel2.nD Cert.Kernel2.τ).loc Cert.Kernel2.main_arg7)
      ∧ r.2.mem ((c.tc : Thread Cert.Kernel2.nD Cert.Kernel2.τ).loc Cert.Kernel2.main_arg8) = m ((c.tc : Thread Cert.Kernel2.nD Cert.Kernel2.τ).loc Cert.Kernel2.main_arg8)
      ∧ r.2.mem ((c.tc : Thread Cert.Kernel2.nD Cert.Kernel2.τ).loc Cert.Kernel2.main_arg9) = m ((c.tc : Thread Cert.Kernel2.nD Cert.Kernel2.τ).loc Cert.Kernel2.main_arg9)
      ∧ r.2.mem ((c.tc : Thread Cert.Kernel2.nD Cert.Kernel2.τ).loc Cert.Kernel2.main_arg10) = m ((c.tc : Thread Cert.Kernel2.nD Cert.Kernel2.τ).loc Cert.Kernel2.main_arg10)
      ∧ r.2.mem ((c.tc : Thread Cert.Kernel2.nD Cert.Kernel2.τ).loc Cert.Kernel2.main_arg11) = m ((c.tc : Thread Cert.Kernel2.nD Cert.Kernel2.τ).loc Cert.Kernel2.main_arg11)
      ∧ r.2.mem ((c.tc : Thread Cert.Kernel2.nD Cert.Kernel2.τ).loc Cert.Kernel2.main_arg12) = m ((c.tc : Thread Cert.Kernel2.nD Cert.Kernel2.τ).loc Cert.Kernel2.main_arg12)
      ∧ r.2.mem ((c.tc : Thread Cert.Kernel2.nD Cert.Kernel2.τ).loc Cert.Kernel2.main_arg13) = m ((c.tc : Thread Cert.Kernel2.nD Cert.Kernel2.τ).loc Cert.Kernel2.main_arg13)
      ∧ r.2.mem ((c.tc : Thread Cert.Kernel2.nD Cert.Kernel2.τ).loc Cert.Kernel2.main_arg14) = m ((c.tc : Thread Cert.Kernel2.nD Cert.Kernel2.τ).loc Cert.Kernel2.main_arg14)
      ∧ r.2.mem ((c.tc : Thread Cert.Kernel2.nD Cert.Kernel2.τ).loc Cert.Kernel2.main_arg15) = m ((c.tc : Thread Cert.Kernel2.nD Cert.Kernel2.τ).loc Cert.Kernel2.main_arg15)
      ∧ r.2.mem ((c.tc : Thread Cert.Kernel2.nD Cert.Kernel2.τ).loc Cert.Kernel2.main_arg16) = m ((c.tc : Thread Cert.Kernel2.nD Cert.Kernel2.τ).loc Cert.Kernel2.main_arg16))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
      ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
      ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9)
      ∧ r.2.mem ((c.tc : Thread Cert.Kernel2Ideal.nD Cert.Kernel2Ideal.τ).loc Cert.Kernel2Ideal.main_arg10) = m ((c.tc : Thread Cert.Kernel2Ideal.nD Cert.Kernel2Ideal.τ).loc Cert.Kernel2Ideal.main_arg10)
      ∧ r.2.mem ((c.tc : Thread Cert.Kernel2Ideal.nD Cert.Kernel2Ideal.τ).loc Cert.Kernel2Ideal.main_arg11) = m ((c.tc : Thread Cert.Kernel2Ideal.nD Cert.Kernel2Ideal.τ).loc Cert.Kernel2Ideal.main_arg11)
      ∧ r.2.mem ((c.tc : Thread Cert.Kernel2Ideal.nD Cert.Kernel2Ideal.τ).loc Cert.Kernel2Ideal.main_arg12) = m ((c.tc : Thread Cert.Kernel2Ideal.nD Cert.Kernel2Ideal.τ).loc Cert.Kernel2Ideal.main_arg12)
      ∧ r.2.mem ((c.tc : Thread Cert.Kernel2Ideal.nD Cert.Kernel2Ideal.τ).loc Cert.Kernel2Ideal.main_arg13) = m ((c.tc : Thread Cert.Kernel2Ideal.nD Cert.Kernel2Ideal.τ).loc Cert.Kernel2Ideal.main_arg13)
      ∧ r.2.mem ((c.tc : Thread Cert.Kernel2Ideal.nD Cert.Kernel2Ideal.τ).loc Cert.Kernel2Ideal.main_arg14) = m ((c.tc : Thread Cert.Kernel2Ideal.nD Cert.Kernel2Ideal.τ).loc Cert.Kernel2Ideal.main_arg14)
      ∧ r.2.mem ((c.tc : Thread Cert.Kernel2Ideal.nD Cert.Kernel2Ideal.τ).loc Cert.Kernel2Ideal.main_arg15) = m ((c.tc : Thread Cert.Kernel2Ideal.nD Cert.Kernel2Ideal.τ).loc Cert.Kernel2Ideal.main_arg15)
      ∧ r.2.mem ((c.tc : Thread Cert.Kernel2Ideal.nD Cert.Kernel2Ideal.τ).loc Cert.Kernel2Ideal.main_arg16) = m ((c.tc : Thread Cert.Kernel2Ideal.nD Cert.Kernel2Ideal.τ).loc Cert.Kernel2Ideal.main_arg16))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7)
      ∧ r.2.mem ((c.tc : Thread Cert.Reference2Ideal.nD Cert.Reference2Ideal.τ).loc Cert.Reference2Ideal.main_arg8) = m ((c.tc : Thread Cert.Reference2Ideal.nD Cert.Reference2Ideal.τ).loc Cert.Reference2Ideal.main_arg8)
      ∧ r.2.mem ((c.tc : Thread Cert.Reference2Ideal.nD Cert.Reference2Ideal.τ).loc Cert.Reference2Ideal.main_arg9) = m ((c.tc : Thread Cert.Reference2Ideal.nD Cert.Reference2Ideal.τ).loc Cert.Reference2Ideal.main_arg9)
      ∧ r.2.mem ((c.tc : Thread Cert.Reference2Ideal.nD Cert.Reference2Ideal.τ).loc Cert.Reference2Ideal.main_arg10) = m ((c.tc : Thread Cert.Reference2Ideal.nD Cert.Reference2Ideal.τ).loc Cert.Reference2Ideal.main_arg10)
      ∧ r.2.mem ((c.tc : Thread Cert.Reference2Ideal.nD Cert.Reference2Ideal.τ).loc Cert.Reference2Ideal.main_arg11) = m ((c.tc : Thread Cert.Reference2Ideal.nD Cert.Reference2Ideal.τ).loc Cert.Reference2Ideal.main_arg11)
      ∧ r.2.mem ((c.tc : Thread Cert.Reference2Ideal.nD Cert.Reference2Ideal.τ).loc Cert.Reference2Ideal.main_arg12) = m ((c.tc : Thread Cert.Reference2Ideal.nD Cert.Reference2Ideal.τ).loc Cert.Reference2Ideal.main_arg12)
      ∧ r.2.mem ((c.tc : Thread Cert.Reference2Ideal.nD Cert.Reference2Ideal.τ).loc Cert.Reference2Ideal.main_arg13) = m ((c.tc : Thread Cert.Reference2Ideal.nD Cert.Reference2Ideal.τ).loc Cert.Reference2Ideal.main_arg13)
      ∧ r.2.mem ((c.tc : Thread Cert.Reference2Ideal.nD Cert.Reference2Ideal.τ).loc Cert.Reference2Ideal.main_arg14) = m ((c.tc : Thread Cert.Reference2Ideal.nD Cert.Reference2Ideal.τ).loc Cert.Reference2Ideal.main_arg14)
      ∧ r.2.mem ((c.tc : Thread Cert.Reference2Ideal.nD Cert.Reference2Ideal.τ).loc Cert.Reference2Ideal.main_arg15) = m ((c.tc : Thread Cert.Reference2Ideal.nD Cert.Reference2Ideal.τ).loc Cert.Reference2Ideal.main_arg15)
      ∧ r.2.mem ((c.tc : Thread Cert.Reference2Ideal.nD Cert.Reference2Ideal.τ).loc Cert.Reference2Ideal.main_arg16) = m ((c.tc : Thread Cert.Reference2Ideal.nD Cert.Reference2Ideal.τ).loc Cert.Reference2Ideal.main_arg16))
      ∧ r.2.sem = fun _ => 0)

def preserves_Kernel_KernelIdeal : Prop :=
  IdealRules.named_const.Statement Cert.KernelIdeal.κ "mask" .f32 0xF149F2CA#32 ⊥
  ∧ IdealRules.named_const.Statement Cert.KernelIdeal.κ "log2e" .f32 0x3FB8AA3B#32 (((Real.log 2)⁻¹ : ℝ) : EReal)

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v37)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v37) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v79) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)
      ∧ m' ((c.tc : Thread Cert.Reference2Ideal.nD Cert.Reference2Ideal.τ).loc Cert.Reference2Ideal.main_arg7) = m ((c.tc : Thread Cert.Kernel2Ideal.nD Cert.Kernel2Ideal.τ).loc Cert.Kernel2Ideal.main_arg7)
      ∧ m' ((c.tc : Thread Cert.Reference2Ideal.nD Cert.Reference2Ideal.τ).loc Cert.Reference2Ideal.main_arg8) = m ((c.tc : Thread Cert.Kernel2Ideal.nD Cert.Kernel2Ideal.τ).loc Cert.Kernel2Ideal.main_arg8)
      ∧ m' ((c.tc : Thread Cert.Reference2Ideal.nD Cert.Reference2Ideal.τ).loc Cert.Reference2Ideal.main_arg9) = m ((c.tc : Thread Cert.Kernel2Ideal.nD Cert.Kernel2Ideal.τ).loc Cert.Kernel2Ideal.main_arg9)
      ∧ m' ((c.tc : Thread Cert.Reference2Ideal.nD Cert.Reference2Ideal.τ).loc Cert.Reference2Ideal.main_arg10) = m ((c.tc : Thread Cert.Kernel2Ideal.nD Cert.Kernel2Ideal.τ).loc Cert.Kernel2Ideal.main_arg10)
      ∧ m' ((c.tc : Thread Cert.Reference2Ideal.nD Cert.Reference2Ideal.τ).loc Cert.Reference2Ideal.main_arg11) = m ((c.tc : Thread Cert.Kernel2Ideal.nD Cert.Kernel2Ideal.τ).loc Cert.Kernel2Ideal.main_arg11)
      ∧ m' ((c.tc : Thread Cert.Reference2Ideal.nD Cert.Reference2Ideal.τ).loc Cert.Reference2Ideal.main_arg12) = m ((c.tc : Thread Cert.Kernel2Ideal.nD Cert.Kernel2Ideal.τ).loc Cert.Kernel2Ideal.main_arg12)
      ∧ m' ((c.tc : Thread Cert.Reference2Ideal.nD Cert.Reference2Ideal.τ).loc Cert.Reference2Ideal.main_arg13) = m ((c.tc : Thread Cert.Kernel2Ideal.nD Cert.Kernel2Ideal.τ).loc Cert.Kernel2Ideal.main_arg13)
      ∧ m' ((c.tc : Thread Cert.Reference2Ideal.nD Cert.Reference2Ideal.τ).loc Cert.Reference2Ideal.main_arg14) = m ((c.tc : Thread Cert.Kernel2Ideal.nD Cert.Kernel2Ideal.τ).loc Cert.Kernel2Ideal.main_arg14)
      ∧ m' ((c.tc : Thread Cert.Reference2Ideal.nD Cert.Reference2Ideal.τ).loc Cert.Reference2Ideal.main_arg15) = m ((c.tc : Thread Cert.Kernel2Ideal.nD Cert.Kernel2Ideal.τ).loc Cert.Kernel2Ideal.main_arg15)
      ∧ m' ((c.tc : Thread Cert.Reference2Ideal.nD Cert.Reference2Ideal.τ).loc Cert.Reference2Ideal.main_arg16) = m ((c.tc : Thread Cert.Kernel2Ideal.nD Cert.Kernel2Ideal.τ).loc Cert.Kernel2Ideal.main_arg16)) →
    ∃ (v0 : (c : Dev Cert.Kernel2Ideal.nD) → Buf (Elt Ideal) ((c.tc : Thread Cert.Kernel2Ideal.nD Cert.Kernel2Ideal.τ).loc Cert.Kernel2Ideal.main_v15)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v15) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
          ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
          ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
          ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9)
          ∧ r.2.mem ((c.tc : Thread Cert.Kernel2Ideal.nD Cert.Kernel2Ideal.τ).loc Cert.Kernel2Ideal.main_arg10) = m ((c.tc : Thread Cert.Kernel2Ideal.nD Cert.Kernel2Ideal.τ).loc Cert.Kernel2Ideal.main_arg10)
          ∧ r.2.mem ((c.tc : Thread Cert.Kernel2Ideal.nD Cert.Kernel2Ideal.τ).loc Cert.Kernel2Ideal.main_arg11) = m ((c.tc : Thread Cert.Kernel2Ideal.nD Cert.Kernel2Ideal.τ).loc Cert.Kernel2Ideal.main_arg11)
          ∧ r.2.mem ((c.tc : Thread Cert.Kernel2Ideal.nD Cert.Kernel2Ideal.τ).loc Cert.Kernel2Ideal.main_arg12) = m ((c.tc : Thread Cert.Kernel2Ideal.nD Cert.Kernel2Ideal.τ).loc Cert.Kernel2Ideal.main_arg12)
          ∧ r.2.mem ((c.tc : Thread Cert.Kernel2Ideal.nD Cert.Kernel2Ideal.τ).loc Cert.Kernel2Ideal.main_arg13) = m ((c.tc : Thread Cert.Kernel2Ideal.nD Cert.Kernel2Ideal.τ).loc Cert.Kernel2Ideal.main_arg13)
          ∧ r.2.mem ((c.tc : Thread Cert.Kernel2Ideal.nD Cert.Kernel2Ideal.τ).loc Cert.Kernel2Ideal.main_arg14) = m ((c.tc : Thread Cert.Kernel2Ideal.nD Cert.Kernel2Ideal.τ).loc Cert.Kernel2Ideal.main_arg14)
          ∧ r.2.mem ((c.tc : Thread Cert.Kernel2Ideal.nD Cert.Kernel2Ideal.τ).loc Cert.Kernel2Ideal.main_arg15) = m ((c.tc : Thread Cert.Kernel2Ideal.nD Cert.Kernel2Ideal.τ).loc Cert.Kernel2Ideal.main_arg15)
          ∧ r.2.mem ((c.tc : Thread Cert.Kernel2Ideal.nD Cert.Kernel2Ideal.τ).loc Cert.Kernel2Ideal.main_arg16) = m ((c.tc : Thread Cert.Kernel2Ideal.nD Cert.Kernel2Ideal.τ).loc Cert.Kernel2Ideal.main_arg16))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v128) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6)
          ∧ r.2.mem ((c.tc : Thread Cert.Reference2Ideal.nD Cert.Reference2Ideal.τ).loc Cert.Reference2Ideal.main_arg7) = m' ((c.tc : Thread Cert.Reference2Ideal.nD Cert.Reference2Ideal.τ).loc Cert.Reference2Ideal.main_arg7)
          ∧ r.2.mem ((c.tc : Thread Cert.Reference2Ideal.nD Cert.Reference2Ideal.τ).loc Cert.Reference2Ideal.main_arg8) = m' ((c.tc : Thread Cert.Reference2Ideal.nD Cert.Reference2Ideal.τ).loc Cert.Reference2Ideal.main_arg8)
          ∧ r.2.mem ((c.tc : Thread Cert.Reference2Ideal.nD Cert.Reference2Ideal.τ).loc Cert.Reference2Ideal.main_arg9) = m' ((c.tc : Thread Cert.Reference2Ideal.nD Cert.Reference2Ideal.τ).loc Cert.Reference2Ideal.main_arg9)
          ∧ r.2.mem ((c.tc : Thread Cert.Reference2Ideal.nD Cert.Reference2Ideal.τ).loc Cert.Reference2Ideal.main_arg10) = m' ((c.tc : Thread Cert.Reference2Ideal.nD Cert.Reference2Ideal.τ).loc Cert.Reference2Ideal.main_arg10)
          ∧ r.2.mem ((c.tc : Thread Cert.Reference2Ideal.nD Cert.Reference2Ideal.τ).loc Cert.Reference2Ideal.main_arg11) = m' ((c.tc : Thread Cert.Reference2Ideal.nD Cert.Reference2Ideal.τ).loc Cert.Reference2Ideal.main_arg11)
          ∧ r.2.mem ((c.tc : Thread Cert.Reference2Ideal.nD Cert.Reference2Ideal.τ).loc Cert.Reference2Ideal.main_arg12) = m' ((c.tc : Thread Cert.Reference2Ideal.nD Cert.Reference2Ideal.τ).loc Cert.Reference2Ideal.main_arg12)
          ∧ r.2.mem ((c.tc : Thread Cert.Reference2Ideal.nD Cert.Reference2Ideal.τ).loc Cert.Reference2Ideal.main_arg13) = m' ((c.tc : Thread Cert.Reference2Ideal.nD Cert.Reference2Ideal.τ).loc Cert.Reference2Ideal.main_arg13)
          ∧ r.2.mem ((c.tc : Thread Cert.Reference2Ideal.nD Cert.Reference2Ideal.τ).loc Cert.Reference2Ideal.main_arg14) = m' ((c.tc : Thread Cert.Reference2Ideal.nD Cert.Reference2Ideal.τ).loc Cert.Reference2Ideal.main_arg14)
          ∧ r.2.mem ((c.tc : Thread Cert.Reference2Ideal.nD Cert.Reference2Ideal.τ).loc Cert.Reference2Ideal.main_arg15) = m' ((c.tc : Thread Cert.Reference2Ideal.nD Cert.Reference2Ideal.τ).loc Cert.Reference2Ideal.main_arg15)
          ∧ r.2.mem ((c.tc : Thread Cert.Reference2Ideal.nD Cert.Reference2Ideal.τ).loc Cert.Reference2Ideal.main_arg16) = m' ((c.tc : Thread Cert.Reference2Ideal.nD Cert.Reference2Ideal.τ).loc Cert.Reference2Ideal.main_arg16))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
-- ==== Pre_finite.lean ====
abbrev S4x4096x8x64 : Shape := ⟨4, ![4, 4096, 8, 64]⟩
abbrev S4x4096x2x64 : Shape := ⟨4, ![4, 4096, 2, 64]⟩
abbrev S4x256x2x64 : Shape := ⟨4, ![4, 256, 2, 64]⟩
abbrev S8 : Shape := ⟨1, ![8]⟩
abbrev S4x4096x6x64 : Shape := ⟨4, ![4, 4096, 6, 64]⟩
abbrev S4x3840x2x64 : Shape := ⟨4, ![4, 3840, 2, 64]⟩
abbrev S_ : Shape := ⟨0, ![]⟩
abbrev S1x1x8x1 : Shape := ⟨4, ![1, 1, 8, 1]⟩

class Facts : Prop where
  slices_S4x4096x8x64_S4x4096x6x64_0_0_2_0 : S4x4096x8x64.Slices ![0, 0, 2, 0] S4x4096x6x64
  concatenates_S4x4096x2x64_S4x4096x6x64_S4x4096x8x64_d2 : Shape.Concatenates [S4x4096x2x64, S4x4096x6x64] S4x4096x8x64 2
  slices_S4x4096x2x64_S4x3840x2x64_0_256_0_0 : S4x4096x2x64.Slices ![0, 256, 0, 0] S4x3840x2x64
  concatenates_S4x256x2x64_S4x3840x2x64_S4x4096x2x64_d1 : Shape.Concatenates [S4x256x2x64, S4x3840x2x64] S4x4096x2x64 1
  bcast_S_S4x4096x8x64 : S_.BroadcastsInDim S4x4096x8x64 (![] : Fin 0 → Fin S4x4096x8x64.rank)
  bcast_S_S8 : S_.BroadcastsInDim S8 (![] : Fin 0 → Fin S8.rank)
  bcast_S8_S1x1x8x1_2 : S8.BroadcastsInDim S1x1x8x1 (![2] : Fin 1 → Fin S1x1x8x1.rank)
  bcast_S1x1x8x1_S4x4096x8x64_0_1_2_3 : S1x1x8x1.BroadcastsInDim S4x4096x8x64 (![0, 1, 2, 3] : Fin 4 → Fin S4x4096x8x64.rank)

variable [Facts]

def fn_part1 {F : FTy → Type} [FloatOps F] (main_v16 : IVec S4x4096x8x64 1) (main_v19 : IVec S8 1) : IVec S4x4096x8x64 1 :=
  let main_v20 : IVec S1x1x8x1 1 := broadcastInDim S1x1x8x1 ![2] bcast_S8_S1x1x8x1_2 main_v19
  let main_v21 : IVec S4x4096x8x64 1 := broadcastInDim S4x4096x8x64 ![0, 1, 2, 3] bcast_S1x1x8x1_S4x4096x8x64_0_1_2_3 main_v20
  let main_v22 : IVec S4x4096x8x64 1 := andi main_v16 main_v21
  main_v22

def fn {F : FTy → Type} [FloatOps F] (main_arg0 : FVec F S4x4096x8x64 .f32) (main_arg1 : FVec F S4x4096x2x64 .f32) (main_arg2 : FVec F S4x4096x2x64 .f32) (main_arg3 : FVec F S4x256x2x64 .f32) (main_arg4 : FVec F S4x256x2x64 .f32) (main_arg5 : FVec F S8 .f32) : IVec S4x4096x8x64 1 :=
  let main_v0 : FVec F S4x4096x6x64 .f32 := (extractStridedSlice S4x4096x6x64 ![0, 0, 2, 0] · slices_S4x4096x8x64_S4x4096x6x64_0_0_2_0) main_arg0
  let main_v1 : FVec F S4x4096x8x64 .f32 := (fun a b => concatenate S4x4096x8x64 2 [⟨S4x4096x2x64, a⟩, ⟨S4x4096x6x64, b⟩] concatenates_S4x4096x2x64_S4x4096x6x64_S4x4096x8x64_d2) main_arg1 main_v0
  let main_v2 : FVec F S4x3840x2x64 .f32 := (extractStridedSlice S4x3840x2x64 ![0, 256, 0, 0] · slices_S4x4096x2x64_S4x3840x2x64_0_256_0_0) main_arg1
  let main_v3 : FVec F S4x4096x2x64 .f32 := (fun a b => concatenate S4x4096x2x64 1 [⟨S4x256x2x64, a⟩, ⟨S4x3840x2x64, b⟩] concatenates_S4x256x2x64_S4x3840x2x64_S4x4096x2x64_d1) main_arg3 main_v2
  let main_v4 : FVec F S4x4096x6x64 .f32 := (extractStridedSlice S4x4096x6x64 ![0, 0, 2, 0] · slices_S4x4096x8x64_S4x4096x6x64_0_0_2_0) main_arg0
  let main_v5 : FVec F S4x4096x8x64 .f32 := (fun a b => concatenate S4x4096x8x64 2 [⟨S4x4096x2x64, a⟩, ⟨S4x4096x6x64, b⟩] concatenates_S4x4096x2x64_S4x4096x6x64_S4x4096x8x64_d2) main_v3 main_v4
  let main_v6 : FVec F S4x4096x8x64 .f32 := Host.absf main_arg0
  let main_cst : FVec F S_ .f32 := constant S_ .f32 0x7F800000#32
  let main_v7 : FVec F S4x4096x8x64 .f32 := broadcastInDim S4x4096x8x64 ![] bcast_S_S4x4096x8x64 main_cst
  let main_v8 : IVec S4x4096x8x64 1 := cmpf .olt main_v6 main_v7
  let main_v9 : FVec F S4x4096x8x64 .f32 := Host.absf main_v1
  let main_cst_0 : FVec F S_ .f32 := constant S_ .f32 0x7F800000#32
  let main_v10 : FVec F S4x4096x8x64 .f32 := broadcastInDim S4x4096x8x64 ![] bcast_S_S4x4096x8x64 main_cst_0
  let main_v11 : IVec S4x4096x8x64 1 := cmpf .olt main_v9 main_v10
  let main_v12 : IVec S4x4096x8x64 1 := andi main_v8 main_v11
  let main_v13 : FVec F S4x4096x8x64 .f32 := Host.absf main_v5
  let main_cst_1 : FVec F S_ .f32 := constant S_ .f32 0x7F800000#32
  let main_v14 : FVec F S4x4096x8x64 .f32 := broadcastInDim S4x4096x8x64 ![] bcast_S_S4x4096x8x64 main_cst_1
  let main_v15 : IVec S4x4096x8x64 1 := cmpf .olt main_v13 main_v14
  let main_v16 : IVec S4x4096x8x64 1 := andi main_v12 main_v15
  let main_v17 : FVec F S8 .f32 := Host.absf main_arg5
  let main_cst_2 : FVec F S_ .f32 := constant S_ .f32 0x7F800000#32
  let main_v18 : FVec F S8 .f32 := broadcastInDim S8 ![] bcast_S_S8 main_cst_2
  let main_v19 : IVec S8 1 := cmpf .olt main_v17 main_v18
  fn_part1 (F := F) main_v16 main_v19
-- ==== Kernel.lean ====
abbrev S4x4096x8x64 : Shape := ⟨4, ![4, 4096, 8, 64]⟩
abbrev S4x4096x2x64 : Shape := ⟨4, ![4, 4096, 2, 64]⟩
abbrev S4x256x2x64 : Shape := ⟨4, ![4, 256, 2, 64]⟩
abbrev S8 : Shape := ⟨1, ![8]⟩
abbrev S_ : Shape := ⟨0, ![]⟩
abbrev S4x4096x8x2x64 : Shape := ⟨5, ![4, 4096, 8, 2, 64]⟩
abbrev S4x4096x8x1x64 : Shape := ⟨5, ![4, 4096, 8, 1, 64]⟩
abbrev S4x4096x1024 : Shape := ⟨3, ![4, 4096, 1024]⟩
abbrev S4x4096x2x1x64 : Shape := ⟨5, ![4, 4096, 2, 1, 64]⟩
abbrev S4x4096x2x2x64 : Shape := ⟨5, ![4, 4096, 2, 2, 64]⟩
abbrev S4x4096x256 : Shape := ⟨3, ![4, 4096, 256]⟩
abbrev S4x4096x2x2x2x64 : Shape := ⟨6, ![4, 4096, 2, 2, 2, 64]⟩
abbrev S4x4096x2x1x1x64 : Shape := ⟨6, ![4, 4096, 2, 1, 1, 64]⟩
abbrev S4x4096x512 : Shape := ⟨3, ![4, 4096, 512]⟩
abbrev S4x256x2x1x64 : Shape := ⟨5, ![4, 256, 2, 1, 64]⟩
abbrev S4x256x2x2x64 : Shape := ⟨5, ![4, 256, 2, 2, 64]⟩
abbrev S4x256x256 : Shape := ⟨3, ![4, 256, 256]⟩
abbrev S4x256x2x2x2x64 : Shape := ⟨6, ![4, 256, 2, 2, 2, 64]⟩
abbrev S4x256x2x1x1x64 : Shape := ⟨6, ![4, 256, 2, 1, 1, 64]⟩
abbrev S4x256x512 : Shape := ⟨3, ![4, 256, 512]⟩
abbrev S1x1024x1024 : Shape := ⟨3, ![1, 1024, 1024]⟩
abbrev S1x128x256 : Shape := ⟨3, ![1, 128, 256]⟩
abbrev S1x1024x256 : Shape := ⟨3, ![1, 1024, 256]⟩
abbrev S1x128x512 : Shape := ⟨3, ![1, 128, 512]⟩
abbrev S1x1024x512 : Shape := ⟨3, ![1, 1024, 512]⟩
abbrev S1x256x256 : Shape := ⟨3, ![1, 256, 256]⟩
abbrev S1x256x512 : Shape := ⟨3, ![1, 256, 512]⟩
abbrev S1280x256 : Shape := ⟨2, ![1280, 256]⟩
abbrev S1280x512 : Shape := ⟨2, ![1280, 512]⟩
abbrev S128x128 : Shape := ⟨2, ![128, 128]⟩
abbrev S128x256 : Shape := ⟨2, ![128, 256]⟩
abbrev S1024x256 : Shape := ⟨2, ![1024, 256]⟩
abbrev S128x512 : Shape := ⟨2, ![128, 512]⟩
abbrev S1024x512 : Shape := ⟨2, ![1024, 512]⟩
abbrev S128x384 : Shape := ⟨2, ![128, 384]⟩
abbrev S1x128x384 : Shape := ⟨3, ![1, 128, 384]⟩
abbrev S1x128x128 : Shape := ⟨3, ![1, 128, 128]⟩
abbrev S512x128 : Shape := ⟨2, ![512, 128]⟩
abbrev S1x256x128 : Shape := ⟨3, ![1, 256, 128]⟩
abbrev S256x128 : Shape := ⟨2, ![256, 128]⟩
abbrev S512x256 : Shape := ⟨2, ![512, 256]⟩
abbrev S384x128 : Shape := ⟨2, ![384, 128]⟩
abbrev S512x384 : Shape := ⟨2, ![512, 384]⟩
abbrev S4x128x384 : Shape := ⟨3, ![4, 128, 384]⟩
abbrev S512x640 : Shape := ⟨2, ![512, 640]⟩
abbrev S1 : Shape := ⟨1, ![1]⟩
abbrev S128x1 : Shape := ⟨2, ![128, 1]⟩
abbrev S512x1 : Shape := ⟨2, ![512, 1]⟩
abbrev S512 : Shape := ⟨1, ![512]⟩
abbrev S384x256 : Shape := ⟨2, ![384, 256]⟩
abbrev S256x256 : Shape := ⟨2, ![256, 256]⟩

abbrev nBuf : Space → Nat
  | .hbm => 76
  | .vmem => 22
  | .smem => 1
  | _ => 0

abbrev bufTy : (tb : Table) → Fin (tcTables nBuf tb) → BufTy
  | .hbm, ⟨0, _⟩ => ⟨S4x4096x8x64, .f32⟩
  | .hbm, ⟨1, _⟩ => ⟨S4x4096x2x64, .f32⟩
  | .hbm, ⟨2, _⟩ => ⟨S4x4096x2x64, .f32⟩
  | .hbm, ⟨3, _⟩ => ⟨S4x256x2x64, .f32⟩
  | .hbm, ⟨4, _⟩ => ⟨S4x256x2x64, .f32⟩
  | .hbm, ⟨5, _⟩ => ⟨S8, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S4x4096x8x64, .f32⟩
  | .hbm, ⟨11, _⟩ => ⟨S4x4096x8x64, .f32⟩
  | .hbm, ⟨12, _⟩ => ⟨S4x4096x8x2x64, .i32⟩
  | .hbm, ⟨13, _⟩ => ⟨S4x4096x8x2x64, .i32⟩
  | .hbm, ⟨14, _⟩ => ⟨S4x4096x8x1x64, .f32⟩
  | .hbm, ⟨15, _⟩ => ⟨S4x4096x8x2x64, .f32⟩
  | .hbm, ⟨16, _⟩ => ⟨S_, .i32⟩
  | .hbm, ⟨17, _⟩ => ⟨S_, .i32⟩
  | .hbm, ⟨18, _⟩ => ⟨S_, .i32⟩
  | .hbm, ⟨19, _⟩ => ⟨S_, .i1⟩
  | .hbm, ⟨20, _⟩ => ⟨S_, .i32⟩
  | .hbm, ⟨21, _⟩ => ⟨S_, .i32⟩
  | .hbm, ⟨22, _⟩ => ⟨S4x4096x8x2x64, .i32⟩
  | .hbm, ⟨23, _⟩ => ⟨S4x4096x8x2x64, .i32⟩
  | .hbm, ⟨24, _⟩ => ⟨S_, .i32⟩
  | .hbm, ⟨25, _⟩ => ⟨S4x4096x8x2x64, .i32⟩
  | .hbm, ⟨26, _⟩ => ⟨S4x4096x8x2x64, .i1⟩
  | .hbm, ⟨27, _⟩ => ⟨S_, .i32⟩
  | .hbm, ⟨28, _⟩ => ⟨S4x4096x8x2x64, .i32⟩
  | .hbm, ⟨29, _⟩ => ⟨S4x4096x8x2x64, .i1⟩
  | .hbm, ⟨30, _⟩ => ⟨S_, .i32⟩
  | .hbm, ⟨31, _⟩ => ⟨S_, .i1⟩
  | .hbm, ⟨32, _⟩ => ⟨S4x4096x8x2x64, .i1⟩
  | .hbm, ⟨33, _⟩ => ⟨S4x4096x8x2x64, .i1⟩
  | .hbm, ⟨34, _⟩ => ⟨S4x4096x8x2x64, .i1⟩
  | .hbm, ⟨35, _⟩ => ⟨S4x4096x8x2x64, .i32⟩
  | .hbm, ⟨36, _⟩ => ⟨S4x4096x8x2x64, .i32⟩
  | .hbm, ⟨37, _⟩ => ⟨S4x4096x8x2x64, .i32⟩
  | .hbm, ⟨38, _⟩ => ⟨S4x4096x8x2x64, .i1⟩
  | .hbm, ⟨39, _⟩ => ⟨S_, .f32⟩
  | .hbm, ⟨40, _⟩ => ⟨S_, .f32⟩
  | .hbm, ⟨41, _⟩ => ⟨S4x4096x8x2x64, .f32⟩
  | .hbm, ⟨42, _⟩ => ⟨S4x4096x8x2x64, .f32⟩
  | .hbm, ⟨43, _⟩ => ⟨S4x4096x8x2x64, .bf16⟩
  | .hbm, ⟨44, _⟩ => ⟨S4x4096x1024, .bf16⟩
  | .hbm, ⟨45, _⟩ => ⟨S4x4096x2x1x64, .f32⟩
  | .hbm, ⟨46, _⟩ => ⟨S4x4096x2x2x64, .f32⟩
  | .hbm, ⟨47, _⟩ => ⟨S4x4096x2x2x64, .bf16⟩
  | .hbm, ⟨48, _⟩ => ⟨S4x4096x256, .bf16⟩
  | .hbm, ⟨49, _⟩ => ⟨S4x4096x2x2x2x64, .i32⟩
  | .hbm, ⟨50, _⟩ => ⟨S4x4096x2x2x2x64, .i32⟩
  | .hbm, ⟨51, _⟩ => ⟨S4x4096x2x1x1x64, .f32⟩
  | .hbm, ⟨52, _⟩ => ⟨S4x4096x2x2x2x64, .f32⟩
  | .hbm, ⟨53, _⟩ => ⟨S4x4096x2x2x2x64, .i1⟩
  | .hbm, ⟨54, _⟩ => ⟨S_, .f32⟩
  | .hbm, ⟨55, _⟩ => ⟨S_, .f32⟩
  | .hbm, ⟨56, _⟩ => ⟨S4x4096x2x2x2x64, .f32⟩
  | .hbm, ⟨57, _⟩ => ⟨S4x4096x2x2x2x64, .f32⟩
  | .hbm, ⟨58, _⟩ => ⟨S4x4096x2x2x2x64, .bf16⟩
  | .hbm, ⟨59, _⟩ => ⟨S4x4096x512, .bf16⟩
  | .hbm, ⟨60, _⟩ => ⟨S4x256x2x1x64, .f32⟩
  | .hbm, ⟨61, _⟩ => ⟨S4x256x2x2x64, .f32⟩
  | .hbm, ⟨62, _⟩ => ⟨S4x256x2x2x64, .bf16⟩
  | .hbm, ⟨63, _⟩ => ⟨S4x256x256, .bf16⟩
  | .hbm, ⟨64, _⟩ => ⟨S4x256x2x2x2x64, .i32⟩
  | .hbm, ⟨65, _⟩ => ⟨S4x256x2x2x2x64, .i32⟩
  | .hbm, ⟨66, _⟩ => ⟨S4x256x2x1x1x64, .f32⟩
  | .hbm, ⟨67, _⟩ => ⟨S4x256x2x2x2x64, .f32⟩
  | .hbm, ⟨68, _⟩ => ⟨S4x256x2x2x2x64, .i1⟩
  | .hbm, ⟨69, _⟩ => ⟨S_, .f32⟩
  | .hbm, ⟨70, _⟩ => ⟨S_, .f32⟩
  | .hbm, ⟨71, _⟩ => ⟨S4x256x2x2x2x64, .f32⟩
  | .hbm, ⟨72, _⟩ => ⟨S4x256x2x2x2x64, .f32⟩
  | .hbm, ⟨73, _⟩ => ⟨S4x256x2x2x2x64, .bf16⟩
  | .hbm, ⟨74, _⟩ => ⟨S4x256x512, .bf16⟩
  | .hbm, ⟨75, _⟩ => ⟨S4x4096x512, .f32⟩
  | .local _ .vmem, ⟨0, _⟩ => ⟨S1x1024x1024, .bf16⟩
  | .local _ .vmem, ⟨1, _⟩ => ⟨S1x1024x1024, .bf16⟩
  | .local _ .vmem, ⟨2, _⟩ => ⟨S1x128x256, .bf16⟩
  | .local _ .vmem, ⟨3, _⟩ => ⟨S1x128x256, .bf16⟩
  | .local _ .vmem, ⟨4, _⟩ => ⟨S1x1024x256, .bf16⟩
  | .local _ .vmem, ⟨5, _⟩ => ⟨S1x1024x256, .bf16⟩
  | .local _ .vmem, ⟨6, _⟩ => ⟨S1x128x256, .bf16⟩
  | .local _ .vmem, ⟨7, _⟩ => ⟨S1x128x256, .bf16⟩
  | .local _ .vmem, ⟨8, _⟩ => ⟨S1x128x512, .bf16⟩
  | .local _ .vmem, ⟨9, _⟩ => ⟨S1x128x512, .bf16⟩
  | .local _ .vmem, ⟨10, _⟩ => ⟨S1x1024x512, .bf16⟩
  | .local _ .vmem, ⟨11, _⟩ => ⟨S1x1024x512, .bf16⟩
  | .local _ .vmem, ⟨12, _⟩ => ⟨S1x128x512, .bf16⟩
  | .local _ .vmem, ⟨13, _⟩ => ⟨S1x128x512, .bf16⟩
  | .local _ .vmem, ⟨14, _⟩ => ⟨S1x256x256, .bf16⟩
  | .local _ .vmem, ⟨15, _⟩ => ⟨S1x256x256, .bf16⟩
  | .local _ .vmem, ⟨16, _⟩ => ⟨S1x256x512, .bf16⟩
  | .local _ .vmem, ⟨17, _⟩ => ⟨S1x256x512, .bf16⟩
  | .local _ .vmem, ⟨18, _⟩ => ⟨S1x1024x512, .f32⟩
  | .local _ .vmem, ⟨19, _⟩ => ⟨S1x1024x512, .f32⟩
  | .local _ .vmem, ⟨20, _⟩ => ⟨S1280x256, .bf16⟩
  | .local _ .vmem, ⟨21, _⟩ => ⟨S1280x512, .bf16⟩
  | .local _ .smem, ⟨0, _⟩ => ⟨S8, .f32⟩
  | _, _ => ⟨S4x4096x8x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .smem, ⟨0, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_cst_0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_c : Ref sig .tc := ⟨.hbm, 16, rfl⟩
abbrev main_call0_v0 : Ref sig .tc := ⟨.hbm, 17, rfl⟩
abbrev main_call0_c : Ref sig .tc := ⟨.hbm, 18, rfl⟩
abbrev main_call0_v1 : Ref sig .tc := ⟨.hbm, 19, rfl⟩
abbrev main_call0_c_0 : Ref sig .tc := ⟨.hbm, 20, rfl⟩
abbrev main_call0_v2 : Ref sig .tc := ⟨.hbm, 21, rfl⟩
abbrev main_call0_v3 : Ref sig .tc := ⟨.hbm, 22, rfl⟩
abbrev main_call0_v4 : Ref sig .tc := ⟨.hbm, 23, rfl⟩
abbrev main_call0_c_1 : Ref sig .tc := ⟨.hbm, 24, rfl⟩
abbrev main_call0_v5 : Ref sig .tc := ⟨.hbm, 25, rfl⟩
abbrev main_call0_v6 : Ref sig .tc := ⟨.hbm, 26, rfl⟩
abbrev main_call0_c_2 : Ref sig .tc := ⟨.hbm, 27, rfl⟩
abbrev main_call0_v7 : Ref sig .tc := ⟨.hbm, 28, rfl⟩
abbrev main_call0_v8 : Ref sig .tc := ⟨.hbm, 29, rfl⟩
abbrev main_call0_c_3 : Ref sig .tc := ⟨.hbm, 30, rfl⟩
abbrev main_call0_v9 : Ref sig .tc := ⟨.hbm, 31, rfl⟩
abbrev main_call0_v10 : Ref sig .tc := ⟨.hbm, 32, rfl⟩
abbrev main_call0_v11 : Ref sig .tc := ⟨.hbm, 33, rfl⟩
abbrev main_call0_v12 : Ref sig .tc := ⟨.hbm, 34, rfl⟩
abbrev main_call0_v13 : Ref sig .tc := ⟨.hbm, 35, rfl⟩
abbrev main_call0_v14 : Ref sig .tc := ⟨.hbm, 36, rfl⟩
abbrev main_v8 : Ref sig .tc := ⟨.hbm, 37, rfl⟩
abbrev main_v9 : Ref sig .tc := ⟨.hbm, 38, rfl⟩
abbrev main_cst_1 : Ref sig .tc := ⟨.hbm, 39, rfl⟩
abbrev main_call1_v0 : Ref sig .tc := ⟨.hbm, 40, rfl⟩
abbrev main_call1_v1 : Ref sig .tc := ⟨.hbm, 41, rfl⟩
abbrev main_v10 : Ref sig .tc := ⟨.hbm, 42, rfl⟩
abbrev main_v11 : Ref sig .tc := ⟨.hbm, 43, rfl⟩
abbrev main_v12 : Ref sig .tc := ⟨.hbm, 44, rfl⟩
abbrev main_v13 : Ref sig .tc := ⟨.hbm, 45, rfl⟩
abbrev main_v14 : Ref sig .tc := ⟨.hbm, 46, rfl⟩
abbrev main_v15 : Ref sig .tc := ⟨.hbm, 47, rfl⟩
abbrev main_v16 : Ref sig .tc := ⟨.hbm, 48, rfl⟩
abbrev main_v17 : Ref sig .tc := ⟨.hbm, 49, rfl⟩
abbrev main_v18 : Ref sig .tc := ⟨.hbm, 50, rfl⟩
abbrev main_v19 : Ref sig .tc := ⟨.hbm, 51, rfl⟩
abbrev main_v20 : Ref sig .tc := ⟨.hbm, 52, rfl⟩
abbrev main_v21 : Ref sig .tc := ⟨.hbm, 53, rfl⟩
abbrev main_cst_2 : Ref sig .tc := ⟨.hbm, 54, rfl⟩
abbrev main_call2_v0 : Ref sig .tc := ⟨.hbm, 55, rfl⟩
abbrev main_call2_v1 : Ref sig .tc := ⟨.hbm, 56, rfl⟩
abbrev main_v22 : Ref sig .tc := ⟨.hbm, 57, rfl⟩
abbrev main_v23 : Ref sig .tc := ⟨.hbm, 58, rfl⟩
abbrev main_v24 : Ref sig .tc := ⟨.hbm, 59, rfl⟩
abbrev main_v25 : Ref sig .tc := ⟨.hbm, 60, rfl⟩
abbrev main_v26 : Ref sig .tc := ⟨.hbm, 61, rfl⟩
abbrev main_v27 : Ref sig .tc := ⟨.hbm, 62, rfl⟩
abbrev main_v28 : Ref sig .tc := ⟨.hbm, 63, rfl⟩
abbrev main_v29 : Ref sig .tc := ⟨.hbm, 64, rfl⟩
abbrev main_v30 : Ref sig .tc := ⟨.hbm, 65, rfl⟩
abbrev main_v31 : Ref sig .tc := ⟨.hbm, 66, rfl⟩
abbrev main_v32 : Ref sig .tc := ⟨.hbm, 67, rfl⟩
abbrev main_v33 : Ref sig .tc := ⟨.hbm, 68, rfl⟩
abbrev main_cst_3 : Ref sig .tc := ⟨.hbm, 69, rfl⟩
abbrev main_call3_v0 : Ref sig .tc := ⟨.hbm, 70, rfl⟩
abbrev main_call3_v1 : Ref sig .tc := ⟨.hbm, 71, rfl⟩
abbrev main_v34 : Ref sig .tc := ⟨.hbm, 72, rfl⟩
abbrev main_v35 : Ref sig .tc := ⟨.hbm, 73, rfl⟩
abbrev main_v36 : Ref sig .tc := ⟨.hbm, 74, rfl⟩
abbrev main_v37 : Ref sig .tc := ⟨.hbm, 75, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_scratch0 : Ref sig .tc := ⟨.vmem, 20, rfl⟩
abbrev cc0_scratch1 : Ref sig .tc := ⟨.vmem, 21, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18
abbrev cc0_sem10_0 : DmaSem sig := 19
abbrev cc0_sem10_1 : DmaSem sig := 20

abbrev nD : Nat := 1
abbrev τ : Topo := Topo.v7x

variable {F : FTy → Type} [FloatOps F]

abbrev grid0 : Pipeline.Grid := ⟨2, ![4, 4], ![false, false]⟩

def cc0_transform_0 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.muli arg1 c8_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![arg0.toNat, v2.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c8_i32 : BitVec 32 := 8#32
  let v1 : BitVec 32 := Scalar.muli v0 c8_i32
  let c31_i32 : BitVec 32 := 31#32
  let v2 : BitVec 32 := Scalar.minsi v1 c31_i32
  let c0_i32 : BitVec 32 := 0#32
  let c0_i32_0 : BitVec 32 := 0#32
  ![arg0.toNat, v2.toNat, c0_i32.toNat]

def cc0_transform_5 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.muli arg1 c8_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![arg0.toNat, v2.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c8_i32 : BitVec 32 := 8#32
  let v1 : BitVec 32 := Scalar.muli v0 c8_i32
  let c31_i32 : BitVec 32 := 31#32
  let v2 : BitVec 32 := Scalar.minsi v1 c31_i32
  let c0_i32 : BitVec 32 := 0#32
  let c0_i32_0 : BitVec 32 := 0#32
  ![arg0.toNat, v2.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 1 → Memref sig .tc .smem S8 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1x1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x128x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1024x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x128x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x128x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x1024x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x128x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x256x256 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 2 → Memref sig .tc .vmem S1x256x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]

abbrev stage0_10 : Fin 2 → Memref sig .tc .vmem S1x1024x512 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]
-- ==== KernelIdeal.lean ====
variable {F : FTy → Type} [FloatOps F] [Named F]
def κ : String → Option EReal := fun
  | "log2e" => some (((Real.log 2)⁻¹ : ℝ) : EReal)
  | "mask" => some ⊥
  | _ => none
-- ==== ReferenceIdeal.lean ====
abbrev S4x4096x8x64 : Shape := ⟨4, ![4, 4096, 8, 64]⟩
abbrev S4x4096x2x64 : Shape := ⟨4, ![4, 4096, 2, 64]⟩
abbrev S4x256x2x64 : Shape := ⟨4, ![4, 256, 2, 64]⟩
abbrev S8 : Shape := ⟨1, ![8]⟩
abbrev S4x32x128x2x4x64 : Shape := ⟨6, ![4, 32, 128, 2, 4, 64]⟩
abbrev S_ : Shape := ⟨0, ![]⟩
abbrev S4x4352x2x64 : Shape := ⟨4, ![4, 4352, 2, 64]⟩
abbrev S4x34x128x2x64 : Shape := ⟨5, ![4, 34, 128, 2, 64]⟩
abbrev S4x32x128x2x64 : Shape := ⟨5, ![4, 32, 128, 2, 64]⟩
abbrev S4x32x384x2x64 : Shape := ⟨5, ![4, 32, 384, 2, 64]⟩
abbrev S4x32x2x384x128x4 : Shape := ⟨6, ![4, 32, 2, 384, 128, 4]⟩
abbrev S4x32x2x4x128x384 : Shape := ⟨6, ![4, 32, 2, 4, 128, 384]⟩
abbrev S32 : Shape := ⟨1, ![32]⟩
abbrev S32x1 : Shape := ⟨2, ![32, 1]⟩
abbrev S128 : Shape := ⟨1, ![128]⟩
abbrev S1x128 : Shape := ⟨2, ![1, 128]⟩
abbrev S32x128 : Shape := ⟨2, ![32, 128]⟩
abbrev S384 : Shape := ⟨1, ![384]⟩
abbrev S1x384 : Shape := ⟨2, ![1, 384]⟩
abbrev S32x384 : Shape := ⟨2, ![32, 384]⟩
abbrev S32x128x1 : Shape := ⟨3, ![32, 128, 1]⟩
abbrev S32x1x384 : Shape := ⟨3, ![32, 1, 384]⟩
abbrev S32x128x384 : Shape := ⟨3, ![32, 128, 384]⟩
abbrev S1x32x1x1x128x384 : Shape := ⟨6, ![1, 32, 1, 1, 128, 384]⟩
abbrev S4x2x256x32x128x4 : Shape := ⟨6, ![4, 2, 256, 32, 128, 4]⟩
abbrev S4x32x2x4x128x256 : Shape := ⟨6, ![4, 32, 2, 4, 128, 256]⟩
abbrev S2x4 : Shape := ⟨2, ![2, 4]⟩
abbrev S2x4x1x1 : Shape := ⟨4, ![2, 4, 1, 1]⟩
abbrev S4x32x2x4x128x1 : Shape := ⟨6, ![4, 32, 2, 4, 128, 1]⟩
abbrev S4x32x2x4x128x641 : Shape := ⟨6, ![4, 32, 2, 4, 128, 641]⟩
abbrev S4x32x2x4x128 : Shape := ⟨5, ![4, 32, 2, 4, 128]⟩
abbrev S4x32x2x64x4x128 : Shape := ⟨6, ![4, 32, 2, 64, 4, 128]⟩
abbrev S4x2x64x32x4x128 : Shape := ⟨6, ![4, 2, 64, 32, 4, 128]⟩
abbrev S4x4096x512 : Shape := ⟨3, ![4, 4096, 512]⟩

abbrev nBuf : Space → Nat
  | .hbm => 104
  | .vmem => 0
  | .smem => 0
  | _ => 0

abbrev bufTy : (tb : Table) → Fin (tcTables nBuf tb) → BufTy
  | .hbm, ⟨0, _⟩ => ⟨S4x4096x8x64, .f32⟩
  | .hbm, ⟨1, _⟩ => ⟨S4x4096x2x64, .f32⟩
  | .hbm, ⟨2, _⟩ => ⟨S4x4096x2x64, .f32⟩
  | .hbm, ⟨3, _⟩ => ⟨S4x256x2x64, .f32⟩
  | .hbm, ⟨4, _⟩ => ⟨S4x256x2x64, .f32⟩
  | .hbm, ⟨5, _⟩ => ⟨S8, .f32⟩
  | .hbm, ⟨6, _⟩ => ⟨S4x32x128x2x4x64, .f32⟩
  | .hbm, ⟨7, _⟩ => ⟨S_, .i32⟩
  | .hbm, ⟨8, _⟩ => ⟨S_, .f32⟩
  | .hbm, ⟨9, _⟩ => ⟨S4x4352x2x64, .f32⟩
  | .hbm, ⟨10, _⟩ => ⟨S4x34x128x2x64, .f32⟩
  | .hbm, ⟨11, _⟩ => ⟨S_, .i32⟩
  | .hbm, ⟨12, _⟩ => ⟨S_, .f32⟩
  | .hbm, ⟨13, _⟩ => ⟨S4x4352x2x64, .f32⟩
  | .hbm, ⟨14, _⟩ => ⟨S4x34x128x2x64, .f32⟩
  | .hbm, ⟨15, _⟩ => ⟨S4x32x128x2x64, .f32⟩
  | .hbm, ⟨16, _⟩ => ⟨S4x32x128x2x64, .f32⟩
  | .hbm, ⟨17, _⟩ => ⟨S4x32x128x2x64, .f32⟩
  | .hbm, ⟨18, _⟩ => ⟨S4x32x384x2x64, .f32⟩
  | .hbm, ⟨19, _⟩ => ⟨S4x32x128x2x64, .f32⟩
  | .hbm, ⟨20, _⟩ => ⟨S4x32x128x2x64, .f32⟩
  | .hbm, ⟨21, _⟩ => ⟨S4x32x128x2x64, .f32⟩
  | .hbm, ⟨22, _⟩ => ⟨S4x32x384x2x64, .f32⟩
  | .hbm, ⟨23, _⟩ => ⟨S4x32x2x384x128x4, .f32⟩
  | .hbm, ⟨24, _⟩ => ⟨S4x32x2x4x128x384, .f32⟩
  | .hbm, ⟨25, _⟩ => ⟨S_, .f32⟩
  | .hbm, ⟨26, _⟩ => ⟨S4x32x2x4x128x384, .f32⟩
  | .hbm, ⟨27, _⟩ => ⟨S4x32x2x4x128x384, .f32⟩
  | .hbm, ⟨28, _⟩ => ⟨S32, .i32⟩
  | .hbm, ⟨29, _⟩ => ⟨S32x1, .i32⟩
  | .hbm, ⟨30, _⟩ => ⟨S_, .i32⟩
  | .hbm, ⟨31, _⟩ => ⟨S32x1, .i32⟩
  | .hbm, ⟨32, _⟩ => ⟨S32x1, .i32⟩
  | .hbm, ⟨33, _⟩ => ⟨S128, .i32⟩
  | .hbm, ⟨34, _⟩ => ⟨S1x128, .i32⟩
  | .hbm, ⟨35, _⟩ => ⟨S32x128, .i32⟩
  | .hbm, ⟨36, _⟩ => ⟨S32x128, .i32⟩
  | .hbm, ⟨37, _⟩ => ⟨S32x128, .i32⟩
  | .hbm, ⟨38, _⟩ => ⟨S_, .i32⟩
  | .hbm, ⟨39, _⟩ => ⟨S32x1, .i32⟩
  | .hbm, ⟨40, _⟩ => ⟨S32x1, .i32⟩
  | .hbm, ⟨41, _⟩ => ⟨S384, .i32⟩
  | .hbm, ⟨42, _⟩ => ⟨S1x384, .i32⟩
  | .hbm, ⟨43, _⟩ => ⟨S32x384, .i32⟩
  | .hbm, ⟨44, _⟩ => ⟨S32x384, .i32⟩
  | .hbm, ⟨45, _⟩ => ⟨S32x384, .i32⟩
  | .hbm, ⟨46, _⟩ => ⟨S32x128x1, .i32⟩
  | .hbm, ⟨47, _⟩ => ⟨S32x1x384, .i32⟩
  | .hbm, ⟨48, _⟩ => ⟨S32x128x384, .i32⟩
  | .hbm, ⟨49, _⟩ => ⟨S32x128x384, .i32⟩
  | .hbm, ⟨50, _⟩ => ⟨S32x128x384, .i32⟩
  | .hbm, ⟨51, _⟩ => ⟨S32x128x384, .i32⟩
  | .hbm, ⟨52, _⟩ => ⟨S_, .i32⟩
  | .hbm, ⟨53, _⟩ => ⟨S32x128x384, .i32⟩
  | .hbm, ⟨54, _⟩ => ⟨S32x128x384, .i1⟩
  | .hbm, ⟨55, _⟩ => ⟨S32x1x384, .i32⟩
  | .hbm, ⟨56, _⟩ => ⟨S_, .i32⟩
  | .hbm, ⟨57, _⟩ => ⟨S32x1x384, .i32⟩
  | .hbm, ⟨58, _⟩ => ⟨S32x1x384, .i1⟩
  | .hbm, ⟨59, _⟩ => ⟨S32x128x384, .i1⟩
  | .hbm, ⟨60, _⟩ => ⟨S32x128x384, .i1⟩
  | .hbm, ⟨61, _⟩ => ⟨S32x1x384, .i32⟩
  | .hbm, ⟨62, _⟩ => ⟨S_, .i32⟩
  | .hbm, ⟨63, _⟩ => ⟨S32x1x384, .i32⟩
  | .hbm, ⟨64, _⟩ => ⟨S32x1x384, .i1⟩
  | .hbm, ⟨65, _⟩ => ⟨S32x128x384, .i1⟩
  | .hbm, ⟨66, _⟩ => ⟨S32x128x384, .i1⟩
  | .hbm, ⟨67, _⟩ => ⟨S1x32x1x1x128x384, .i1⟩
  | .hbm, ⟨68, _⟩ => ⟨S_, .f32⟩
  | .hbm, ⟨69, _⟩ => ⟨S_, .f32⟩
  | .hbm, ⟨70, _⟩ => ⟨S4x32x2x4x128x384, .i1⟩
  | .hbm, ⟨71, _⟩ => ⟨S4x32x2x4x128x384, .f32⟩
  | .hbm, ⟨72, _⟩ => ⟨S4x32x2x4x128x384, .f32⟩
  | .hbm, ⟨73, _⟩ => ⟨S4x2x256x32x128x4, .f32⟩
  | .hbm, ⟨74, _⟩ => ⟨S4x32x2x4x128x256, .f32⟩
  | .hbm, ⟨75, _⟩ => ⟨S_, .f32⟩
  | .hbm, ⟨76, _⟩ => ⟨S4x32x2x4x128x256, .f32⟩
  | .hbm, ⟨77, _⟩ => ⟨S4x32x2x4x128x256, .f32⟩
  | .hbm, ⟨78, _⟩ => ⟨S2x4, .f32⟩
  | .hbm, ⟨79, _⟩ => ⟨S2x4x1x1, .f32⟩
  | .hbm, ⟨80, _⟩ => ⟨S4x32x2x4x128x1, .f32⟩
  | .hbm, ⟨81, _⟩ => ⟨S4x32x2x4x128x641, .f32⟩
  | .hbm, ⟨82, _⟩ => ⟨S_, .f32⟩
  | .hbm, ⟨83, _⟩ => ⟨S4x32x2x4x128, .f32⟩
  | .hbm, ⟨84, _⟩ => ⟨S_, .f32⟩
  | .hbm, ⟨85, _⟩ => ⟨S4x32x2x4x128, .f32⟩
  | .hbm, ⟨86, _⟩ => ⟨S4x32x2x4x128, .f32⟩
  | .hbm, ⟨87, _⟩ => ⟨S4x32x2x4x128x1, .f32⟩
  | .hbm, ⟨88, _⟩ => ⟨S4x32x2x4x128x641, .f32⟩
  | .hbm, ⟨89, _⟩ => ⟨S4x32x2x4x128x641, .f32⟩
  | .hbm, ⟨90, _⟩ => ⟨S4x32x2x4x128x641, .f32⟩
  | .hbm, ⟨91, _⟩ => ⟨S_, .f32⟩
  | .hbm, ⟨92, _⟩ => ⟨S4x32x2x4x128, .f32⟩
  | .hbm, ⟨93, _⟩ => ⟨S4x32x2x4x128x1, .f32⟩
  | .hbm, ⟨94, _⟩ => ⟨S4x32x2x4x128x641, .f32⟩
  | .hbm, ⟨95, _⟩ => ⟨S4x32x2x4x128x641, .f32⟩
  | .hbm, ⟨96, _⟩ => ⟨S4x32x2x4x128x384, .f32⟩
  | .hbm, ⟨97, _⟩ => ⟨S4x32x2x64x4x128, .f32⟩
  | .hbm, ⟨98, _⟩ => ⟨S4x32x128x2x4x64, .f32⟩
  | .hbm, ⟨99, _⟩ => ⟨S4x32x2x4x128x256, .f32⟩
  | .hbm, ⟨100, _⟩ => ⟨S4x2x64x32x4x128, .f32⟩
  | .hbm, ⟨101, _⟩ => ⟨S4x32x128x2x4x64, .f32⟩
  | .hbm, ⟨102, _⟩ => ⟨S4x32x128x2x4x64, .f32⟩
  | .hbm, ⟨103, _⟩ => ⟨S4x4096x512, .f32⟩
  | _, _ => ⟨S4x4096x8x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_c : Ref sig .tc := ⟨.hbm, 7, rfl⟩
abbrev main_call0_v0 : Ref sig .tc := ⟨.hbm, 8, rfl⟩
abbrev main_v1 : Ref sig .tc := ⟨.hbm, 9, rfl⟩
abbrev main_v2 : Ref sig .tc := ⟨.hbm, 10, rfl⟩
abbrev main_c_0 : Ref sig .tc := ⟨.hbm, 11, rfl⟩
abbrev main_call1_v0 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_cst : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_c_1 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_c_2 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_c_3 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_c_4 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_c_5 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_cst_6 : Ref sig .tc := ⟨.hbm, 68, rfl⟩
abbrev main_call2_v0 : Ref sig .tc := ⟨.hbm, 69, rfl⟩
abbrev main_call2_v1 : Ref sig .tc := ⟨.hbm, 70, rfl⟩
abbrev main_call2_v2 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_cst_7 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_cst_8 : Ref sig .tc := ⟨.hbm, 82, rfl⟩
abbrev main_v61 : Ref sig .tc := ⟨.hbm, 83, rfl⟩
abbrev main_cst_9 : Ref sig .tc := ⟨.hbm, 84, rfl⟩
abbrev main_v62 : Ref sig .tc := ⟨.hbm, 85, rfl⟩
abbrev main_v63 : Ref sig .tc := ⟨.hbm, 86, rfl⟩
abbrev main_v64 : Ref sig .tc := ⟨.hbm, 87, rfl⟩
abbrev main_v65 : Ref sig .tc := ⟨.hbm, 88, rfl⟩
abbrev main_v66 : Ref sig .tc := ⟨.hbm, 89, rfl⟩
abbrev main_v67 : Ref sig .tc := ⟨.hbm, 90, rfl⟩
abbrev main_cst_10 : Ref sig .tc := ⟨.hbm, 91, rfl⟩
abbrev main_v68 : Ref sig .tc := ⟨.hbm, 92, rfl⟩
abbrev main_v69 : Ref sig .tc := ⟨.hbm, 93, rfl⟩
abbrev main_v70 : Ref sig .tc := ⟨.hbm, 94, rfl⟩
abbrev main_v71 : Ref sig .tc := ⟨.hbm, 95, rfl⟩
abbrev main_v72 : Ref sig .tc := ⟨.hbm, 96, rfl⟩
abbrev main_v73 : Ref sig .tc := ⟨.hbm, 97, rfl⟩
abbrev main_v74 : Ref sig .tc := ⟨.hbm, 98, rfl⟩
abbrev main_v75 : Ref sig .tc := ⟨.hbm, 99, rfl⟩
abbrev main_v76 : Ref sig .tc := ⟨.hbm, 100, rfl⟩
abbrev main_v77 : Ref sig .tc := ⟨.hbm, 101, rfl⟩
abbrev main_v78 : Ref sig .tc := ⟨.hbm, 102, rfl⟩
abbrev main_v79 : Ref sig .tc := ⟨.hbm, 103, rfl⟩

abbrev nD : Nat := 1
abbrev τ : Topo := Topo.v7x

variable {F : FTy → Type} [FloatOps F]
-- ==== Kernel2.lean ====
abbrev S4x4096x1024 : Shape := ⟨3, ![4, 4096, 1024]⟩
abbrev S4x1x3072 : Shape := ⟨3, ![4, 1, 3072]⟩
abbrev S1024 : Shape := ⟨1, ![1024]⟩
abbrev S4x4096x512 : Shape := ⟨3, ![4, 4096, 512]⟩
abbrev S4x4096x256 : Shape := ⟨3, ![4, 4096, 256]⟩
abbrev S3x256 : Shape := ⟨2, ![3, 256]⟩
abbrev S256 : Shape := ⟨1, ![256]⟩
abbrev S4x1024x7936 : Shape := ⟨3, ![4, 1024, 7936]⟩
abbrev S4x512x1024 : Shape := ⟨3, ![4, 512, 1024]⟩
abbrev S4x256x1024 : Shape := ⟨3, ![4, 256, 1024]⟩
abbrev S4x1024x1024 : Shape := ⟨3, ![4, 1024, 1024]⟩
abbrev S16384x1024 : Shape := ⟨2, ![16384, 1024]⟩
abbrev S1x1024 : Shape := ⟨2, ![1, 1024]⟩
abbrev S16384x512 : Shape := ⟨2, ![16384, 512]⟩
abbrev S16384x256 : Shape := ⟨2, ![16384, 256]⟩
abbrev S1x256 : Shape := ⟨2, ![1, 256]⟩
abbrev S1024x1024 : Shape := ⟨2, ![1024, 1024]⟩
abbrev S1x1x3072 : Shape := ⟨3, ![1, 1, 3072]⟩
abbrev S1024x512 : Shape := ⟨2, ![1024, 512]⟩
abbrev S1024x256 : Shape := ⟨2, ![1024, 256]⟩
abbrev S8x256 : Shape := ⟨2, ![8, 256]⟩
abbrev S1x1024x512 : Shape := ⟨3, ![1, 1024, 512]⟩
abbrev S1x1024x256 : Shape := ⟨3, ![1, 1024, 256]⟩
abbrev S1x1024x4352 : Shape := ⟨3, ![1, 1024, 4352]⟩
abbrev S1x512x1024 : Shape := ⟨3, ![1, 512, 1024]⟩
abbrev S1x256x1024 : Shape := ⟨3, ![1, 256, 1024]⟩
abbrev S1x1024x1024 : Shape := ⟨3, ![1, 1024, 1024]⟩
abbrev S1x3072 : Shape := ⟨2, ![1, 3072]⟩
abbrev S1024x1 : Shape := ⟨2, ![1024, 1]⟩
abbrev S1x512x256 : Shape := ⟨3, ![1, 512, 256]⟩
abbrev S512x256 : Shape := ⟨2, ![512, 256]⟩
abbrev S1x256x256 : Shape := ⟨3, ![1, 256, 256]⟩
abbrev S256x256 : Shape := ⟨2, ![256, 256]⟩
abbrev S256x1024 : Shape := ⟨2, ![256, 1024]⟩

abbrev nBuf : Space → Nat
  | .hbm => 33
  | .vmem => 33
  | .smem => 0
  | _ => 0

abbrev bufTy : (tb : Table) → Fin (tcTables nBuf tb) → BufTy
  | .hbm, ⟨0, _⟩ => ⟨S4x4096x1024, .f32⟩
  | .hbm, ⟨1, _⟩ => ⟨S4x1x3072, .f32⟩
  | .hbm, ⟨2, _⟩ => ⟨S1024, .f32⟩
  | .hbm, ⟨3, _⟩ => ⟨S1024, .f32⟩
  | .hbm, ⟨4, _⟩ => ⟨S4x4096x512, .f32⟩
  | .hbm, ⟨5, _⟩ => ⟨S4x4096x256, .f32⟩
  | .hbm, ⟨6, _⟩ => ⟨S4x4096x256, .f32⟩
  | .hbm, ⟨7, _⟩ => ⟨S4x4096x256, .f32⟩
  | .hbm, ⟨8, _⟩ => ⟨S4x4096x256, .f32⟩
  | .hbm, ⟨9, _⟩ => ⟨S3x256, .f32⟩
  | .hbm, ⟨10, _⟩ => ⟨S256, .f32⟩
  | .hbm, ⟨11, _⟩ => ⟨S4x1024x7936, .f32⟩
  | .hbm, ⟨12, _⟩ => ⟨S4x512x1024, .f32⟩
  | .hbm, ⟨13, _⟩ => ⟨S4x256x1024, .f32⟩
  | .hbm, ⟨14, _⟩ => ⟨S4x256x1024, .f32⟩
  | .hbm, ⟨15, _⟩ => ⟨S4x256x1024, .f32⟩
  | .hbm, ⟨16, _⟩ => ⟨S4x1024x1024, .f32⟩
  | .hbm, ⟨17, _⟩ => ⟨S4x1024x7936, .bf16⟩
  | .hbm, ⟨18, _⟩ => ⟨S4x512x1024, .bf16⟩
  | .hbm, ⟨19, _⟩ => ⟨S4x256x1024, .bf16⟩
  | .hbm, ⟨20, _⟩ => ⟨S4x256x1024, .bf16⟩
  | .hbm, ⟨21, _⟩ => ⟨S4x256x1024, .bf16⟩
  | .hbm, ⟨22, _⟩ => ⟨S4x1024x1024, .bf16⟩
  | .hbm, ⟨23, _⟩ => ⟨S16384x1024, .f32⟩
  | .hbm, ⟨24, _⟩ => ⟨S1x1024, .f32⟩
  | .hbm, ⟨25, _⟩ => ⟨S1x1024, .f32⟩
  | .hbm, ⟨26, _⟩ => ⟨S16384x512, .f32⟩
  | .hbm, ⟨27, _⟩ => ⟨S16384x256, .f32⟩
  | .hbm, ⟨28, _⟩ => ⟨S16384x256, .f32⟩
  | .hbm, ⟨29, _⟩ => ⟨S16384x256, .f32⟩
  | .hbm, ⟨30, _⟩ => ⟨S16384x256, .f32⟩
  | .hbm, ⟨31, _⟩ => ⟨S1x256, .f32⟩
  | .hbm, ⟨32, _⟩ => ⟨S16384x1024, .f32⟩
  | .local _ .vmem, ⟨0, _⟩ => ⟨S1024x1024, .f32⟩
  | .local _ .vmem, ⟨1, _⟩ => ⟨S1024x1024, .f32⟩
  | .local _ .vmem, ⟨2, _⟩ => ⟨S1x1x3072, .f32⟩
  | .local _ .vmem, ⟨3, _⟩ => ⟨S1x1x3072, .f32⟩
  | .local _ .vmem, ⟨4, _⟩ => ⟨S1x1024, .f32⟩
  | .local _ .vmem, ⟨5, _⟩ => ⟨S1x1024, .f32⟩
  | .local _ .vmem, ⟨6, _⟩ => ⟨S1024x512, .f32⟩
  | .local _ .vmem, ⟨7, _⟩ => ⟨S1024x512, .f32⟩
  | .local _ .vmem, ⟨8, _⟩ => ⟨S1024x256, .f32⟩
  | .local _ .vmem, ⟨9, _⟩ => ⟨S1024x256, .f32⟩
  | .local _ .vmem, ⟨10, _⟩ => ⟨S8x256, .f32⟩
  | .local _ .vmem, ⟨11, _⟩ => ⟨S8x256, .f32⟩
  | .local _ .vmem, ⟨12, _⟩ => ⟨S8x256, .f32⟩
  | .local _ .vmem, ⟨13, _⟩ => ⟨S8x256, .f32⟩
  | .local _ .vmem, ⟨14, _⟩ => ⟨S1024x256, .f32⟩
  | .local _ .vmem, ⟨15, _⟩ => ⟨S1024x256, .f32⟩
  | .local _ .vmem, ⟨16, _⟩ => ⟨S1024x256, .f32⟩
  | .local _ .vmem, ⟨17, _⟩ => ⟨S1024x256, .f32⟩
  | .local _ .vmem, ⟨18, _⟩ => ⟨S1024x256, .f32⟩
  | .local _ .vmem, ⟨19, _⟩ => ⟨S1024x256, .f32⟩
  | .local _ .vmem, ⟨20, _⟩ => ⟨S3x256, .f32⟩
  | .local _ .vmem, ⟨21, _⟩ => ⟨S1x256, .f32⟩
  | .local _ .vmem, ⟨22, _⟩ => ⟨S1x1024x512, .bf16⟩
  | .local _ .vmem, ⟨23, _⟩ => ⟨S1x1024x256, .bf16⟩
  | .local _ .vmem, ⟨24, _⟩ => ⟨S1x1024x256, .bf16⟩
  | .local _ .vmem, ⟨25, _⟩ => ⟨S1x1024x4352, .bf16⟩
  | .local _ .vmem, ⟨26, _⟩ => ⟨S1x512x1024, .bf16⟩
  | .local _ .vmem, ⟨27, _⟩ => ⟨S1x256x1024, .bf16⟩
  | .local _ .vmem, ⟨28, _⟩ => ⟨S1x256x1024, .bf16⟩
  | .local _ .vmem, ⟨29, _⟩ => ⟨S1x256x1024, .bf16⟩
  | .local _ .vmem, ⟨30, _⟩ => ⟨S1x1024x1024, .bf16⟩
  | .local _ .vmem, ⟨31, _⟩ => ⟨S1024x1024, .f32⟩
  | .local _ .vmem, ⟨32, _⟩ => ⟨S1024x1024, .f32⟩
  | _, _ => ⟨S4x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | _, _ => false

abbrev semScoped : Fin 0 → Bool
  | ⟨_, h⟩ => absurd h (Nat.not_lt_zero _)

abbrev dmaSemScoped : Fin 33 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | _ => false

abbrev sig : RefSig :=
  ofTc nBuf bufTy 0 33 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_v0 : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_stg11_0 : Ref sig .tc := ⟨.vmem, 20, rfl⟩
abbrev cc0_stg12_0 : Ref sig .tc := ⟨.vmem, 21, rfl⟩
abbrev cc0_stg13_0 : Ref sig .tc := ⟨.vmem, 22, rfl⟩
abbrev cc0_stg14_0 : Ref sig .tc := ⟨.vmem, 23, rfl⟩
abbrev cc0_stg15_0 : Ref sig .tc := ⟨.vmem, 24, rfl⟩
abbrev cc0_stg16_0 : Ref sig .tc := ⟨.vmem, 25, rfl⟩
abbrev cc0_stg17_0 : Ref sig .tc := ⟨.vmem, 26, rfl⟩
abbrev cc0_stg18_0 : Ref sig .tc := ⟨.vmem, 27, rfl⟩
abbrev cc0_stg19_0 : Ref sig .tc := ⟨.vmem, 28, rfl⟩
abbrev cc0_stg20_0 : Ref sig .tc := ⟨.vmem, 29, rfl⟩
abbrev cc0_stg21_0 : Ref sig .tc := ⟨.vmem, 30, rfl⟩
abbrev cc0_stg22_0 : Ref sig .tc := ⟨.vmem, 31, rfl⟩
abbrev cc0_stg22_1 : Ref sig .tc := ⟨.vmem, 32, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17
abbrev cc0_sem10_0 : DmaSem sig := 18
abbrev cc0_sem10_1 : DmaSem sig := 19
abbrev cc0_sem11_0 : DmaSem sig := 20
abbrev cc0_sem12_0 : DmaSem sig := 21
abbrev cc0_sem13_0 : DmaSem sig := 22
abbrev cc0_sem14_0 : DmaSem sig := 23
abbrev cc0_sem15_0 : DmaSem sig := 24
abbrev cc0_sem16_0 : DmaSem sig := 25
abbrev cc0_sem17_0 : DmaSem sig := 26
abbrev cc0_sem18_0 : DmaSem sig := 27
abbrev cc0_sem19_0 : DmaSem sig := 28
abbrev cc0_sem20_0 : DmaSem sig := 29
abbrev cc0_sem21_0 : DmaSem sig := 30
abbrev cc0_sem22_0 : DmaSem sig := 31
abbrev cc0_sem22_1 : DmaSem sig := 32

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c128_i32 : BitVec 32 := 128#32
  let v0 : BitVec 32 := Scalar.muli arg0 c128_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_7 (i : grid0.Coords) : Fin 2 → Nat :=
  let arg0 : BitVec 32 := BitVec.ofNat 32 (i 0).val
  let c1_i32 : BitVec 32 := 1#32
  let v0 : BitVec 32 := Scalar.addi arg0 c1_i32
  let c128_i32 : BitVec 32 := 128#32
  let v1 : BitVec 32 := Scalar.muli v0 c128_i32
  let c2047_i32 : BitVec 32 := 2047#32
  let v2 : BitVec 32 := Scalar.minsi v1 c2047_i32
  let c0_i32 : BitVec 32 := 0#32
  let c0_i32_0 : BitVec 32 := 0#32
  ![v2.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 3 → Nat :=
  let arg0 : BitVec 32 := BitVec.ofNat 32 (i 0).val
  let c0_i32 : BitVec 32 := 0#32
  let c0_i32_0 : BitVec 32 := 0#32
  let c768_i32 : BitVec 32 := 768#32
  let c0_i32_1 : BitVec 32 := 0#32
  ![c0_i32.toNat, c0_i32_0.toNat, c768_i32.toNat]

def cc0_transform_14 (i : grid0.Coords) : Fin 3 → Nat :=
  let arg0 : BitVec 32 := BitVec.ofNat 32 (i 0).val
  let c0_i32 : BitVec 32 := 0#32
  let c0_i32_0 : BitVec 32 := 0#32
  let c2048_i32 : BitVec 32 := 2048#32
  let c0_i32_1 : BitVec 32 := 0#32
  ![c0_i32.toNat, c0_i32_0.toNat, c2048_i32.toNat]

def cc0_transform_15 (i : grid0.Coords) : Fin 3 → Nat :=
  let arg0 : BitVec 32 := BitVec.ofNat 32 (i 0).val
  let c0_i32 : BitVec 32 := 0#32
  let c0_i32_0 : BitVec 32 := 0#32
  let c3072_i32 : BitVec 32 := 3072#32
  let c0_i32_1 : BitVec 32 := 0#32
  ![c0_i32.toNat, c0_i32_0.toNat, c3072_i32.toNat]

def cc0_transform_16 (i : grid0.Coords) : Fin 3 → Nat :=
  let arg0 : BitVec 32 := BitVec.ofNat 32 (i 0).val
  let c0_i32 : BitVec 32 := 0#32
  let c0_i32_0 : BitVec 32 := 0#32
  let c3584_i32 : BitVec 32 := 3584#32
  let c0_i32_1 : BitVec 32 := 0#32
  ![c0_i32.toNat, c0_i32_0.toNat, c3584_i32.toNat]

def cc0_transform_17 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_18 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_19 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_20 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_21 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_22 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x3072 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1024x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1024x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S8x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S8x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1024x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1024x256 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S1024x256 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 1 → Memref sig .tc .vmem S3x256 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x256 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x1024x512 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1x1024x256 .bf16 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S1x1024x256 .bf16 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S1x1024x4352 .bf16 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 1 → Memref sig .tc .vmem S1x512x1024 .bf16 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]

abbrev stage0_18 : Fin 1 → Memref sig .tc .vmem S1x256x1024 .bf16 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false]

abbrev stage0_19 : Fin 1 → Memref sig .tc .vmem S1x256x1024 .bf16 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))
abbrev reads0_19 : Fin grid0.rank → Bool := ![false]

abbrev stage0_20 : Fin 1 → Memref sig .tc .vmem S1x256x1024 .bf16 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))
abbrev reads0_20 : Fin grid0.rank → Bool := ![false]

abbrev stage0_21 : Fin 1 → Memref sig .tc .vmem S1x1024x1024 .bf16 := fun | 0 => Memref.whole cc0_stg21_0 | ⟨_ + 1, h⟩ => absurd h (Nat.not_lt.2 (Nat.le_add_left _ _))
abbrev sem0_21 : Fin 1 → DmaSem sig := fun | 0 => cc0_sem21_0 | ⟨_ + 1, h⟩ => absurd h (Nat.not_lt.2 (Nat.le_add_left _ _))
abbrev reads0_21 : Fin grid0.rank → Bool := ![false]

abbrev stage0_22 : Fin 2 → Memref sig .tc .vmem S1024x1024 .f32 := fun | 0 => Memref.whole cc0_stg22_0 | 1 => Memref.whole cc0_stg22_1 | ⟨_ + 2, h⟩ => absurd h (Nat.not_lt.2 (Nat.le_add_left _ _))
abbrev sem0_22 : Fin 2 → DmaSem sig := fun | 0 => cc0_sem22_0 | 1 => cc0_sem22_1 | ⟨_ + 2, h⟩ => absurd h (Nat.not_lt.2 (Nat.le_add_left _ _))
abbrev reads0_22 : Fin grid0.rank → Bool := ![true]
-- ==== Reference2Ideal.lean ====
abbrev S4x4096x1024 : Shape := ⟨3, ![4, 4096, 1024]⟩
abbrev S4x1x3072 : Shape := ⟨3, ![4, 1, 3072]⟩
abbrev S1024 : Shape := ⟨1, ![1024]⟩
abbrev S4x4096x512 : Shape := ⟨3, ![4, 4096, 512]⟩
abbrev S4x4096x256 : Shape := ⟨3, ![4, 4096, 256]⟩
abbrev S3x256 : Shape := ⟨2, ![3, 256]⟩
abbrev S256 : Shape := ⟨1, ![256]⟩
abbrev S4x1024x7936 : Shape := ⟨3, ![4, 1024, 7936]⟩
abbrev S4x512x1024 : Shape := ⟨3, ![4, 512, 1024]⟩
abbrev S4x256x1024 : Shape := ⟨3, ![4, 256, 1024]⟩
abbrev S4x1024x1024 : Shape := ⟨3, ![4, 1024, 1024]⟩
abbrev S4x1x1024 : Shape := ⟨3, ![4, 1, 1024]⟩
abbrev S_ : Shape := ⟨0, ![]⟩
abbrev S4x4096 : Shape := ⟨2, ![4, 4096]⟩
abbrev S4x4096x1 : Shape := ⟨3, ![4, 4096, 1]⟩
abbrev S1x1x1024 : Shape := ⟨3, ![1, 1, 1024]⟩
abbrev S1x1024x7936 : Shape := ⟨3, ![1, 1024, 7936]⟩
abbrev S1024x7936 : Shape := ⟨2, ![1024, 7936]⟩
abbrev S4x4096x7936 : Shape := ⟨3, ![4, 4096, 7936]⟩
abbrev S4x4096x128 : Shape := ⟨3, ![4, 4096, 128]⟩
abbrev S4x4096x4096 : Shape := ⟨3, ![4, 4096, 4096]⟩
abbrev S4x4098x256 : Shape := ⟨3, ![4, 4098, 256]⟩
abbrev S1x256 : Shape := ⟨2, ![1, 256]⟩
abbrev S1x1x256 : Shape := ⟨3, ![1, 1, 256]⟩
abbrev S1x512x1024 : Shape := ⟨3, ![1, 512, 1024]⟩
abbrev S512x1024 : Shape := ⟨2, ![512, 1024]⟩
abbrev S1x256x1024 : Shape := ⟨3, ![1, 256, 1024]⟩
abbrev S256x1024 : Shape := ⟨2, ![256, 1024]⟩
abbrev S1x1024x1024 : Shape := ⟨3, ![1, 1024, 1024]⟩
abbrev S1024x1024 : Shape := ⟨2, ![1024, 1024]⟩
abbrev S4x4096x4x1024 : Shape := ⟨4, ![4, 4096, 4, 1024]⟩
abbrev S4x4096x1x1024 : Shape := ⟨4, ![4, 4096, 1, 1024]⟩
abbrev S16384x1024 : Shape := ⟨2, ![16384, 1024]⟩

abbrev nBuf : Space → Nat
  | .hbm => 190
  | .vmem => 0
  | .smem => 0
  | _ => 0

abbrev hbmTy0_0 (i : Nat) : BufTy := match i % 128 with
  | 0 => ⟨S4x4096x1024, .f32⟩
  | 1 => ⟨S4x1x3072, .f32⟩
  | 2 => ⟨S1024, .f32⟩
  | 3 => ⟨S1024, .f32⟩
  | 4 => ⟨S4x4096x512, .f32⟩
  | 5 => ⟨S4x4096x256, .f32⟩
  | 6 => ⟨S4x4096x256, .f32⟩
  | 7 => ⟨S4x4096x256, .f32⟩
  | 8 => ⟨S4x4096x256, .f32⟩
  | 9 => ⟨S3x256, .f32⟩
  | 10 => ⟨S256, .f32⟩
  | 11 => ⟨S4x1024x7936, .f32⟩
  | 12 => ⟨S4x512x1024, .f32⟩
  | 13 => ⟨S4x256x1024, .f32⟩
  | 14 => ⟨S4x256x1024, .f32⟩
  | 15 => ⟨S4x256x1024, .f32⟩
  | 16 => ⟨S4x1024x1024, .f32⟩
  | 17 => ⟨S4x1x1024, .f32⟩
  | 18 => ⟨S4x1x1024, .f32⟩
  | 19 => ⟨S4x1x1024, .f32⟩
  | 20 => ⟨S4x4096x1024, .f32⟩
  | 21 => ⟨S_, .f32⟩
  | 22 => ⟨S4x4096, .f32⟩
  | 23 => ⟨S4x4096x1, .f32⟩
  | 24 => ⟨S_, .f32⟩
  | 25 => ⟨S4x4096x1, .f32⟩
  | 26 => ⟨S4x4096x1, .f32⟩
  | 27 => ⟨S_, .f32⟩
  | 28 => ⟨S4x4096x1, .f32⟩
  | 29 => ⟨S4x4096x1, .f32⟩
  | 30 => ⟨S4x4096x1, .f32⟩
  | 31 => ⟨S4x4096x1024, .f32⟩
  | 32 => ⟨S4x4096x1024, .f32⟩
  | 33 => ⟨S1x1x1024, .f32⟩
  | 34 => ⟨S4x4096x1024, .f32⟩
  | 35 => ⟨S4x4096x1024, .f32⟩
  | 36 => ⟨S_, .f32⟩
  | 37 => ⟨S4x1x1024, .f32⟩
  | 38 => ⟨S4x1x1024, .f32⟩
  | 39 => ⟨S4x4096x1024, .f32⟩
  | 40 => ⟨S4x4096x1024, .f32⟩
  | 41 => ⟨S4x4096x1024, .f32⟩
  | 42 => ⟨S4x4096x1024, .f32⟩
  | 43 => ⟨S1x1024x7936, .f32⟩
  | 44 => ⟨S1024x7936, .f32⟩
  | 45 => ⟨S4x4096x7936, .f32⟩
  | 46 => ⟨S4x4096x512, .f32⟩
  | 47 => ⟨S4x4096x128, .f32⟩
  | 48 => ⟨S4x4096x128, .f32⟩
  | 49 => ⟨S4x4096x512, .f32⟩
  | 50 => ⟨S4x4096x256, .f32⟩
  | 51 => ⟨S4x4096x256, .f32⟩
  | 52 => ⟨S4x4096x256, .f32⟩
  | 53 => ⟨S4x4096x256, .f32⟩
  | 54 => ⟨S4x4096x256, .f32⟩
  | 55 => ⟨S4x4096x256, .f32⟩
  | 56 => ⟨S4x4096x256, .f32⟩
  | 57 => ⟨S4x4096x256, .f32⟩
  | 58 => ⟨S4x4096x256, .f32⟩
  | 59 => ⟨S4x4096x256, .f32⟩
  | 60 => ⟨S4x4096x4096, .f32⟩
  | 61 => ⟨S_, .i32⟩
  | 62 => ⟨S_, .f32⟩
  | 63 => ⟨S4x4098x256, .f32⟩
  | 64 => ⟨S4x4096x256, .f32⟩
  | 65 => ⟨S1x256, .f32⟩
  | 66 => ⟨S256, .f32⟩
  | 67 => ⟨S1x1x256, .f32⟩
  | 68 => ⟨S4x4096x256, .f32⟩
  | 69 => ⟨S4x4096x256, .f32⟩
  | 70 => ⟨S4x4096x256, .f32⟩
  | 71 => ⟨S1x256, .f32⟩
  | 72 => ⟨S256, .f32⟩
  | 73 => ⟨S1x1x256, .f32⟩
  | 74 => ⟨S4x4096x256, .f32⟩
  | 75 => ⟨S4x4096x256, .f32⟩
  | 76 => ⟨S4x4096x256, .f32⟩
  | 77 => ⟨S4x4096x256, .f32⟩
  | 78 => ⟨S1x256, .f32⟩
  | 79 => ⟨S256, .f32⟩
  | 80 => ⟨S1x1x256, .f32⟩
  | 81 => ⟨S4x4096x256, .f32⟩
  | 82 => ⟨S4x4096x256, .f32⟩
  | 83 => ⟨S4x4096x256, .f32⟩
  | 84 => ⟨S1x1x256, .f32⟩
  | 85 => ⟨S4x4096x256, .f32⟩
  | 86 => ⟨S4x4096x256, .f32⟩
  | 87 => ⟨S4x4096x256, .f32⟩
  | 88 => ⟨S1x512x1024, .f32⟩
  | 89 => ⟨S512x1024, .f32⟩
  | 90 => ⟨S1x256x1024, .f32⟩
  | 91 => ⟨S256x1024, .f32⟩
  | 92 => ⟨S1x256x1024, .f32⟩
  | 93 => ⟨S256x1024, .f32⟩
  | 94 => ⟨S1x256x1024, .f32⟩
  | 95 => ⟨S256x1024, .f32⟩
  | 96 => ⟨S1x1024x1024, .f32⟩
  | 97 => ⟨S1024x1024, .f32⟩
  | 98 => ⟨S4x4096x4x1024, .f32⟩
  | 99 => ⟨S4x4096x4x1024, .f32⟩
  | 100 => ⟨S4x4096x4x1024, .f32⟩
  | 101 => ⟨S_, .f32⟩
  | 102 => ⟨S4x4096x4x1024, .f32⟩
  | 103 => ⟨S4x4096x4x1024, .f32⟩
  | 104 => ⟨S_, .f32⟩
  | 105 => ⟨S4x4096x4x1024, .f32⟩
  | 106 => ⟨S4x4096x4x1024, .f32⟩
  | 107 => ⟨S4x4096x1x1024, .f32⟩
  | 108 => ⟨S4x4096x1024, .f32⟩
  | 109 => ⟨S4x4096x512, .f32⟩
  | 110 => ⟨S4x4096x512, .f32⟩
  | 111 => ⟨S_, .f32⟩
  | 112 => ⟨S4x4096x512, .f32⟩
  | 113 => ⟨S4x4096x512, .f32⟩
  | 114 => ⟨S_, .f32⟩
  | 115 => ⟨S4x4096x512, .f32⟩
  | 116 => ⟨S4x4096x512, .f32⟩
  | 117 => ⟨S4x4096x512, .f32⟩
  | 118 => ⟨S4x4096x512, .f32⟩
  | 119 => ⟨S4x4096x1024, .f32⟩
  | 120 => ⟨S4x4096x1024, .f32⟩
  | 121 => ⟨S_, .f32⟩
  | 122 => ⟨S4x4096x1024, .f32⟩
  | 123 => ⟨S4x4096x1024, .f32⟩
  | 124 => ⟨S4x4096x1x1024, .f32⟩
  | 125 => ⟨S4x4096x1024, .f32⟩
  | 126 => ⟨S4x4096x256, .f32⟩
  | 127 => ⟨S4x4096x256, .f32⟩
  | _ => ⟨S4x4096x1024, .f32⟩

abbrev hbmTy0_1 (i : Nat) : BufTy := match i % 128 with
  | 0 => ⟨S_, .f32⟩
  | 1 => ⟨S4x4096x256, .f32⟩
  | 2 => ⟨S4x4096x256, .f32⟩
  | 3 => ⟨S_, .f32⟩
  | 4 => ⟨S4x4096x256, .f32⟩
  | 5 => ⟨S4x4096x256, .f32⟩
  | 6 => ⟨S4x4096x256, .f32⟩
  | 7 => ⟨S4x4096x256, .f32⟩
  | 8 => ⟨S4x4096x1024, .f32⟩
  | 9 => ⟨S4x4096x1024, .f32⟩
  | 10 => ⟨S4x4096x1024, .f32⟩
  | 11 => ⟨S4x4096x1x1024, .f32⟩
  | 12 => ⟨S4x4096x1024, .f32⟩
  | 13 => ⟨S4x4096x256, .f32⟩
  | 14 => ⟨S4x4096x256, .f32⟩
  | 15 => ⟨S_, .f32⟩
  | 16 => ⟨S4x4096x256, .f32⟩
  | 17 => ⟨S4x4096x256, .f32⟩
  | 18 => ⟨S_, .f32⟩
  | 19 => ⟨S4x4096x256, .f32⟩
  | 20 => ⟨S4x4096x256, .f32⟩
  | 21 => ⟨S4x4096x256, .f32⟩
  | 22 => ⟨S4x4096x256, .f32⟩
  | 23 => ⟨S4x4096x1024, .f32⟩
  | 24 => ⟨S4x4096x1024, .f32⟩
  | 25 => ⟨S4x4096x1024, .f32⟩
  | 26 => ⟨S4x4096x1x1024, .f32⟩
  | 27 => ⟨S4x4096x1024, .f32⟩
  | 28 => ⟨S4x4096x256, .f32⟩
  | 29 => ⟨S4x4096x256, .f32⟩
  | 30 => ⟨S_, .f32⟩
  | 31 => ⟨S4x4096x256, .f32⟩
  | 32 => ⟨S4x4096x256, .f32⟩
  | 33 => ⟨S_, .f32⟩
  | 34 => ⟨S4x4096x256, .f32⟩
  | 35 => ⟨S4x4096x256, .f32⟩
  | 36 => ⟨S4x4096x256, .f32⟩
  | 37 => ⟨S4x4096x256, .f32⟩
  | 38 => ⟨S4x4096x1024, .f32⟩
  | 39 => ⟨S4x4096x1024, .f32⟩
  | 40 => ⟨S4x4096x1024, .f32⟩
  | 41 => ⟨S4x4096x1024, .f32⟩
  | 42 => ⟨S4x4096x1024, .f32⟩
  | 43 => ⟨S_, .f32⟩
  | 44 => ⟨S4x4096, .f32⟩
  | 45 => ⟨S4x4096x1, .f32⟩
  | 46 => ⟨S_, .f32⟩
  | 47 => ⟨S4x4096x1, .f32⟩
  | 48 => ⟨S4x4096x1, .f32⟩
  | 49 => ⟨S_, .f32⟩
  | 50 => ⟨S4x4096x1, .f32⟩
  | 51 => ⟨S4x4096x1, .f32⟩
  | 52 => ⟨S4x4096x1, .f32⟩
  | 53 => ⟨S4x4096x1024, .f32⟩
  | 54 => ⟨S4x4096x1024, .f32⟩
  | 55 => ⟨S1x1x1024, .f32⟩
  | 56 => ⟨S4x4096x1024, .f32⟩
  | 57 => ⟨S4x4096x1024, .f32⟩
  | 58 => ⟨S4x4096x1024, .f32⟩
  | 59 => ⟨S4x4096x1024, .f32⟩
  | 60 => ⟨S4x4096x1024, .f32⟩
  | 61 => ⟨S16384x1024, .f32⟩
  | _ => ⟨S4x4096x1024, .f32⟩

abbrev hbmTy (i : Nat) : BufTy := match i / 128 with
  | 0 => hbmTy0_0 i
  | 1 => hbmTy0_1 i
  | _ => ⟨S4x4096x1024, .f32⟩

abbrev bufTy : (tb : Table) → Fin (tcTables nBuf tb) → BufTy
  | .hbm, ⟨i, _⟩ => hbmTy i
  | _, _ => ⟨S4x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_v0 : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_cst : Ref sig .tc := ⟨.hbm, 21, rfl⟩
abbrev main_v4 : Ref sig .tc := ⟨.hbm, 22, rfl⟩
abbrev main_v5 : Ref sig .tc := ⟨.hbm, 23, rfl⟩
abbrev main_cst_0 : Ref sig .tc := ⟨.hbm, 24, rfl⟩
abbrev main_v6 : Ref sig .tc := ⟨.hbm, 25, rfl⟩
abbrev main_v7 : Ref sig .tc := ⟨.hbm, 26, rfl⟩
abbrev main_cst_1 : Ref sig .tc := ⟨.hbm, 27, rfl⟩
abbrev main_v8 : Ref sig .tc := ⟨.hbm, 28, rfl⟩
abbrev main_v9 : Ref sig .tc := ⟨.hbm, 29, rfl⟩
abbrev main_v10 : Ref sig .tc := ⟨.hbm, 30, rfl⟩
abbrev main_v11 : Ref sig .tc := ⟨.hbm, 31, rfl⟩
abbrev main_v12 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_cst_2 : Ref sig .tc := ⟨.hbm, 36, rfl⟩
abbrev main_v16 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_c : Ref sig .tc := ⟨.hbm, 61, rfl⟩
abbrev main_call0_v0 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_v64 : Ref sig .tc := ⟨.hbm, 87, rfl⟩
abbrev main_v65 : Ref sig .tc := ⟨.hbm, 88, rfl⟩
abbrev main_v66 : Ref sig .tc := ⟨.hbm, 89, rfl⟩
abbrev main_v67 : Ref sig .tc := ⟨.hbm, 90, rfl⟩
abbrev main_v68 : Ref sig .tc := ⟨.hbm, 91, rfl⟩
abbrev main_v69 : Ref sig .tc := ⟨.hbm, 92, rfl⟩
abbrev main_v70 : Ref sig .tc := ⟨.hbm, 93, rfl⟩
abbrev main_v71 : Ref sig .tc := ⟨.hbm, 94, rfl⟩
abbrev main_v72 : Ref sig .tc := ⟨.hbm, 95, rfl⟩
abbrev main_v73 : Ref sig .tc := ⟨.hbm, 96, rfl⟩
abbrev main_v74 : Ref sig .tc := ⟨.hbm, 97, rfl⟩
abbrev main_v75 : Ref sig .tc := ⟨.hbm, 98, rfl⟩
abbrev main_v76 : Ref sig .tc := ⟨.hbm, 99, rfl⟩
abbrev main_v77 : Ref sig .tc := ⟨.hbm, 100, rfl⟩
abbrev main_cst_3 : Ref sig .tc := ⟨.hbm, 101, rfl⟩
abbrev main_v78 : Ref sig .tc := ⟨.hbm, 102, rfl⟩
abbrev main_v79 : Ref sig .tc := ⟨.hbm, 103, rfl⟩
abbrev main_cst_4 : Ref sig .tc := ⟨.hbm, 104, rfl⟩
abbrev main_v80 : Ref sig .tc := ⟨.hbm, 105, rfl⟩
abbrev main_v81 : Ref sig .tc := ⟨.hbm, 106, rfl⟩
abbrev main_v82 : Ref sig .tc := ⟨.hbm, 107, rfl⟩
abbrev main_v83 : Ref sig .tc := ⟨.hbm, 108, rfl⟩
abbrev main_call1_v0 : Ref sig .tc := ⟨.hbm, 109, rfl⟩
abbrev main_call1_v1 : Ref sig .tc := ⟨.hbm, 110, rfl⟩
abbrev main_call1_cst : Ref sig .tc := ⟨.hbm, 111, rfl⟩
abbrev main_call1_v2 : Ref sig .tc := ⟨.hbm, 112, rfl⟩
abbrev main_call1_v3 : Ref sig .tc := ⟨.hbm, 113, rfl⟩
abbrev main_call1_cst_0 : Ref sig .tc := ⟨.hbm, 114, rfl⟩
abbrev main_call1_v4 : Ref sig .tc := ⟨.hbm, 115, rfl⟩
abbrev main_call1_v5 : Ref sig .tc := ⟨.hbm, 116, rfl⟩
abbrev main_v84 : Ref sig .tc := ⟨.hbm, 117, rfl⟩
abbrev main_v85 : Ref sig .tc := ⟨.hbm, 118, rfl⟩
abbrev main_v86 : Ref sig .tc := ⟨.hbm, 119, rfl⟩
abbrev main_v87 : Ref sig .tc := ⟨.hbm, 120, rfl⟩
abbrev main_cst_5 : Ref sig .tc := ⟨.hbm, 121, rfl⟩
abbrev main_v88 : Ref sig .tc := ⟨.hbm, 122, rfl⟩
abbrev main_v89 : Ref sig .tc := ⟨.hbm, 123, rfl⟩
abbrev main_v90 : Ref sig .tc := ⟨.hbm, 124, rfl⟩
abbrev main_v91 : Ref sig .tc := ⟨.hbm, 125, rfl⟩
abbrev main_call2_v0 : Ref sig .tc := ⟨.hbm, 126, rfl⟩
abbrev main_call2_v1 : Ref sig .tc := ⟨.hbm, 127, rfl⟩
abbrev main_call2_cst : Ref sig .tc := ⟨.hbm, 128, rfl⟩
abbrev main_call2_v2 : Ref sig .tc := ⟨.hbm, 129, rfl⟩
abbrev main_call2_v3 : Ref sig .tc := ⟨.hbm, 130, rfl⟩
abbrev main_call2_cst_0 : Ref sig .tc := ⟨.hbm, 131, rfl⟩
abbrev main_call2_v4 : Ref sig .tc := ⟨.hbm, 132, rfl⟩
abbrev main_call2_v5 : Ref sig .tc := ⟨.hbm, 133, rfl⟩
abbrev main_v92 : Ref sig .tc := ⟨.hbm, 134, rfl⟩
abbrev main_v93 : Ref sig .tc := ⟨.hbm, 135, rfl⟩
abbrev main_v94 : Ref sig .tc := ⟨.hbm, 136, rfl⟩
abbrev main_v95 : Ref sig .tc := ⟨.hbm, 137, rfl⟩
abbrev main_v96 : Ref sig .tc := ⟨.hbm, 138, rfl⟩
abbrev main_v97 : Ref sig .tc := ⟨.hbm, 139, rfl⟩
abbrev main_v98 : Ref sig .tc := ⟨.hbm, 140, rfl⟩
abbrev main_call3_v0 : Ref sig .tc := ⟨.hbm, 141, rfl⟩
abbrev main_call3_v1 : Ref sig .tc := ⟨.hbm, 142, rfl⟩
abbrev main_call3_cst : Ref sig .tc := ⟨.hbm, 143, rfl⟩
abbrev main_call3_v2 : Ref sig .tc := ⟨.hbm, 144, rfl⟩
abbrev main_call3_v3 : Ref sig .tc := ⟨.hbm, 145, rfl⟩
abbrev main_call3_cst_0 : Ref sig .tc := ⟨.hbm, 146, rfl⟩
abbrev main_call3_v4 : Ref sig .tc := ⟨.hbm, 147, rfl⟩
abbrev main_call3_v5 : Ref sig .tc := ⟨.hbm, 148, rfl⟩
abbrev main_v99 : Ref sig .tc := ⟨.hbm, 149, rfl⟩
abbrev main_v100 : Ref sig .tc := ⟨.hbm, 150, rfl⟩
abbrev main_v101 : Ref sig .tc := ⟨.hbm, 151, rfl⟩
abbrev main_v102 : Ref sig .tc := ⟨.hbm, 152, rfl⟩
abbrev main_v103 : Ref sig .tc := ⟨.hbm, 153, rfl⟩
abbrev main_v104 : Ref sig .tc := ⟨.hbm, 154, rfl⟩
abbrev main_v105 : Ref sig .tc := ⟨.hbm, 155, rfl⟩
abbrev main_call4_v0 : Ref sig .tc := ⟨.hbm, 156, rfl⟩
abbrev main_call4_v1 : Ref sig .tc := ⟨.hbm, 157, rfl⟩
abbrev main_call4_cst : Ref sig .tc := ⟨.hbm, 158, rfl⟩
abbrev main_call4_v2 : Ref sig .tc := ⟨.hbm, 159, rfl⟩
abbrev main_call4_v3 : Ref sig .tc := ⟨.hbm, 160, rfl⟩
abbrev main_call4_cst_0 : Ref sig .tc := ⟨.hbm, 161, rfl⟩
abbrev main_call4_v4 : Ref sig .tc := ⟨.hbm, 162, rfl⟩
abbrev main_call4_v5 : Ref sig .tc := ⟨.hbm, 163, rfl⟩
abbrev main_v106 : Ref sig .tc := ⟨.hbm, 164, rfl⟩
abbrev main_v107 : Ref sig .tc := ⟨.hbm, 165, rfl⟩
abbrev main_v108 : Ref sig .tc := ⟨.hbm, 166, rfl⟩
abbrev main_v109 : Ref sig .tc := ⟨.hbm, 167, rfl⟩
abbrev main_v110 : Ref sig .tc := ⟨.hbm, 168, rfl⟩
abbrev main_v111 : Ref sig .tc := ⟨.hbm, 169, rfl⟩
abbrev main_v112 : Ref sig .tc := ⟨.hbm, 170, rfl⟩
abbrev main_cst_6 : Ref sig .tc := ⟨.hbm, 171, rfl⟩
abbrev main_v113 : Ref sig .tc := ⟨.hbm, 172, rfl⟩
abbrev main_v114 : Ref sig .tc := ⟨.hbm, 173, rfl⟩
abbrev main_cst_7 : Ref sig .tc := ⟨.hbm, 174, rfl⟩
abbrev main_v115 : Ref sig .tc := ⟨.hbm, 175, rfl⟩
abbrev main_v116 : Ref sig .tc := ⟨.hbm, 176, rfl⟩
abbrev main_cst_8 : Ref sig .tc := ⟨.hbm, 177, rfl⟩
abbrev main_v117 : Ref sig .tc := ⟨.hbm, 178, rfl⟩
abbrev main_v118 : Ref sig .tc := ⟨.hbm, 179, rfl⟩
abbrev main_v119 : Ref sig .tc := ⟨.hbm, 180, rfl⟩
abbrev main_v120 : Ref sig .tc := ⟨.hbm, 181, rfl⟩
abbrev main_v121 : Ref sig .tc := ⟨.hbm, 182, rfl⟩
abbrev main_v122 : Ref sig .tc := ⟨.hbm, 183, rfl⟩
abbrev main_v123 : Ref sig .tc := ⟨.hbm, 184, rfl⟩
abbrev main_v124 : Ref sig .tc := ⟨.hbm, 185, rfl⟩
abbrev main_v125 : Ref sig .tc := ⟨.hbm, 186, rfl⟩
abbrev main_v126 : Ref sig .tc := ⟨.hbm, 187, rfl⟩
abbrev main_v127 : Ref sig .tc := ⟨.hbm, 188, rfl⟩
abbrev main_v128 : Ref sig .tc := ⟨.hbm, 189, rfl⟩

abbrev nD : Nat := 1
abbrev τ : Topo := Topo.v7x

variable {F : FTy → Type} [FloatOps F]
-- ==== Proof.MergeForm.lean ====
module

public import proofs.«01_k».proof.Proof.Gen.Kernel2Ideal.Frame
public import Idealize.ShloMosaic.Lib.Pointwise

/-! The merge kernel's block of results, stated by a few functions: the normalised and modulated rows `hN`, the four
gated activations `act512`/`act256`, one chunk of the gated sum of projections `total`, one chunk's share of the output
product `yStep`, and the closing normalisation `fin`. `out_eq` states that the generated payloads are these. -/

@[expose] public section

set_option maxRecDepth 16384

noncomputable section

namespace Cert.MergeK

open Cert.Kernel2Ideal Cert.Kernel2Ideal.Gen Idealize.ShloMosaic Idealize.ShloMosaic.TcCoe Idealize.SL.Sem

variable {F : FTy → Type} [FloatOps F]

/-- `1 / (1 + exp (0 - v))`, on 256 columns. -/
def sig256 (v : FVec F S1024x256 .f32) : FVec F S1024x256 .f32 :=
  divf (broadcast S1024x256 (Scalar.ofBits .f32 0x3F800000#32))
    (addf (broadcast S1024x256 (Scalar.ofBits .f32 0x3F800000#32))
      (exp (subf (broadcast S1024x256 (Scalar.ofBits .f32 0x00000000#32)) v)))

/-- `1 / (1 + exp (0 - v))`, on 512 columns. -/
def sig512 (v : FVec F S1024x512 .f32) : FVec F S1024x512 .f32 :=
  divf (broadcast S1024x512 (Scalar.ofBits .f32 0x3F800000#32))
    (addf (broadcast S1024x512 (Scalar.ofBits .f32 0x3F800000#32))
      (exp (subf (broadcast S1024x512 (Scalar.ofBits .f32 0x00000000#32)) v)))

/-- The rows' product with 256 columns of a weight. -/
def col256 (h : FVec F S1024x1024 .bf16) (w : Vec F S1x1024x256 .bf16) : FVec F S1024x256 .f32 :=
  matmul dot_S1024x1024_S1024x256_S1024x256_1_0_0_1_n_n none h (shapeCast S1024x256 w shapeCasts_S1x1024x256_S1024x256)
    (constant S1024x256 .f32 0x00000000#32)

/-- The rows' product with 512 columns of a weight. -/
def col512 (h : FVec F S1024x1024 .bf16) (w : Vec F S1x1024x512 .bf16) : FVec F S1024x512 .f32 :=
  matmul dot_S1024x1024_S1024x512_S1024x512_1_0_0_1_n_n none h (shapeCast S1024x512 w shapeCasts_S1x1024x512_S1024x512)
    (constant S1024x512 .f32 0x00000000#32)

/-- A branch's result times the gated linear unit of its gate columns, on 256 columns. -/
def act256 (h : FVec F S1024x1024 .bf16) (y : FVec F S1024x256 .f32) (w : Vec F S1x1024x256 .bf16) :
    FVec F S1024x256 .bf16 :=
  truncf .bf16 (mulf y (mulf (col256 h w) (sig256 (col256 h w)))) bitsLt_bf16_f32

/-- A branch's result times the gated linear unit of its gate columns, on 512 columns. -/
def act512 (h : FVec F S1024x1024 .bf16) (y : Vec F S1024x512 .f32) (w : Vec F S1x1024x512 .bf16) :
    FVec F S1024x512 .bf16 :=
  truncf .bf16 (mulf (shapeCast S1024x512 y shapeCasts_S1024x512_S1024x512) (mulf (col512 h w) (sig512 (col512 h w))))
    bitsLt_bf16_f32

/-- An activation's product with a chunk of its output projection, 512 deep. -/
def proj512 (a : FVec F S1024x512 .bf16) (w : Vec F S1x512x256 .bf16) : FVec F S1024x256 .f32 :=
  matmul dot_S1024x512_S512x256_S1024x256_1_0_0_1_n_n none a (shapeCast S512x256 w shapeCasts_S1x512x256_S512x256)
    (constant S1024x256 .f32 0x00000000#32)

/-- An activation's product with a chunk of its output projection, 256 deep. -/
def proj256 (a : FVec F S1024x256 .bf16) (w : Vec F S1x256x256 .bf16) : FVec F S1024x256 .f32 :=
  matmul dot_S1024x256_S256x256_S1024x256_1_0_0_1_n_n none a (shapeCast S256x256 w shapeCasts_S1x256x256_S256x256)
    (constant S1024x256 .f32 0x00000000#32)

/-- The rows, normalised by their root mean square, scaled by `g` and modulated by the batch's shift and scale. -/
def hN (x : Vec F S1024x1024 .f32) (md : Vec F S1x1x3072 .f32) (g : Vec F S1x1024 .f32) : FVec F S1024x1024 .bf16 :=
  k0_pay4 x md g

/-- One chunk of 256 columns of the gated sum of the four branches' projections. -/
def total (h : FVec F S1024x1024 .bf16) (a : FVec F S1024x512 .bf16) (b r f : FVec F S1024x256 .bf16)
    (wa : Vec F S1x512x256 .bf16) (ga : Vec F S1x1024x256 .bf16) (wb : Vec F S1x256x256 .bf16)
    (gb : Vec F S1x1024x256 .bf16) (wr : Vec F S1x256x256 .bf16) (gr : Vec F S1x1024x256 .bf16)
    (wf : Vec F S1x256x256 .bf16) (gf : Vec F S1x1024x256 .bf16) : FVec F S1024x256 .f32 :=
  addf (addf (addf (addf (broadcast S1024x256 (Scalar.ofBits .f32 0x00000000#32))
    (mulf (sig256 (col256 h ga)) (proj512 a wa)))
    (mulf (sig256 (col256 h gb)) (proj256 b wb)))
    (mulf (sig256 (col256 h gr)) (proj256 r wr)))
    (mulf (sig256 (col256 h gf)) (proj256 f wf))

/-- The running output product with one more chunk of 256 rows of the output weight. -/
def yStep (y : FVec F S1024x1024 .f32) (tot : FVec F S1024x256 .f32) (w : Vec F S1x256x1024 .bf16) :
    FVec F S1024x1024 .f32 :=
  addf y (matmul dot_S1024x256_S256x1024_S1024x1024_1_0_0_1_n_n none (truncf .bf16 tot bitsLt_bf16_f32)
    (shapeCast S256x1024 w shapeCasts_S1x256x1024_S256x1024) (constant S1024x1024 .f32 0x00000000#32))

/-- The rows plus the batch's gate times the normalised output product. -/
def fin (x : Vec F S1024x1024 .f32) (md : Vec F S1x1x3072 .f32) (y : FVec F S1024x1024 .f32) (g : Vec F S1x1024 .f32) :
    FVec F S1024x1024 .f32 :=
  addf (shapeCast S1024x1024 x shapeCasts_S1024x1024_S1024x1024)
    (mulf (broadcastTo S1024x1024 (extractStridedSlice S1x1024 ![0, 2048]
        (shapeCast S1x3072 md shapeCasts_S1x1x3072_S1x3072) slices_S1x3072_o0_2048_S1x1024) broadcasts_S1x1024_S1024x1024)
      (mulf (mulf y (broadcastTo S1024x1024 (rsqrt (addf (divf (shapeCast S1024x1 (multiReduction .add [1] S1024 (mulf y y)
          0x00000000#32 reduces_S1024x1024_S1024 (.inl rfl) rfl) shapeCasts_S1024_S1024x1)
          (broadcast S1024x1 (Scalar.ofBits .f32 0x44800000#32))) (broadcast S1024x1 (Scalar.ofBits .f32 0x358637BD#32))))
          broadcasts_S1024x1_S1024x1024))
        (broadcastTo S1024x1024 (shapeCast S1x1024 g shapeCasts_S1x1024_S1x1024) broadcasts_S1x1024_S1024x1024)))

/-- The word of a grid point's number within its sequence. -/
def tw (i : grid0.Coords) : BitVec 32 :=
  Scalar.select (Scalar.andi (Scalar.xori (Scalar.cmpi .slt (Scalar.remsi (BitVec.ofNat 32 (i 0).val)
    (Scalar.select (Scalar.cmpi .eq 4#32 0#32) 1#32 4#32)) 0#32)
    (Scalar.cmpi .slt (Scalar.select (Scalar.cmpi .eq 4#32 0#32) 1#32 4#32) 0#32))
    (Scalar.cmpi .ne (Scalar.remsi (BitVec.ofNat 32 (i 0).val) (Scalar.select (Scalar.cmpi .eq 4#32 0#32) 1#32 4#32)) 0#32))
    (Scalar.addi (Scalar.remsi (BitVec.ofNat 32 (i 0).val) (Scalar.select (Scalar.cmpi .eq 4#32 0#32) 1#32 4#32))
      (Scalar.select (Scalar.cmpi .eq 4#32 0#32) 1#32 4#32))
    (Scalar.remsi (BitVec.ofNat 32 (i 0).val) (Scalar.select (Scalar.cmpi .eq 4#32 0#32) 1#32 4#32))

/-- The convolved rows times the branch's gate, before its activation. -/
def conv (w : BitVec 32) (u : Vec F S1024x256 .f32) (p n : Vec F S1x256 .f32) (c0 c1 c2 cb : Vec F S1x256 .f32)
    (v : Vec F S1024x256 .f32) : FVec F S1024x256 .f32 :=
  k0_pay7 (k0_pay6 (k0_pay5 u) w 0#32 p n c0 c1 c2 cb) v

/-- The four chunks' output product. -/
def y4 (t0 t1 t2 t3 : FVec F S1024x256 .f32) (w0 w1 w2 w3 : Vec F S1x256x1024 .bf16) : FVec F S1024x1024 .f32 :=
  yStep (yStep (yStep (yStep (broadcast S1024x1024 (Scalar.ofBits .f32 0x00000000#32)) t0 w0) t1 w1) t2 w2) t3 w3

/-- The kernel's block of results as the named functions of its windows. -/
theorem out_eq (i : grid0.Coords) (x0 : Vec F S1024x1024 .f32) (x1 : Vec F S1x1x3072 .f32) (x2 : Vec F S1x1024 .f32) (x3 : Vec F S1x1024 .f32) (x4 : Vec F S1024x512 .f32) (x5 : Vec F S1024x256 .f32) (x6 : Vec F S8x256 .f32) (x7 : Vec F S8x256 .f32) (x8 : Vec F S1024x256 .f32) (x9 : Vec F S1024x256 .f32) (x10 : Vec F S1024x256 .f32) (x11 : Vec F S3x256 .f32) (x12 : Vec F S1x256 .f32) (x13 : Vec F S1x1024x512 .bf16) (x14 : Vec F S1x1024x256 .bf16) (x15 : Vec F S1x1024x256 .bf16) (x16 : Vec F S1x1024x4352 .bf16) (x17 : Vec F S1x512x1024 .bf16) (x18 : Vec F S1x256x1024 .bf16) (x19 : Vec F S1x256x1024 .bf16) (x20 : Vec F S1x256x1024 .bf16) (x21 : Vec F S1x1024x1024 .bf16)
    (h : FVec F S1024x1024 .bf16) (hh : h = hN (View.ld x0 r0_0) (View.ld x1 r0_1) (View.ld x2 r0_2))
    (a : FVec F S1024x512 .bf16) (ha : a = act512 h (View.ld x4 r0_10) (View.ld x13 r0_11))
    (b : FVec F S1024x256 .bf16) (hb : b = act256 h (conv (tw i) (View.ld x5 r0_3) (View.ld x6 r0_4) (View.ld x7 r0_5) (View.ld x11 r0_6) (View.ld x11 r0_7) (View.ld x11 r0_8) (View.ld x12 r0_9) (View.ld x8 r0_3)) (View.ld x14 r0_12))
    (r : FVec F S1024x256 .bf16) (hr : r = act256 h (k0_pay8 (View.ld x9 r0_3)) (View.ld x15 r0_12))
    (f : FVec F S1024x256 .bf16) (hf : f = act256 h (k0_pay9 (View.ld x10 r0_3)) (View.ld x16 r0_13)) :
    out0_22 i x0 x1 x2 x3 x4 x5 x6 x7 x8 x9 x10 x11 x12 x13 x14 x15 x16 x17 x18 x19 x20 x21
      = View.canon [⟨r0_0, fin (View.ld x0 r0_0) (View.ld x1 r0_1)
          (y4 (total h a b r f (View.ld x17 r0_14) (View.ld x16 r0_15) (View.ld x18 r0_16) (View.ld x16 r0_17) (View.ld x19 r0_16) (View.ld x16 r0_18) (View.ld x20 r0_16) (View.ld x16 r0_19))
            (total h a b r f (View.ld x17 r0_21) (View.ld x16 r0_22) (View.ld x18 r0_23) (View.ld x16 r0_24) (View.ld x19 r0_23) (View.ld x16 r0_25) (View.ld x20 r0_23) (View.ld x16 r0_26))
            (total h a b r f (View.ld x17 r0_28) (View.ld x16 r0_29) (View.ld x18 r0_30) (View.ld x16 r0_31) (View.ld x19 r0_30) (View.ld x16 r0_32) (View.ld x20 r0_30) (View.ld x16 r0_33))
            (total h a b r f (View.ld x17 r0_35) (View.ld x16 r0_36) (View.ld x18 r0_37) (View.ld x16 r0_38) (View.ld x19 r0_37) (View.ld x16 r0_39) (View.ld x20 r0_37) (View.ld x16 r0_40))
            (View.ld x21 r0_20) (View.ld x21 r0_27) (View.ld x21 r0_34) (View.ld x21 r0_41)) (View.ld x3 r0_2)⟩] := by
  subst hf hr hb ha hh
  unfold_out out0_22
  rfl

end Cert.MergeK

end
-- ==== Proof.MergeSpec.lean ====
module

public import Idealize.ShloMosaic.Lib.Pointwise

/-! What the merge of the four branches computes, element by element, on extended reals: the two normalisations, the
gated activations, the gated sum of the branches' projections, and the rows it leaves. -/

@[expose] public section

noncomputable section

namespace Cert.Merge

open Idealize.ShloMosaic

/-- Arrays of ranks 1, 2 and 3. -/
abbrev A1 (a : Nat) : Type := (⟨1, ![a]⟩ : Shape).Idx → EReal
/-- A matrix. -/
abbrev A2 (a b : Nat) : Type := (⟨2, ![a, b]⟩ : Shape).Idx → EReal
/-- An array of three axes. -/
abbrev A3 (a b c : Nat) : Type := (⟨3, ![a, b, c]⟩ : Shape).Idx → EReal

/-- A row of 1024 over the root of its mean square plus epsilon. -/
def rms (y : Fin 1024 → EReal) (l : Fin 1024) : EReal :=
  y l * Ideal.rsqrt (Ideal.div (∑ k, y k * y k) (Ideal.ofBits .f32 0x44800000#32) + Ideal.ofBits .f32 0x358637BD#32)

/-- The logistic function. -/
def sg (v : EReal) : EReal := Ideal.div 1 (1 + Ideal.exp (0 - v))

/-- A normalised row, scaled and modulated. -/
def hRow (x g sc sh : Fin 1024 → EReal) (k : Fin 1024) : EReal := rms x k * g k * (1 + sc k) + sh k

/-- A row times a column. -/
def dotc {n : Nat} (h w : Fin n → EReal) : EReal := ∑ k, h k * w k

/-- A branch's element times `z · logistic z` of its gate. -/
def act (y z : EReal) : EReal := y * (z * sg z)

/-- The rows the merge leaves, from its row's input, gate, scale and output product. -/
def outRow (x gt g y : Fin 1024 → EReal) (l : Fin 1024) : EReal := x l + gt l * (rms y l * g l)

/-- The gated sum of four branches at one column: gates' products `z`, projections `p`. -/
def tot4 (za zb zr zf pa pb pr pf : EReal) : EReal := sg za * pa + sg zb * pb + sg zr * pr + sg zf * pf

/-- The arguments of the merge, in the order of the programs' arguments. -/
structure Args where
  a0 : A3 4 4096 1024
  a1 : A3 4 1 3072
  a2 : A1 1024
  a3 : A1 1024
  a4 : A3 4 4096 512
  a5 : A3 4 4096 256
  a6 : A3 4 4096 256
  a7 : A3 4 4096 256
  a8 : A3 4 4096 256
  a9 : A2 3 256
  a10 : A1 256
  a11 : A3 4 1024 7936
  a12 : A3 4 512 1024
  a13 : A3 4 256 1024
  a14 : A3 4 256 1024
  a15 : A3 4 256 1024
  a16 : A3 4 1024 1024

variable (A : Args) (b : Fin 4) (s : Fin 4096)

/-- The modulated row at position `s` of sequence `b`. -/
def hx (k : Fin 1024) : EReal :=
  hRow (fun k => A.a0 (ix3 b s k)) (fun k => A.a2 (ix1 k)) (fun k => A.a1 (ix3 b 0 ⟨1024 + k.val, by omega⟩))
    (fun k => A.a1 (ix3 b 0 ⟨k.val, by omega⟩)) k

/-- The row's product with column `j` of the input weight. -/
def zc (j : Fin 7936) : EReal := dotc (hx A b s) (fun k => A.a11 (ix3 0 k j))

/-- The convolution over three positions (zero outside the sequence) times the branch's gate. -/
def yb (n : Fin 256) : EReal :=
  A.a6 (ix3 b s n) * ((if h : s.val = 0 then 0 else A.a5 (ix3 b ⟨s.val - 1, by omega⟩ n)) * A.a9 (ix2 0 n)
    + A.a5 (ix3 b s n) * A.a9 (ix2 1 n)
    + (if h : s.val = 4095 then 0 else A.a5 (ix3 b ⟨s.val + 1, by omega⟩ n)) * A.a9 (ix2 2 n) + A.a10 (ix1 n))

/-- The four activations. -/
def actA (n : Fin 512) : EReal := act (A.a4 (ix3 b s n)) (zc A b s ⟨768 + n.val, by omega⟩)
/-- The convolution branch's gated output. -/
def actB (n : Fin 256) : EReal := act (yb A b s n) (zc A b s ⟨2048 + n.val, by omega⟩)
/-- The retention branch's gated output. -/
def actR (n : Fin 256) : EReal := act (A.a7 (ix3 b s n)) (zc A b s ⟨3072 + n.val, by omega⟩)
/-- The Fourier branch's gated output. -/
def actF (n : Fin 256) : EReal := act (A.a8 (ix3 b s n)) (zc A b s ⟨3584 + n.val, by omega⟩)

/-- The gated sum of the projections at column `c`. -/
def tot (c : Fin 1024) : EReal :=
  tot4 (zc A b s ⟨3840 + c.val, by omega⟩) (zc A b s ⟨4864 + c.val, by omega⟩) (zc A b s ⟨5888 + c.val, by omega⟩)
    (zc A b s ⟨6912 + c.val, by omega⟩)
    (dotc (actA A b s) (fun n => A.a12 (ix3 0 n c))) (dotc (actB A b s) (fun n => A.a13 (ix3 0 n c)))
    (dotc (actR A b s) (fun n => A.a14 (ix3 0 n c))) (dotc (actF A b s) (fun n => A.a15 (ix3 0 n c)))

/-- The output product. -/
def yOut (l : Fin 1024) : EReal := dotc (tot A b s) (fun c => A.a16 (ix3 0 c l))

/-- The merge's result at position `s` of sequence `b`. -/
def res (l : Fin 1024) : EReal :=
  outRow (fun k => A.a0 (ix3 b s k)) (fun k => A.a1 (ix3 b 0 ⟨2048 + k.val, by omega⟩)) (fun k => A.a3 (ix1 k))
    (yOut A b s) l

/-- The merge's result array. -/
def resArr (A : Args) : A2 16384 1024 := fun j =>
  res A ⟨(j 0).val / 4096, by have := (j 0).isLt; have : (j 0).val < 16384 := this; omega⟩
    ⟨(j 0).val % 4096, Nat.mod_lt _ (by decide)⟩ (j 1)

end Cert.Merge

end
-- ==== Proof.MergeBlock.lean ====
module

public import proofs.«01_k».proof.Proof.MergeForm
public import proofs.«01_k».proof.Proof.MergeSpec
public import Idealize.ShloMosaic.Lib.Pipeline.Value
public import Idealize.ShloMosaic.Lib.WordCmp

/-! The merge kernel's block of results, read at a row and a column: `MergeForm`'s functions on extended reals, and the
block as the rows of `Merge.res` when the windows' blocks hold the arguments' elements. -/

@[expose] public section

set_option maxRecDepth 16384

noncomputable section

namespace Cert.MergeK

open Cert.Kernel2Ideal Cert.Kernel2Ideal.Gen Cert.Merge Idealize.ShloMosaic Idealize.ShloMosaic.TcCoe Idealize.SL.Sem

/-- The normalised and modulated rows at an element. -/
theorem hN_at (x : Vec Ideal S1024x1024 .f32) (md : Vec Ideal S1x1x3072 .f32) (g : Vec Ideal S1x1024 .f32) (r k : Fin 1024) :
    hN x md g (ix2 r k) = hRow (fun k => x (ix2 r k)) (fun k => g (ix2 0 k))
      (fun k => md (ix3 0 0 ⟨1024 + k.val, by omega⟩)) (fun k => md (ix3 0 0 ⟨k.val, by omega⟩)) k := by
  pointwise [hN, k0_pay4, k0_pay2, k0_pay3]
  rfl

/-- A branch's activation at an element, 512 columns. -/
theorem act512_at (h : FVec Ideal S1024x1024 .bf16) (y : Vec Ideal S1024x512 .f32) (w : Vec Ideal S1x1024x512 .bf16)
    (r : Fin 1024) (n : Fin 512) :
    act512 h y w (ix2 r n) = act (y (ix2 r n)) (dotc (fun k => h (ix2 r k)) (fun k => w (ix3 0 k n))) := by
  pointwise [act512, sig512, col512]
  rfl

/-- A branch's activation at an element, 256 columns. -/
theorem act256_at (h : FVec Ideal S1024x1024 .bf16) (y : FVec Ideal S1024x256 .f32) (w : Vec Ideal S1x1024x256 .bf16)
    (r : Fin 1024) (n : Fin 256) :
    act256 h y w (ix2 r n) = act (y (ix2 r n)) (dotc (fun k => h (ix2 r k)) (fun k => w (ix3 0 k n))) := by
  pointwise [act256, sig256, col256]
  rfl

/-- One chunk of the gated sum at an element. -/
theorem total_at (h : FVec Ideal S1024x1024 .bf16) (a : FVec Ideal S1024x512 .bf16) (b r f : FVec Ideal S1024x256 .bf16)
    (wa : Vec Ideal S1x512x256 .bf16) (ga : Vec Ideal S1x1024x256 .bf16) (wb : Vec Ideal S1x256x256 .bf16)
    (gb : Vec Ideal S1x1024x256 .bf16) (wr : Vec Ideal S1x256x256 .bf16) (gr : Vec Ideal S1x1024x256 .bf16)
    (wf : Vec Ideal S1x256x256 .bf16) (gf : Vec Ideal S1x1024x256 .bf16) (q : Fin 1024) (c : Fin 256) :
    total h a b r f wa ga wb gb wr gr wf gf (ix2 q c)
      = tot4 (dotc (fun k => h (ix2 q k)) (fun k => ga (ix3 0 k c))) (dotc (fun k => h (ix2 q k)) (fun k => gb (ix3 0 k c)))
          (dotc (fun k => h (ix2 q k)) (fun k => gr (ix3 0 k c))) (dotc (fun k => h (ix2 q k)) (fun k => gf (ix3 0 k c)))
          (dotc (fun n => a (ix2 q n)) (fun n => wa (ix3 0 n c))) (dotc (fun n => b (ix2 q n)) (fun n => wb (ix3 0 n c)))
          (dotc (fun n => r (ix2 q n)) (fun n => wr (ix3 0 n c))) (dotc (fun n => f (ix2 q n)) (fun n => wf (ix3 0 n c))) := by
  pointwise [total, sig256, col256, proj512, proj256]
  rfl

/-- The four chunks' output product at an element. -/
theorem y4_at (t0 t1 t2 t3 : FVec Ideal S1024x256 .f32) (w0 w1 w2 w3 : Vec Ideal S1x256x1024 .bf16) (r l : Fin 1024) :
    y4 t0 t1 t2 t3 w0 w1 w2 w3 (ix2 r l)
      = dotc (fun c => t0 (ix2 r c)) (fun c => w0 (ix3 0 c l)) + dotc (fun c => t1 (ix2 r c)) (fun c => w1 (ix3 0 c l))
        + dotc (fun c => t2 (ix2 r c)) (fun c => w2 (ix3 0 c l)) + dotc (fun c => t3 (ix2 r c)) (fun c => w3 (ix3 0 c l)) := by
  pointwise [y4, yStep]
  rfl

/-- The closing normalisation at an element. -/
theorem fin_at (x : Vec Ideal S1024x1024 .f32) (md : Vec Ideal S1x1x3072 .f32) (y : FVec Ideal S1024x1024 .f32)
    (g : Vec Ideal S1x1024 .f32) (r l : Fin 1024) :
    fin x md y g (ix2 r l) = outRow (fun k => x (ix2 r k)) (fun k => md (ix3 0 0 ⟨2048 + k.val, by omega⟩))
      (fun k => g (ix2 0 k)) (fun k => y (ix2 r k)) l := by
  pointwise [fin]
  rfl

/-- A sum of 1024 terms is the sum of four sums of 256. -/
theorem sum4 (f : Fin 1024 → EReal) :
    ∑ c, f c = (∑ c : Fin 256, f ⟨c.val, by omega⟩) + (∑ c : Fin 256, f ⟨256 + c.val, by omega⟩)
      + (∑ c : Fin 256, f ⟨512 + c.val, by omega⟩) + (∑ c : Fin 256, f ⟨768 + c.val, by omega⟩) := by
  show ∑ c : Fin (256 + 256 + 256 + 256), f c = _
  rw [Fin.sum_univ_add, Fin.sum_univ_add, Fin.sum_univ_add]
  rfl

/-- A selection by a decided condition. -/
theorem sel_ite {α : Type} (c : Prop) [Decidable c] (w : BitVec 1) (h : w = BitVec.ofBool (decide c)) (x y : α) :
    Scalar.select w x y = if c then x else y := by
  subst h
  by_cases hc : c
  · rw [decide_eq_true hc, if_pos hc]; rfl
  · rw [decide_eq_false hc, if_neg hc]; rfl

/-- The convolution at an element: row `r` of the block, its neighbours rolled in, the block's ends from the blocks
beside it or zero. -/
theorem conv_at (T : Nat) (hT : T < 4) (u : Vec Ideal S1024x256 .f32) (p n : Vec Ideal S1x256 .f32) (c0 c1 c2 cb : Vec Ideal S1x256 .f32)
    (v : Vec Ideal S1024x256 .f32) (r : Fin 1024) (l : Fin 256) (P N : EReal)
    (hp : (if h : r.val = 0 then (if 0 < T then p (ix2 0 l) else 0) else u (ix2 ⟨r.val - 1, by omega⟩ l)) = P)
    (hn : (if h : r.val = 1023 then (if T < 3 then n (ix2 0 l) else 0) else u (ix2 ⟨r.val + 1, by omega⟩ l)) = N) :
    conv (BitVec.ofNat 32 T) u p n c0 c1 c2 cb v (ix2 r l)
      = v (ix2 r l) * (P * c0 (ix2 0 l) + u (ix2 r l) * c1 (ix2 0 l) + N * c2 (ix2 0 l) + cb (ix2 0 l)) := by
  pointwise [conv, k0_pay7, k0_pay6, k0_pay5]
  have hr : r.val < 2 ^ 32 := by omega
  rw [sel_ite (r.val = 0) _ (WordCmp.cmpi_eq_ofNat hr (by decide)), sel_ite (r.val = 1023) _ (WordCmp.cmpi_eq_ofNat hr (by decide))]
  have e3 : ∀ {α : Type} (x y : α), Scalar.select (Scalar.cmpi .sgt (BitVec.ofNat 32 T) 0#32) x y = if 0 < T then x else y :=
    fun x y => sel_ite (0 < T) _ (WordCmp.cmpi_sgt_ofNat (w := 32) (b := 0) (by omega) (by decide)) x y
  have e4 : ∀ {α : Type} (x y : α), Scalar.select (Scalar.cmpi .slt (BitVec.ofNat 32 T) 3#32) x y = if T < 3 then x else y :=
    fun x y => sel_ite (T < 3) _ (WordCmp.cmpi_slt_ofNat (w := 32) (b := 3) (by omega) (by decide)) x y
  rw [e3, e4]
  subst hp hn
  congr 3
  · congr 2
    by_cases h : r.val = 0
    · rw [if_pos h, dif_pos h]
    · rw [if_neg h, dif_neg h]
      congr 2
      apply Fin.ext
      show (r.val + 1024 - 1) % 1024 = r.val - 1
      omega
  · congr 1
    by_cases h : r.val = 1023
    · rw [if_pos h, dif_pos h]
    · rw [if_neg h, dif_neg h]
      congr 2
      apply Fin.ext
      show (r.val + 1024 - 1023) % 1024 = r.val + 1
      omega

/-- The grid point's number within its sequence. -/
theorem tw_eq (i : grid0.Coords) : tw i = BitVec.ofNat 32 ((i 0).val % 4) :=
  (by decide +kernel : ∀ n : Fin 16, Scalar.select (Scalar.andi (Scalar.xori (Scalar.cmpi .slt (Scalar.remsi (BitVec.ofNat 32 n.val)
    (Scalar.select (Scalar.cmpi .eq 4#32 0#32) 1#32 4#32)) 0#32)
    (Scalar.cmpi .slt (Scalar.select (Scalar.cmpi .eq 4#32 0#32) 1#32 4#32) 0#32))
    (Scalar.cmpi .ne (Scalar.remsi (BitVec.ofNat 32 n.val) (Scalar.select (Scalar.cmpi .eq 4#32 0#32) 1#32 4#32)) 0#32))
    (Scalar.addi (Scalar.remsi (BitVec.ofNat 32 n.val) (Scalar.select (Scalar.cmpi .eq 4#32 0#32) 1#32 4#32))
      (Scalar.select (Scalar.cmpi .eq 4#32 0#32) 1#32 4#32))
    (Scalar.remsi (BitVec.ofNat 32 n.val) (Scalar.select (Scalar.cmpi .eq 4#32 0#32) 1#32 4#32)) = BitVec.ofNat 32 (n.val % 4)) (i 0)

/-- A gated sum by its parts. -/
theorem tot4_congr {za zb zr zf pa pb pr pf za' zb' zr' zf' : EReal} (h1 : za = za') (h2 : zb = zb') (h3 : zr = zr')
    (h4 : zf = zf') : tot4 za zb zr zf pa pb pr pf = tot4 za' zb' zr' zf' pa pb pr pf := by
  subst h1 h2 h3 h4; rfl

section Block

variable (A : Args) (b T : Fin 4)

/-- Row `r` of block `T` of a sequence. -/
abbrev row (T : Fin 4) (r : Fin 1024) : Fin 4096 := ⟨1024 * T.val + r.val, by omega⟩

variable (x0 : Vec Ideal S1024x1024 .f32) (x1 : Vec Ideal S1x1x3072 .f32) (x2 : Vec Ideal S1x1024 .f32) (x3 : Vec Ideal S1x1024 .f32) (x4 : Vec Ideal S1024x512 .f32) (x5 : Vec Ideal S1024x256 .f32) (x6 : Vec Ideal S8x256 .f32) (x7 : Vec Ideal S8x256 .f32) (x8 : Vec Ideal S1024x256 .f32) (x9 : Vec Ideal S1024x256 .f32) (x10 : Vec Ideal S1024x256 .f32) (x11 : Vec Ideal S3x256 .f32) (x12 : Vec Ideal S1x256 .f32) (x13 : Vec Ideal S1x1024x512 .bf16) (x14 : Vec Ideal S1x1024x256 .bf16) (x15 : Vec Ideal S1x1024x256 .bf16) (x16 : Vec Ideal S1x1024x4352 .bf16) (x17 : Vec Ideal S1x512x1024 .bf16) (x18 : Vec Ideal S1x256x1024 .bf16) (x19 : Vec Ideal S1x256x1024 .bf16) (x20 : Vec Ideal S1x256x1024 .bf16) (x21 : Vec Ideal S1x1024x1024 .bf16)

/-- The windows' blocks at block `T` of sequence `b` hold the arguments' elements. -/
structure Blk : Prop where
  e0 : ∀ (r k : Fin 1024), x0 (ix2 r k) = A.a0 (ix3 b (row T r) k)
  e1 : ∀ k : Fin 3072, x1 (ix3 0 0 k) = A.a1 (ix3 b 0 k)
  e2 : ∀ k : Fin 1024, x2 (ix2 0 k) = A.a2 (ix1 k)
  e3 : ∀ k : Fin 1024, x3 (ix2 0 k) = A.a3 (ix1 k)
  e4 : ∀ (r : Fin 1024) (n : Fin 512), x4 (ix2 r n) = A.a4 (ix3 b (row T r) n)
  e5 : ∀ (r : Fin 1024) (n : Fin 256), x5 (ix2 r n) = A.a5 (ix3 b (row T r) n)
  e6 : ∀ (_ : 0 < T.val) (n : Fin 256), x6 (ix2 7 n) = A.a5 (ix3 b ⟨1024 * T.val - 1, by omega⟩ n)
  e7 : ∀ (_ : T.val < 3) (n : Fin 256), x7 (ix2 0 n) = A.a5 (ix3 b ⟨1024 * T.val + 1024, by omega⟩ n)
  e8 : ∀ (r : Fin 1024) (n : Fin 256), x8 (ix2 r n) = A.a6 (ix3 b (row T r) n)
  e9 : ∀ (r : Fin 1024) (n : Fin 256), x9 (ix2 r n) = A.a7 (ix3 b (row T r) n)
  e10 : ∀ (r : Fin 1024) (n : Fin 256), x10 (ix2 r n) = A.a8 (ix3 b (row T r) n)
  e11 : ∀ (j : Fin 3) (n : Fin 256), x11 (ix2 j n) = A.a9 (ix2 j n)
  e12 : ∀ n : Fin 256, x12 (ix2 0 n) = A.a10 (ix1 n)
  e13 : ∀ (k : Fin 1024) (n : Fin 512), x13 (ix3 0 k n) = A.a11 (ix3 0 k ⟨768 + n.val, by omega⟩)
  e14 : ∀ (k : Fin 1024) (n : Fin 256), x14 (ix3 0 k n) = A.a11 (ix3 0 k ⟨2048 + n.val, by omega⟩)
  e15 : ∀ (k : Fin 1024) (n : Fin 256), x15 (ix3 0 k n) = A.a11 (ix3 0 k ⟨3072 + n.val, by omega⟩)
  e16 : ∀ (k : Fin 1024) (n : Fin 4352), x16 (ix3 0 k n) = A.a11 (ix3 0 k ⟨3584 + n.val, by omega⟩)
  e17 : ∀ (n : Fin 512) (c : Fin 1024), x17 (ix3 0 n c) = A.a12 (ix3 0 n c)
  e18 : ∀ (n : Fin 256) (c : Fin 1024), x18 (ix3 0 n c) = A.a13 (ix3 0 n c)
  e19 : ∀ (n : Fin 256) (c : Fin 1024), x19 (ix3 0 n c) = A.a14 (ix3 0 n c)
  e20 : ∀ (n : Fin 256) (c : Fin 1024), x20 (ix3 0 n c) = A.a15 (ix3 0 n c)
  e21 : ∀ (n c : Fin 1024), x21 (ix3 0 n c) = A.a16 (ix3 0 n c)

variable {A b T x0 x1 x2 x3 x4 x5 x6 x7 x8 x9 x10 x11 x12 x13 x14 x15 x16 x17 x18 x19 x20 x21}
variable (B : Blk A b T x0 x1 x2 x3 x4 x5 x6 x7 x8 x9 x10 x11 x12 x13 x14 x15 x16 x17 x18 x19 x20 x21)
include B

/-- The block's modulated rows. -/
theorem h_blk (r k : Fin 1024) : hN (View.ld x0 r0_0) (View.ld x1 r0_1) (View.ld x2 r0_2) (ix2 r k) = hx A b (row T r) k := by
  rw [hN_at]
  pointwise
  simp only [B.e0, B.e1, B.e2]
  rfl

variable {h : FVec Ideal S1024x1024 .bf16} (hh : ∀ r k, h (ix2 r k) = hx A b (row T r) k)
include hh

/-- The block's attention activation. -/
theorem a_blk (r : Fin 1024) (n : Fin 512) :
    act512 h (View.ld x4 r0_10) (View.ld x13 r0_11) (ix2 r n) = actA A b (row T r) n := by
  rw [act512_at]
  pointwise
  simp only [B.e4, B.e13, hh]
  rfl

/-- The block's convolution activation. -/
theorem b_blk (i : grid0.Coords) (hi : (i 0).val % 4 = T.val) (r : Fin 1024) (n : Fin 256) :
    act256 h (conv (tw i) (View.ld x5 r0_3) (View.ld x6 r0_4) (View.ld x7 r0_5) (View.ld x11 r0_6) (View.ld x11 r0_7)
      (View.ld x11 r0_8) (View.ld x12 r0_9) (View.ld x8 r0_3)) (View.ld x14 r0_12) (ix2 r n) = actB A b (row T r) n := by
  rw [act256_at, tw_eq, hi, conv_at T.val T.isLt _ _ _ _ _ _ _ _ r n _ _ rfl rfl]
  pointwise
  simp only [B.e5, B.e8, B.e11, B.e12, B.e14, hh]
  unfold actB yb
  congr 2
  have hT : T.val < 4 := T.isLt
  have hr : r.val < 1024 := r.isLt
  have e1 : (if h : r.val = 0 then if 0 < T.val then x6 (ix2 7 n) else 0 else A.a5 (ix3 b (row T ⟨r.val - 1, by omega⟩) n))
      = if h : (row T r).val = 0 then 0 else A.a5 (ix3 b ⟨(row T r).val - 1, by omega⟩ n) := by
    by_cases h : r.val = 0
    · rw [dif_pos h]
      by_cases h' : 0 < T.val
      · rw [if_pos h', dif_neg (by show ¬ 1024 * T.val + r.val = 0; omega), B.e6 h']
        congr 2; apply Fin.ext; show 1024 * T.val - 1 = 1024 * T.val + r.val - 1; omega
      · rw [if_neg h', dif_pos (by show 1024 * T.val + r.val = 0; omega)]
    · rw [dif_neg h, dif_neg (by show ¬ 1024 * T.val + r.val = 0; omega)]
      congr 2; apply Fin.ext; show 1024 * T.val + (r.val - 1) = 1024 * T.val + r.val - 1; omega
  have e2 : (if h : r.val = 1023 then if T.val < 3 then x7 (ix2 0 n) else 0 else A.a5 (ix3 b (row T ⟨r.val + 1, by omega⟩) n))
      = if h : (row T r).val = 4095 then 0 else A.a5 (ix3 b ⟨(row T r).val + 1, by omega⟩ n) := by
    by_cases h : r.val = 1023
    · rw [dif_pos h]
      by_cases h' : T.val < 3
      · rw [if_pos h', dif_neg (by show ¬ 1024 * T.val + r.val = 4095; omega), B.e7 h']
        congr 2; apply Fin.ext; show 1024 * T.val + 1024 = 1024 * T.val + r.val + 1; omega
      · rw [if_neg h', dif_pos (by show 1024 * T.val + r.val = 4095; omega)]
    · rw [dif_neg h, dif_neg (by show ¬ 1024 * T.val + r.val = 4095; omega)]
      congr 2
  rw [e1, e2]

/-- The block's retention activation. -/
theorem r_blk (r : Fin 1024) (n : Fin 256) :
    act256 h (k0_pay8 (View.ld x9 r0_3)) (View.ld x15 r0_12) (ix2 r n) = actR A b (row T r) n := by
  rw [act256_at]
  pointwise [k0_pay8]
  simp only [B.e9, B.e15, hh]
  rfl

/-- The block's Fourier activation. -/
theorem f_blk (r : Fin 1024) (n : Fin 256) :
    act256 h (k0_pay9 (View.ld x10 r0_3)) (View.ld x16 r0_13) (ix2 r n) = actF A b (row T r) n := by
  rw [act256_at]
  pointwise [k0_pay9]
  simp only [B.e10, B.e16, hh]
  rfl

variable {aa : FVec Ideal S1024x512 .bf16} {bb rr ff : FVec Ideal S1024x256 .bf16}
  (ha : ∀ r n, aa (ix2 r n) = actA A b (row T r) n) (hb : ∀ r n, bb (ix2 r n) = actB A b (row T r) n)
  (hr : ∀ r n, rr (ix2 r n) = actR A b (row T r) n) (hf : ∀ r n, ff (ix2 r n) = actF A b (row T r) n)
include ha hb hr hf

/-- The first chunk of the gated sum. -/
theorem t0_blk (q : Fin 1024) (c : Fin 256) : total h aa bb rr ff (View.ld x17 r0_14) (View.ld x16 r0_15) (View.ld x18 r0_16)
    (View.ld x16 r0_17) (View.ld x19 r0_16) (View.ld x16 r0_18) (View.ld x20 r0_16) (View.ld x16 r0_19) (ix2 q c)
      = tot A b (row T q) ⟨c.val, by omega⟩ := by
  rw [total_at]
  pointwise
  simp only [B.e16, B.e17, B.e18, B.e19, B.e20, hh, ha, hb, hr, hf]
  exact tot4_congr
    (congrArg (zc A b (row T q)) (Fin.ext (show 3584 + (256 + c.val) = 3840 + c.val by omega)))
    (congrArg (zc A b (row T q)) (Fin.ext (show 3584 + (1280 + c.val) = 4864 + c.val by omega)))
    (congrArg (zc A b (row T q)) (Fin.ext (show 3584 + (2304 + c.val) = 5888 + c.val by omega)))
    (congrArg (zc A b (row T q)) (Fin.ext (show 3584 + (3328 + c.val) = 6912 + c.val by omega)))

/-- The second chunk of the gated sum. -/
theorem t1_blk (q : Fin 1024) (c : Fin 256) : total h aa bb rr ff (View.ld x17 r0_21) (View.ld x16 r0_22) (View.ld x18 r0_23)
    (View.ld x16 r0_24) (View.ld x19 r0_23) (View.ld x16 r0_25) (View.ld x20 r0_23) (View.ld x16 r0_26) (ix2 q c)
      = tot A b (row T q) ⟨256 + c.val, by omega⟩ := by
  rw [total_at]
  pointwise
  simp only [B.e16, B.e17, B.e18, B.e19, B.e20, hh, ha, hb, hr, hf]
  exact tot4_congr
    (congrArg (zc A b (row T q)) (Fin.ext (show 3584 + (512 + c.val) = 3840 + (256 + c.val) by omega)))
    (congrArg (zc A b (row T q)) (Fin.ext (show 3584 + (1536 + c.val) = 4864 + (256 + c.val) by omega)))
    (congrArg (zc A b (row T q)) (Fin.ext (show 3584 + (2560 + c.val) = 5888 + (256 + c.val) by omega)))
    (congrArg (zc A b (row T q)) (Fin.ext (show 3584 + (3584 + c.val) = 6912 + (256 + c.val) by omega)))

/-- The third chunk of the gated sum. -/
theorem t2_blk (q : Fin 1024) (c : Fin 256) : total h aa bb rr ff (View.ld x17 r0_28) (View.ld x16 r0_29) (View.ld x18 r0_30)
    (View.ld x16 r0_31) (View.ld x19 r0_30) (View.ld x16 r0_32) (View.ld x20 r0_30) (View.ld x16 r0_33) (ix2 q c)
      = tot A b (row T q) ⟨512 + c.val, by omega⟩ := by
  rw [total_at]
  pointwise
  simp only [B.e16, B.e17, B.e18, B.e19, B.e20, hh, ha, hb, hr, hf]
  exact tot4_congr
    (congrArg (zc A b (row T q)) (Fin.ext (show 3584 + (768 + c.val) = 3840 + (512 + c.val) by omega)))
    (congrArg (zc A b (row T q)) (Fin.ext (show 3584 + (1792 + c.val) = 4864 + (512 + c.val) by omega)))
    (congrArg (zc A b (row T q)) (Fin.ext (show 3584 + (2816 + c.val) = 5888 + (512 + c.val) by omega)))
    (congrArg (zc A b (row T q)) (Fin.ext (show 3584 + (3840 + c.val) = 6912 + (512 + c.val) by omega)))

/-- The fourth chunk of the gated sum. -/
theorem t3_blk (q : Fin 1024) (c : Fin 256) : total h aa bb rr ff (View.ld x17 r0_35) (View.ld x16 r0_36) (View.ld x18 r0_37)
    (View.ld x16 r0_38) (View.ld x19 r0_37) (View.ld x16 r0_39) (View.ld x20 r0_37) (View.ld x16 r0_40) (ix2 q c)
      = tot A b (row T q) ⟨768 + c.val, by omega⟩ := by
  rw [total_at]
  pointwise
  simp only [B.e16, B.e17, B.e18, B.e19, B.e20, hh, ha, hb, hr, hf]
  exact tot4_congr
    (congrArg (zc A b (row T q)) (Fin.ext (show 3584 + (1024 + c.val) = 3840 + (768 + c.val) by omega)))
    (congrArg (zc A b (row T q)) (Fin.ext (show 3584 + (2048 + c.val) = 4864 + (768 + c.val) by omega)))
    (congrArg (zc A b (row T q)) (Fin.ext (show 3584 + (3072 + c.val) = 5888 + (768 + c.val) by omega)))
    (congrArg (zc A b (row T q)) (Fin.ext (show 3584 + (4096 + c.val) = 6912 + (768 + c.val) by omega)))

omit hh ha hb hr hf in
/-- The block of results: the rows that the merge leaves. -/
theorem out_blk (i : grid0.Coords) (hi : (i 0).val % 4 = T.val) (r l : Fin 1024) :
    out0_22 i x0 x1 x2 x3 x4 x5 x6 x7 x8 x9 x10 x11 x12 x13 x14 x15 x16 x17 x18 x19 x20 x21 (ix2 r l) = res A b (row T r) l := by
  rw [out_eq i x0 x1 x2 x3 x4 x5 x6 x7 x8 x9 x10 x11 x12 x13 x14 x15 x16 x17 x18 x19 x20 x21 _ rfl _ rfl _ rfl _ rfl _ rfl]
  have hh := h_blk B
  have ha := a_blk B hh
  have hb := b_blk B hh i hi
  have hr := r_blk B hh
  have hf := f_blk B hh
  have t0 := t0_blk B hh ha hb hr hf
  have t1 := t1_blk B hh ha hb hr hf
  have t2 := t2_blk B hh ha hb hr hf
  have t3 := t3_blk B hh ha hb hr hf
  generalize total (F := Ideal) _ _ _ _ _ (View.ld x17 r0_14) _ _ _ _ _ _ _ = T0 at t0 ⊢
  generalize total (F := Ideal) _ _ _ _ _ (View.ld x17 r0_21) _ _ _ _ _ _ _ = T1 at t1 ⊢
  generalize total (F := Ideal) _ _ _ _ _ (View.ld x17 r0_28) _ _ _ _ _ _ _ = T2 at t2 ⊢
  generalize total (F := Ideal) _ _ _ _ _ (View.ld x17 r0_35) _ _ _ _ _ _ _ = T3 at t3 ⊢
  have hy : ∀ q, y4 T0 T1 T2 T3 (View.ld x21 r0_20) (View.ld x21 r0_27) (View.ld x21 r0_34) (View.ld x21 r0_41) (ix2 r q)
      = yOut A b (row T r) q := fun q => by
    rw [y4_at]
    unfold yOut dotc
    rw [sum4]
    pointwise
    simp only [t0, t1, t2, t3, B.e21]
  generalize y4 (F := Ideal) _ _ _ _ _ _ _ _ = Y at hy ⊢
  have hfin : fin (View.ld x0 r0_0) (View.ld x1 r0_1) Y (View.ld x3 r0_2) (ix2 r l) = res A b (row T r) l := by
    rw [fin_at]
    pointwise
    simp only [B.e0, B.e1, B.e3, hy]
    rfl
  refine Eq.trans ?_ hfin
  exact congrFun (View.canon_unit_zero (by funext a; fin_cases a <;> rfl) _ _) _

end Block

end Cert.MergeK

end
-- ==== Proof.MergeArr.lean ====
module

public import proofs.«01_k».proof.Proof.MergeBlock
public import proofs.«01_k».proof.Proof.Gen.Kernel2Ideal.Value
public import Idealize.ShloMosaic.Lib.Pipeline.ValueKit

/-! The merge kernel's result array: each grid point's windows hold the argument arrays' elements of its sequence and
rows, so the array is `Merge.resArr` of the arguments. -/

@[expose] public section

set_option maxRecDepth 16384

noncomputable section

namespace Cert.MergeK

open Cert.Kernel2Ideal Cert.Kernel2Ideal.Gen Cert.Merge Idealize.ShloMosaic Idealize.ShloMosaic.TcCoe Idealize.SL.Sem

/-- The arguments a device's memory holds at launch. -/
def argsOf (m : (ℓ : Loc nD τ sig) → Buf (Elt Ideal) ℓ) (c : Dev nD) : Args where
  a0 := m ((c.tc : Thread nD τ).loc main_arg0)
  a1 := m ((c.tc : Thread nD τ).loc main_arg1)
  a2 := m ((c.tc : Thread nD τ).loc main_arg2)
  a3 := m ((c.tc : Thread nD τ).loc main_arg3)
  a4 := m ((c.tc : Thread nD τ).loc main_arg4)
  a5 := m ((c.tc : Thread nD τ).loc main_arg5)
  a6 := m ((c.tc : Thread nD τ).loc main_arg6)
  a7 := m ((c.tc : Thread nD τ).loc main_arg7)
  a8 := m ((c.tc : Thread nD τ).loc main_arg8)
  a9 := m ((c.tc : Thread nD τ).loc main_arg9)
  a10 := m ((c.tc : Thread nD τ).loc main_arg10)
  a11 := m ((c.tc : Thread nD τ).loc main_arg11)
  a12 := m ((c.tc : Thread nD τ).loc main_arg12)
  a13 := m ((c.tc : Thread nD τ).loc main_arg13)
  a14 := m ((c.tc : Thread nD τ).loc main_arg14)
  a15 := m ((c.tc : Thread nD τ).loc main_arg15)
  a16 := m ((c.tc : Thread nD τ).loc main_arg16)

/-- Where each window's block lies at a grid point. -/
theorem idxA : ∀ t : Fin cfg0.N, win0_0.index t = ![t.val, 0] ∧ win0_1.index t = ![t.val / 4, 0, 0] ∧ win0_2.index t = ![0, 0]
    ∧ win0_3.index t = ![0, 0] ∧ win0_4.index t = ![t.val, 0] ∧ win0_5.index t = ![t.val, 0]
    ∧ win0_6.index t = ![128 * t.val - 1, 0] ∧ win0_7.index t = ![min (128 * t.val + 128) 2047, 0]
    ∧ win0_8.index t = ![t.val, 0] ∧ win0_9.index t = ![t.val, 0] ∧ win0_10.index t = ![t.val, 0] ∧ win0_22.index t = ![t.val, 0] :=
  (by decide +kernel : ∀ t : Fin grid0.N, _)

/-- The convolution weights' windows and the grid coordinate. -/
theorem idxB : ∀ t : Fin cfg0.N, win0_11.index t = ![0, 0] ∧ win0_12.index t = ![0, 0]
    ∧ (grid0.coords t 0).val = t.val :=
  (by decide +kernel : ∀ t : Fin grid0.N, _)

/-- The projection weights' windows. -/
theorem idxC : ∀ t : Fin cfg0.N, win0_17.index t = ![0, 0, 0] ∧ win0_18.index t = ![0, 0, 0]
    ∧ win0_19.index t = ![0, 0, 0] ∧ win0_20.index t = ![0, 0, 0] ∧ win0_21.index t = ![0, 0, 0] :=
  (by decide +kernel : ∀ t : Fin grid0.N, _)

/-- The element offsets of the input weight's column windows. -/
theorem idxE : ∀ t : Fin cfg0.N, cc0_transform_13 (grid0.coords t) = ![0, 0, 768] ∧ cc0_transform_14 (grid0.coords t) = ![0, 0, 2048]
    ∧ cc0_transform_15 (grid0.coords t) = ![0, 0, 3072] ∧ cc0_transform_16 (grid0.coords t) = ![0, 0, 3584] :=
  (by decide +kernel : ∀ t : Fin grid0.N, _)

/-- The result array at a block's row. -/
theorem resArr_at (A : Args) (t : Fin 16) (r l : Fin 1024) :
    res A ⟨t.val / 4, by omega⟩ (row ⟨t.val % 4, by omega⟩ r) l = resArr A (ix2 ⟨1024 * t.val + r.val, by omega⟩ l) := by
  have e1 : (⟨t.val / 4, by omega⟩ : Fin 4) = ⟨(1024 * t.val + r.val) / 4096, by omega⟩ := by
    apply Fin.ext
    show t.val / 4 = (1024 * t.val + r.val) / 4096
    omega
  have e2 : row ⟨t.val % 4, by omega⟩ r = ⟨(1024 * t.val + r.val) % 4096, by omega⟩ := by
    apply Fin.ext
    show 1024 * (t.val % 4) + r.val = (1024 * t.val + r.val) % 4096
    omega
  rw [e1, e2]
  rfl

variable (m : (ℓ : Loc nD τ sig) → Buf (Elt Ideal) ℓ) (c : Dev nD) (t : Fin cfg0.N) (b T : Fin 4) (ht : t.val = 4 * b.val + T.val)

include ht

/-- Window 0's block. -/
theorem x0_eq (r k : Fin 1024) : iblk m c 0 t (ix2 r k) = (argsOf m c).a0 (ix3 b (row T r) k) := by
  have _ := ht
  unfold argsOf
  blk_ext! [iblk, V, idxA t]

/-- Window 1's block. -/
theorem x1_eq (k : Fin 3072) : iblk m c 1 t (ix3 0 0 k) = (argsOf m c).a1 (ix3 b 0 k) := by
  have _ := ht
  unfold argsOf
  blk_ext! [iblk, V, idxA t]

/-- Window 4's block. -/
theorem x4_eq (r : Fin 1024) (n : Fin 512) : iblk m c 4 t (ix2 r n) = (argsOf m c).a4 (ix3 b (row T r) n) := by
  have _ := ht
  unfold argsOf
  blk_ext! [iblk, V, idxA t]

/-- Window 5's block. -/
theorem x5_eq (r : Fin 1024) (n : Fin 256) : iblk m c 5 t (ix2 r n) = (argsOf m c).a5 (ix3 b (row T r) n) := by
  have _ := ht
  unfold argsOf
  blk_ext! [iblk, V, idxA t]

/-- Window 6's block. -/
theorem x6_eq (h : 0 < T.val) (n : Fin 256) : iblk m c 6 t (ix2 7 n) = (argsOf m c).a5 (ix3 b ⟨1024 * T.val - 1, by omega⟩ n) := by
  have _ := ht
  unfold argsOf
  blk_ext! [iblk, V, idxA t]

/-- Window 7's block. -/
theorem x7_eq (h : T.val < 3) (n : Fin 256) : iblk m c 7 t (ix2 0 n) = (argsOf m c).a5 (ix3 b ⟨1024 * T.val + 1024, by omega⟩ n) := by
  have _ := ht
  unfold argsOf
  blk_ext! [iblk, V, idxA t]

/-- Window 8's block. -/
theorem x8_eq (r : Fin 1024) (n : Fin 256) : iblk m c 8 t (ix2 r n) = (argsOf m c).a6 (ix3 b (row T r) n) := by
  have _ := ht
  unfold argsOf
  blk_ext! [iblk, V, idxA t]

/-- Window 9's block. -/
theorem x9_eq (r : Fin 1024) (n : Fin 256) : iblk m c 9 t (ix2 r n) = (argsOf m c).a7 (ix3 b (row T r) n) := by
  have _ := ht
  unfold argsOf
  blk_ext! [iblk, V, idxA t]

/-- Window 10's block. -/
theorem x10_eq (r : Fin 1024) (n : Fin 256) : iblk m c 10 t (ix2 r n) = (argsOf m c).a8 (ix3 b (row T r) n) := by
  have _ := ht
  unfold argsOf
  blk_ext! [iblk, V, idxA t]

omit ht

/-- Window 2's block. -/
theorem x2_eq (k : Fin 1024) : iblk m c 2 t (ix2 0 k) = (argsOf m c).a2 (ix1 k) := by
  unfold argsOf
  blk_ext! [iblk, V, idxA t]

/-- Window 3's block. -/
theorem x3_eq (k : Fin 1024) : iblk m c 3 t (ix2 0 k) = (argsOf m c).a3 (ix1 k) := by
  unfold argsOf
  blk_ext! [iblk, V, idxA t]

/-- Window 11's block. -/
theorem x11_eq (j : Fin 3) (n : Fin 256) : iblk m c 11 t (ix2 j n) = (argsOf m c).a9 (ix2 j n) := by
  unfold argsOf
  blk_ext! [iblk, V, idxB t]

/-- Window 12's block. -/
theorem x12_eq (n : Fin 256) : iblk m c 12 t (ix2 0 n) = (argsOf m c).a10 (ix1 n) := by
  unfold argsOf
  blk_ext! [iblk, V, idxB t]

/-- Window 13's block. -/
theorem x13_eq (k : Fin 1024) (n : Fin 512) : iblk m c 13 t (ix3 0 k n) = (argsOf m c).a11 (ix3 0 k ⟨768 + n.val, by omega⟩) := by
  unfold argsOf
  blk_ext! [iblk, V, idxE t]
  · show cc0_transform_13 (grid0.coords t) 0 + 1 * 0 = 0
    simp [idxE t]
  · show cc0_transform_13 (grid0.coords t) 1 + 1 * k.val = k.val
    simp [idxE t]
  · show cc0_transform_13 (grid0.coords t) 2 + 1 * n.val = _
    simp [idxE t]

/-- Window 14's block. -/
theorem x14_eq (k : Fin 1024) (n : Fin 256) : iblk m c 14 t (ix3 0 k n) = (argsOf m c).a11 (ix3 0 k ⟨2048 + n.val, by omega⟩) := by
  unfold argsOf
  blk_ext! [iblk, V, idxE t]
  · show cc0_transform_14 (grid0.coords t) 0 + 1 * 0 = 0
    simp [idxE t]
  · show cc0_transform_14 (grid0.coords t) 1 + 1 * k.val = k.val
    simp [idxE t]
  · show cc0_transform_14 (grid0.coords t) 2 + 1 * n.val = _
    simp [idxE t]

/-- Window 15's block. -/
theorem x15_eq (k : Fin 1024) (n : Fin 256) : iblk m c 15 t (ix3 0 k n) = (argsOf m c).a11 (ix3 0 k ⟨3072 + n.val, by omega⟩) := by
  unfold argsOf
  blk_ext! [iblk, V, idxE t]
  · show cc0_transform_15 (grid0.coords t) 0 + 1 * 0 = 0
    simp [idxE t]
  · show cc0_transform_15 (grid0.coords t) 1 + 1 * k.val = k.val
    simp [idxE t]
  · show cc0_transform_15 (grid0.coords t) 2 + 1 * n.val = _
    simp [idxE t]

/-- Window 16's block. -/
theorem x16_eq (k : Fin 1024) (n : Fin 4352) : iblk m c 16 t (ix3 0 k n) = (argsOf m c).a11 (ix3 0 k ⟨3584 + n.val, by omega⟩) := by
  unfold argsOf
  blk_ext! [iblk, V, idxE t]
  · show cc0_transform_16 (grid0.coords t) 0 + 1 * 0 = 0
    simp [idxE t]
  · show cc0_transform_16 (grid0.coords t) 1 + 1 * k.val = k.val
    simp [idxE t]
  · show cc0_transform_16 (grid0.coords t) 2 + 1 * n.val = _
    simp [idxE t]

/-- Window 17's block. -/
theorem x17_eq (n : Fin 512) (k : Fin 1024) : iblk m c 17 t (ix3 0 n k) = (argsOf m c).a12 (ix3 0 n k) := by
  unfold argsOf
  blk_ext! [iblk, V, idxC t]

/-- Window 18's block. -/
theorem x18_eq (n : Fin 256) (k : Fin 1024) : iblk m c 18 t (ix3 0 n k) = (argsOf m c).a13 (ix3 0 n k) := by
  unfold argsOf
  blk_ext! [iblk, V, idxC t]

/-- Window 19's block. -/
theorem x19_eq (n : Fin 256) (k : Fin 1024) : iblk m c 19 t (ix3 0 n k) = (argsOf m c).a14 (ix3 0 n k) := by
  unfold argsOf
  blk_ext! [iblk, V, idxC t]

/-- Window 20's block. -/
theorem x20_eq (n : Fin 256) (k : Fin 1024) : iblk m c 20 t (ix3 0 n k) = (argsOf m c).a15 (ix3 0 n k) := by
  unfold argsOf
  blk_ext! [iblk, V, idxC t]

/-- Window 21's block. -/
theorem x21_eq (n : Fin 1024) (k : Fin 1024) : iblk m c 21 t (ix3 0 n k) = (argsOf m c).a16 (ix3 0 n k) := by
  unfold argsOf
  blk_ext! [iblk, V, idxC t]

include ht in
/-- A grid point's windows are the blocks the merge's row lemmas take. -/
theorem blk : Blk (argsOf m c) b T (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) :=
  ⟨x0_eq m c t b T ht, x1_eq m c t b T ht, x2_eq m c t, x3_eq m c t, x4_eq m c t b T ht, x5_eq m c t b T ht, x6_eq m c t b T ht, x7_eq m c t b T ht, x8_eq m c t b T ht, x9_eq m c t b T ht, x10_eq m c t b T ht, x11_eq m c t, x12_eq m c t, x13_eq m c t b T, x14_eq m c t b T, x15_eq m c t b T, x16_eq m c t b T, x17_eq m c t, x18_eq m c t, x19_eq m c t, x20_eq m c t, x21_eq m c t⟩

/-- Where the output window's block lies in the result array. -/
theorem out_emb (Z : A2 16384 1024) (t : Fin cfg0.N) (r l : Fin 1024) (h : 1024 * t.val + r.val < 16384) :
    Z (ix2 ⟨1024 * t.val + r.val, h⟩ l) = Z ((win0_22.blk t).view.emb (ix2 r l)) := by
  blk_ext [idxA t]

/-- The kernel's result array is the merge of its arguments. -/
theorem arr_eq : (dats m 0 c).arrAt 22 cfg0.N = resArr (argsOf m c) := by
  refine (dats m 0 c).arrAt_eq_of_covers 22 _ (by decide +kernel) fun t hf y => ?_
  blk_simp
  rw [after0_22]
  have hN : t.val < 16 := t.isLt
  obtain ⟨r, l, rfl⟩ : ∃ (r l : Fin 1024), y = ix2 r l := ⟨y 0, y 1, by funext a; fin_cases a <;> rfl⟩
  have ht : t.val = 4 * (⟨t.val / 4, by omega⟩ : Fin 4).val + (⟨t.val % 4, by omega⟩ : Fin 4).val := by
    show t.val = 4 * (t.val / 4) + t.val % 4
    omega
  have hB := out_blk (blk m c t _ _ ht) (grid0.coords t) (by rw [(idxB t).2.2]) r l
  exact hB.trans ((resArr_at (argsOf m c) ⟨t.val, hN⟩ r l).trans (out_emb _ t r l (by omega)))

end Cert.MergeK

end
-- ==== Proof.MergeLine.lean ====
module
public import proofs.«01_k».proof.Proof.Gen.Reference2Ideal
public import Idealize.ShloMosaic.Lib.StableHlo.RunHlo
public import Idealize.ShloMosaic.Lib.StableHlo.RunRead
public import Idealize.ShloMosaic.Lib.Pipeline.Frame
public import Idealize.ShloMosaic.PureOps.Ideal.Laws

/-! The reference's host operations as nine short lines, one after the other, and its run: every buffer ends with what
the nine lines leave in it. -/

@[expose] public section
set_option maxRecDepth 16384
noncomputable section
namespace Cert.MergeLine
open Cert.Reference2Ideal Cert.Reference2Ideal.Gen Idealize.ShloMosaic Idealize.ShloMosaic.TcCoe Idealize.SL.Sem Idealize.ShloMosaic.StableHlo
variable {F : FTy → Type} [FloatOps F]

/-- The modulated rows. -/
abbrev c0 : List (HloOp τ sig (Elt F)) :=
  [ unary main_arg1 main_v0 ((extractStridedSlice S4x1x1024 ![0, 0, 0] · slices_S4x1x3072_S4x1x1024_0_0_0) : (⟨S4x1x3072, .f32⟩ : BufTy).Contents (Elt F) → (⟨S4x1x1024, .f32⟩ : BufTy).Contents (Elt F)),
    unary main_arg1 main_v1 ((extractStridedSlice S4x1x1024 ![0, 0, 1024] · slices_S4x1x3072_S4x1x1024_0_0_1024) : (⟨S4x1x3072, .f32⟩ : BufTy).Contents (Elt F) → (⟨S4x1x1024, .f32⟩ : BufTy).Contents (Elt F)),
    unary main_arg1 main_v2 ((extractStridedSlice S4x1x1024 ![0, 0, 2048] · slices_S4x1x3072_S4x1x1024_0_0_2048) : (⟨S4x1x3072, .f32⟩ : BufTy).Contents (Elt F) → (⟨S4x1x1024, .f32⟩ : BufTy).Contents (Elt F)),
    binary main_arg0 main_arg0 main_v3 (mulf : (⟨S4x4096x1024, .f32⟩ : BufTy).Contents (Elt F) → (⟨S4x4096x1024, .f32⟩ : BufTy).Contents (Elt F) → (⟨S4x4096x1024, .f32⟩ : BufTy).Contents (Elt F)),
    nullary main_cst (constant S_ .f32 0x00000000#32),
    binary main_v3 main_cst main_v4 ((fun x v => Host.reduceAdd x v reducesTo_S4x4096x1024_S4x4096_d2 h_S_) : (⟨S4x4096x1024, .f32⟩ : BufTy).Contents (Elt F) → (⟨S_, .f32⟩ : BufTy).Contents (Elt F) → (⟨S4x4096, .f32⟩ : BufTy).Contents (Elt F)),
    unary main_v4 main_v5 (broadcastInDim S4x4096x1 ![0, 1] bcast_S4x4096_S4x4096x1_0_1 : (⟨S4x4096, .f32⟩ : BufTy).Contents (Elt F) → (⟨S4x4096x1, .f32⟩ : BufTy).Contents (Elt F)),
    nullary main_cst_0 (constant S_ .f32 0x44800000#32),
    unary main_cst_0 main_v6 (broadcastInDim S4x4096x1 ![] bcast_S_S4x4096x1 : (⟨S_, .f32⟩ : BufTy).Contents (Elt F) → (⟨S4x4096x1, .f32⟩ : BufTy).Contents (Elt F)),
    binary main_v5 main_v6 main_v7 (Host.divf : (⟨S4x4096x1, .f32⟩ : BufTy).Contents (Elt F) → (⟨S4x4096x1, .f32⟩ : BufTy).Contents (Elt F) → (⟨S4x4096x1, .f32⟩ : BufTy).Contents (Elt F)),
    nullary main_cst_1 (constant S_ .f32 0x358637BD#32),
    unary main_cst_1 main_v8 (broadcastInDim S4x4096x1 ![] bcast_S_S4x4096x1 : (⟨S_, .f32⟩ : BufTy).Contents (Elt F) → (⟨S4x4096x1, .f32⟩ : BufTy).Contents (Elt F)),
    binary main_v7 main_v8 main_v9 (addf : (⟨S4x4096x1, .f32⟩ : BufTy).Contents (Elt F) → (⟨S4x4096x1, .f32⟩ : BufTy).Contents (Elt F) → (⟨S4x4096x1, .f32⟩ : BufTy).Contents (Elt F)),
    unary main_v9 main_v10 (Host.rsqrt : (⟨S4x4096x1, .f32⟩ : BufTy).Contents (Elt F) → (⟨S4x4096x1, .f32⟩ : BufTy).Contents (Elt F)),
    unary main_v10 main_v11 (broadcastInDim S4x4096x1024 ![0, 1, 2] bcast_S4x4096x1_S4x4096x1024_0_1_2 : (⟨S4x4096x1, .f32⟩ : BufTy).Contents (Elt F) → (⟨S4x4096x1024, .f32⟩ : BufTy).Contents (Elt F)),
    binary main_arg0 main_v11 main_v12 (mulf : (⟨S4x4096x1024, .f32⟩ : BufTy).Contents (Elt F) → (⟨S4x4096x1024, .f32⟩ : BufTy).Contents (Elt F) → (⟨S4x4096x1024, .f32⟩ : BufTy).Contents (Elt F)),
    unary main_arg2 main_v13 (broadcastInDim S1x1x1024 ![2] bcast_S1024_S1x1x1024_2 : (⟨S1024, .f32⟩ : BufTy).Contents (Elt F) → (⟨S1x1x1024, .f32⟩ : BufTy).Contents (Elt F)),
    unary main_v13 main_v14 (broadcastInDim S4x4096x1024 ![0, 1, 2] bcast_S1x1x1024_S4x4096x1024_0_1_2 : (⟨S1x1x1024, .f32⟩ : BufTy).Contents (Elt F) → (⟨S4x4096x1024, .f32⟩ : BufTy).Contents (Elt F)),
    binary main_v12 main_v14 main_v15 (mulf : (⟨S4x4096x1024, .f32⟩ : BufTy).Contents (Elt F) → (⟨S4x4096x1024, .f32⟩ : BufTy).Contents (Elt F) → (⟨S4x4096x1024, .f32⟩ : BufTy).Contents (Elt F)),
    nullary main_cst_2 (constant S_ .f32 0x3F800000#32),
    unary main_cst_2 main_v16 (broadcastInDim S4x1x1024 ![] bcast_S_S4x1x1024 : (⟨S_, .f32⟩ : BufTy).Contents (Elt F) → (⟨S4x1x1024, .f32⟩ : BufTy).Contents (Elt F)),
    binary main_v16 main_v1 main_v17 (addf : (⟨S4x1x1024, .f32⟩ : BufTy).Contents (Elt F) → (⟨S4x1x1024, .f32⟩ : BufTy).Contents (Elt F) → (⟨S4x1x1024, .f32⟩ : BufTy).Contents (Elt F)),
    unary main_v17 main_v18 (broadcastInDim S4x4096x1024 ![0, 1, 2] bcast_S4x1x1024_S4x4096x1024_0_1_2 : (⟨S4x1x1024, .f32⟩ : BufTy).Contents (Elt F) → (⟨S4x4096x1024, .f32⟩ : BufTy).Contents (Elt F)),
    binary main_v15 main_v18 main_v19 (mulf : (⟨S4x4096x1024, .f32⟩ : BufTy).Contents (Elt F) → (⟨S4x4096x1024, .f32⟩ : BufTy).Contents (Elt F) → (⟨S4x4096x1024, .f32⟩ : BufTy).Contents (Elt F)),
    unary main_v0 main_v20 (broadcastInDim S4x4096x1024 ![0, 1, 2] bcast_S4x1x1024_S4x4096x1024_0_1_2 : (⟨S4x1x1024, .f32⟩ : BufTy).Contents (Elt F) → (⟨S4x4096x1024, .f32⟩ : BufTy).Contents (Elt F)),
    binary main_v19 main_v20 main_v21 (addf : (⟨S4x4096x1024, .f32⟩ : BufTy).Contents (Elt F) → (⟨S4x4096x1024, .f32⟩ : BufTy).Contents (Elt F) → (⟨S4x4096x1024, .f32⟩ : BufTy).Contents (Elt F)) ]

/-- Their product with the input weight, and its columns by branch. -/
abbrev c1 : List (HloOp τ sig (Elt F)) :=
  [ unary main_arg11 main_v22 ((extractStridedSlice S1x1024x7936 ![0, 0, 0] · slices_S4x1024x7936_S1x1024x7936_0_0_0) : (⟨S4x1024x7936, .f32⟩ : BufTy).Contents (Elt F) → (⟨S1x1024x7936, .f32⟩ : BufTy).Contents (Elt F)),
    reshape main_v22 main_v23 (rfl : (.f32 : EltTy) = .f32) shapeCasts_S1x1024x7936_S1024x7936,
    binary main_v21 main_v23 main_v24 ((fun l r => Host.dotGeneral dot_S4x4096x1024_S1024x7936_S4x4096x7936_2_0_01_1_n_n none l r) : (⟨S4x4096x1024, .f32⟩ : BufTy).Contents (Elt F) → (⟨S1024x7936, .f32⟩ : BufTy).Contents (Elt F) → (⟨S4x4096x7936, .f32⟩ : BufTy).Contents (Elt F)),
    unary main_v24 main_v25 ((extractStridedSlice S4x4096x512 ![0, 0, 0] · slices_S4x4096x7936_S4x4096x512_0_0_0) : (⟨S4x4096x7936, .f32⟩ : BufTy).Contents (Elt F) → (⟨S4x4096x512, .f32⟩ : BufTy).Contents (Elt F)),
    unary main_v24 main_v26 ((extractStridedSlice S4x4096x128 ![0, 0, 512] · slices_S4x4096x7936_S4x4096x128_0_0_512) : (⟨S4x4096x7936, .f32⟩ : BufTy).Contents (Elt F) → (⟨S4x4096x128, .f32⟩ : BufTy).Contents (Elt F)),
    unary main_v24 main_v27 ((extractStridedSlice S4x4096x128 ![0, 0, 640] · slices_S4x4096x7936_S4x4096x128_0_0_640) : (⟨S4x4096x7936, .f32⟩ : BufTy).Contents (Elt F) → (⟨S4x4096x128, .f32⟩ : BufTy).Contents (Elt F)),
    unary main_v24 main_v28 ((extractStridedSlice S4x4096x512 ![0, 0, 768] · slices_S4x4096x7936_S4x4096x512_0_0_768) : (⟨S4x4096x7936, .f32⟩ : BufTy).Contents (Elt F) → (⟨S4x4096x512, .f32⟩ : BufTy).Contents (Elt F)),
    unary main_v24 main_v29 ((extractStridedSlice S4x4096x256 ![0, 0, 1280] · slices_S4x4096x7936_S4x4096x256_0_0_1280) : (⟨S4x4096x7936, .f32⟩ : BufTy).Contents (Elt F) → (⟨S4x4096x256, .f32⟩ : BufTy).Contents (Elt F)),
    unary main_v24 main_v30 ((extractStridedSlice S4x4096x256 ![0, 0, 1536] · slices_S4x4096x7936_S4x4096x256_0_0_1536) : (⟨S4x4096x7936, .f32⟩ : BufTy).Contents (Elt F) → (⟨S4x4096x256, .f32⟩ : BufTy).Contents (Elt F)),
    unary main_v24 main_v31 ((extractStridedSlice S4x4096x256 ![0, 0, 1792] · slices_S4x4096x7936_S4x4096x256_0_0_1792) : (⟨S4x4096x7936, .f32⟩ : BufTy).Contents (Elt F) → (⟨S4x4096x256, .f32⟩ : BufTy).Contents (Elt F)),
    unary main_v24 main_v32 ((extractStridedSlice S4x4096x256 ![0, 0, 2048] · slices_S4x4096x7936_S4x4096x256_0_0_2048) : (⟨S4x4096x7936, .f32⟩ : BufTy).Contents (Elt F) → (⟨S4x4096x256, .f32⟩ : BufTy).Contents (Elt F)),
    unary main_v24 main_v33 ((extractStridedSlice S4x4096x256 ![0, 0, 2304] · slices_S4x4096x7936_S4x4096x256_0_0_2304) : (⟨S4x4096x7936, .f32⟩ : BufTy).Contents (Elt F) → (⟨S4x4096x256, .f32⟩ : BufTy).Contents (Elt F)),
    unary main_v24 main_v34 ((extractStridedSlice S4x4096x256 ![0, 0, 2560] · slices_S4x4096x7936_S4x4096x256_0_0_2560) : (⟨S4x4096x7936, .f32⟩ : BufTy).Contents (Elt F) → (⟨S4x4096x256, .f32⟩ : BufTy).Contents (Elt F)),
    unary main_v24 main_v35 ((extractStridedSlice S4x4096x256 ![0, 0, 2816] · slices_S4x4096x7936_S4x4096x256_0_0_2816) : (⟨S4x4096x7936, .f32⟩ : BufTy).Contents (Elt F) → (⟨S4x4096x256, .f32⟩ : BufTy).Contents (Elt F)),
    unary main_v24 main_v36 ((extractStridedSlice S4x4096x256 ![0, 0, 3072] · slices_S4x4096x7936_S4x4096x256_0_0_3072) : (⟨S4x4096x7936, .f32⟩ : BufTy).Contents (Elt F) → (⟨S4x4096x256, .f32⟩ : BufTy).Contents (Elt F)),
    unary main_v24 main_v37 ((extractStridedSlice S4x4096x256 ![0, 0, 3328] · slices_S4x4096x7936_S4x4096x256_0_0_3328) : (⟨S4x4096x7936, .f32⟩ : BufTy).Contents (Elt F) → (⟨S4x4096x256, .f32⟩ : BufTy).Contents (Elt F)),
    unary main_v24 main_v38 ((extractStridedSlice S4x4096x256 ![0, 0, 3584] · slices_S4x4096x7936_S4x4096x256_0_0_3584) : (⟨S4x4096x7936, .f32⟩ : BufTy).Contents (Elt F) → (⟨S4x4096x256, .f32⟩ : BufTy).Contents (Elt F)),
    unary main_v24 main_v39 ((extractStridedSlice S4x4096x4096 ![0, 0, 3840] · slices_S4x4096x7936_S4x4096x4096_0_0_3840) : (⟨S4x4096x7936, .f32⟩ : BufTy).Contents (Elt F) → (⟨S4x4096x4096, .f32⟩ : BufTy).Contents (Elt F)) ]

/-- The convolution. -/
abbrev c2 : List (HloOp τ sig (Elt F)) :=
  [ nullary main_c (constantI S_ 32 0#32),
    TRef.unary (TRef.of (T := ⟨S_, .i32⟩) main_c) (TRef.of (T := ⟨S_, .f32⟩) main_call0_v0) (sitofp .f32),
    TRef.binary (TRef.of (T := ⟨S4x4096x256, .f32⟩) main_arg5) (TRef.of (T := ⟨S_, .f32⟩) main_call0_v0) (TRef.of (T := ⟨S4x4098x256, .f32⟩) main_v40) (fun x v => pad S4x4098x256 ![0, 1, 0] ![0, 1, 0] ![0, 0, 0] x v pads_S4x4096x256_S4x4098x256_000_110_000 h_S_),
    unary main_v40 main_v41 ((extractStridedSlice S4x4096x256 ![0, 0, 0] · slices_S4x4098x256_S4x4096x256_0_0_0) : (⟨S4x4098x256, .f32⟩ : BufTy).Contents (Elt F) → (⟨S4x4096x256, .f32⟩ : BufTy).Contents (Elt F)),
    unary main_arg9 main_v42 ((extractStridedSlice S1x256 ![0, 0] · slices_S3x256_S1x256_0_0) : (⟨S3x256, .f32⟩ : BufTy).Contents (Elt F) → (⟨S1x256, .f32⟩ : BufTy).Contents (Elt F)),
    reshape main_v42 main_v43 (rfl : (.f32 : EltTy) = .f32) shapeCasts_S1x256_S256,
    unary main_v43 main_v44 (broadcastInDim S1x1x256 ![2] bcast_S256_S1x1x256_2 : (⟨S256, .f32⟩ : BufTy).Contents (Elt F) → (⟨S1x1x256, .f32⟩ : BufTy).Contents (Elt F)),
    unary main_v44 main_v45 (broadcastInDim S4x4096x256 ![0, 1, 2] bcast_S1x1x256_S4x4096x256_0_1_2 : (⟨S1x1x256, .f32⟩ : BufTy).Contents (Elt F) → (⟨S4x4096x256, .f32⟩ : BufTy).Contents (Elt F)),
    binary main_v41 main_v45 main_v46 (mulf : (⟨S4x4096x256, .f32⟩ : BufTy).Contents (Elt F) → (⟨S4x4096x256, .f32⟩ : BufTy).Contents (Elt F) → (⟨S4x4096x256, .f32⟩ : BufTy).Contents (Elt F)),
    unary main_v40 main_v47 ((extractStridedSlice S4x4096x256 ![0, 1, 0] · slices_S4x4098x256_S4x4096x256_0_1_0) : (⟨S4x4098x256, .f32⟩ : BufTy).Contents (Elt F) → (⟨S4x4096x256, .f32⟩ : BufTy).Contents (Elt F)),
    unary main_arg9 main_v48 ((extractStridedSlice S1x256 ![1, 0] · slices_S3x256_S1x256_1_0) : (⟨S3x256, .f32⟩ : BufTy).Contents (Elt F) → (⟨S1x256, .f32⟩ : BufTy).Contents (Elt F)),
    reshape main_v48 main_v49 (rfl : (.f32 : EltTy) = .f32) shapeCasts_S1x256_S256,
    unary main_v49 main_v50 (broadcastInDim S1x1x256 ![2] bcast_S256_S1x1x256_2 : (⟨S256, .f32⟩ : BufTy).Contents (Elt F) → (⟨S1x1x256, .f32⟩ : BufTy).Contents (Elt F)),
    unary main_v50 main_v51 (broadcastInDim S4x4096x256 ![0, 1, 2] bcast_S1x1x256_S4x4096x256_0_1_2 : (⟨S1x1x256, .f32⟩ : BufTy).Contents (Elt F) → (⟨S4x4096x256, .f32⟩ : BufTy).Contents (Elt F)),
    binary main_v47 main_v51 main_v52 (mulf : (⟨S4x4096x256, .f32⟩ : BufTy).Contents (Elt F) → (⟨S4x4096x256, .f32⟩ : BufTy).Contents (Elt F) → (⟨S4x4096x256, .f32⟩ : BufTy).Contents (Elt F)),
    binary main_v46 main_v52 main_v53 (addf : (⟨S4x4096x256, .f32⟩ : BufTy).Contents (Elt F) → (⟨S4x4096x256, .f32⟩ : BufTy).Contents (Elt F) → (⟨S4x4096x256, .f32⟩ : BufTy).Contents (Elt F)),
    unary main_v40 main_v54 ((extractStridedSlice S4x4096x256 ![0, 2, 0] · slices_S4x4098x256_S4x4096x256_0_2_0) : (⟨S4x4098x256, .f32⟩ : BufTy).Contents (Elt F) → (⟨S4x4096x256, .f32⟩ : BufTy).Contents (Elt F)),
    unary main_arg9 main_v55 ((extractStridedSlice S1x256 ![2, 0] · slices_S3x256_S1x256_2_0) : (⟨S3x256, .f32⟩ : BufTy).Contents (Elt F) → (⟨S1x256, .f32⟩ : BufTy).Contents (Elt F)),
    reshape main_v55 main_v56 (rfl : (.f32 : EltTy) = .f32) shapeCasts_S1x256_S256,
    unary main_v56 main_v57 (broadcastInDim S1x1x256 ![2] bcast_S256_S1x1x256_2 : (⟨S256, .f32⟩ : BufTy).Contents (Elt F) → (⟨S1x1x256, .f32⟩ : BufTy).Contents (Elt F)),
    unary main_v57 main_v58 (broadcastInDim S4x4096x256 ![0, 1, 2] bcast_S1x1x256_S4x4096x256_0_1_2 : (⟨S1x1x256, .f32⟩ : BufTy).Contents (Elt F) → (⟨S4x4096x256, .f32⟩ : BufTy).Contents (Elt F)),
    binary main_v54 main_v58 main_v59 (mulf : (⟨S4x4096x256, .f32⟩ : BufTy).Contents (Elt F) → (⟨S4x4096x256, .f32⟩ : BufTy).Contents (Elt F) → (⟨S4x4096x256, .f32⟩ : BufTy).Contents (Elt F)),
    binary main_v53 main_v59 main_v60 (addf : (⟨S4x4096x256, .f32⟩ : BufTy).Contents (Elt F) → (⟨S4x4096x256, .f32⟩ : BufTy).Contents (Elt F) → (⟨S4x4096x256, .f32⟩ : BufTy).Contents (Elt F)),
    unary main_arg10 main_v61 (broadcastInDim S1x1x256 ![2] bcast_S256_S1x1x256_2 : (⟨S256, .f32⟩ : BufTy).Contents (Elt F) → (⟨S1x1x256, .f32⟩ : BufTy).Contents (Elt F)),
    unary main_v61 main_v62 (broadcastInDim S4x4096x256 ![0, 1, 2] bcast_S1x1x256_S4x4096x256_0_1_2 : (⟨S1x1x256, .f32⟩ : BufTy).Contents (Elt F) → (⟨S4x4096x256, .f32⟩ : BufTy).Contents (Elt F)),
    binary main_v60 main_v62 main_v63 (addf : (⟨S4x4096x256, .f32⟩ : BufTy).Contents (Elt F) → (⟨S4x4096x256, .f32⟩ : BufTy).Contents (Elt F) → (⟨S4x4096x256, .f32⟩ : BufTy).Contents (Elt F)),
    binary main_arg6 main_v63 main_v64 (mulf : (⟨S4x4096x256, .f32⟩ : BufTy).Contents (Elt F) → (⟨S4x4096x256, .f32⟩ : BufTy).Contents (Elt F) → (⟨S4x4096x256, .f32⟩ : BufTy).Contents (Elt F)) ]

/-- The output projections and the merge gates. -/
abbrev c3 : List (HloOp τ sig (Elt F)) :=
  [ unary main_arg12 main_v65 ((extractStridedSlice S1x512x1024 ![0, 0, 0] · slices_S4x512x1024_S1x512x1024_0_0_0) : (⟨S4x512x1024, .f32⟩ : BufTy).Contents (Elt F) → (⟨S1x512x1024, .f32⟩ : BufTy).Contents (Elt F)),
    reshape main_v65 main_v66 (rfl : (.f32 : EltTy) = .f32) shapeCasts_S1x512x1024_S512x1024,
    unary main_arg13 main_v67 ((extractStridedSlice S1x256x1024 ![0, 0, 0] · slices_S4x256x1024_S1x256x1024_0_0_0) : (⟨S4x256x1024, .f32⟩ : BufTy).Contents (Elt F) → (⟨S1x256x1024, .f32⟩ : BufTy).Contents (Elt F)),
    reshape main_v67 main_v68 (rfl : (.f32 : EltTy) = .f32) shapeCasts_S1x256x1024_S256x1024,
    unary main_arg14 main_v69 ((extractStridedSlice S1x256x1024 ![0, 0, 0] · slices_S4x256x1024_S1x256x1024_0_0_0) : (⟨S4x256x1024, .f32⟩ : BufTy).Contents (Elt F) → (⟨S1x256x1024, .f32⟩ : BufTy).Contents (Elt F)),
    reshape main_v69 main_v70 (rfl : (.f32 : EltTy) = .f32) shapeCasts_S1x256x1024_S256x1024,
    unary main_arg15 main_v71 ((extractStridedSlice S1x256x1024 ![0, 0, 0] · slices_S4x256x1024_S1x256x1024_0_0_0) : (⟨S4x256x1024, .f32⟩ : BufTy).Contents (Elt F) → (⟨S1x256x1024, .f32⟩ : BufTy).Contents (Elt F)),
    reshape main_v71 main_v72 (rfl : (.f32 : EltTy) = .f32) shapeCasts_S1x256x1024_S256x1024,
    unary main_arg16 main_v73 ((extractStridedSlice S1x1024x1024 ![0, 0, 0] · slices_S4x1024x1024_S1x1024x1024_0_0_0) : (⟨S4x1024x1024, .f32⟩ : BufTy).Contents (Elt F) → (⟨S1x1024x1024, .f32⟩ : BufTy).Contents (Elt F)),
    reshape main_v73 main_v74 (rfl : (.f32 : EltTy) = .f32) shapeCasts_S1x1024x1024_S1024x1024,
    reshape main_v39 main_v75 (rfl : (.f32 : EltTy) = .f32) shapeCasts_S4x4096x4096_S4x4096x4x1024,
    unary main_v75 main_v76 (Host.negf : (⟨S4x4096x4x1024, .f32⟩ : BufTy).Contents (Elt F) → (⟨S4x4096x4x1024, .f32⟩ : BufTy).Contents (Elt F)),
    unary main_v76 main_v77 (Host.exp : (⟨S4x4096x4x1024, .f32⟩ : BufTy).Contents (Elt F) → (⟨S4x4096x4x1024, .f32⟩ : BufTy).Contents (Elt F)),
    nullary main_cst_3 (constant S_ .f32 0x3F800000#32),
    unary main_cst_3 main_v78 (broadcastInDim S4x4096x4x1024 ![] bcast_S_S4x4096x4x1024 : (⟨S_, .f32⟩ : BufTy).Contents (Elt F) → (⟨S4x4096x4x1024, .f32⟩ : BufTy).Contents (Elt F)),
    binary main_v78 main_v77 main_v79 (addf : (⟨S4x4096x4x1024, .f32⟩ : BufTy).Contents (Elt F) → (⟨S4x4096x4x1024, .f32⟩ : BufTy).Contents (Elt F) → (⟨S4x4096x4x1024, .f32⟩ : BufTy).Contents (Elt F)),
    nullary main_cst_4 (constant S_ .f32 0x3F800000#32),
    unary main_cst_4 main_v80 (broadcastInDim S4x4096x4x1024 ![] bcast_S_S4x4096x4x1024 : (⟨S_, .f32⟩ : BufTy).Contents (Elt F) → (⟨S4x4096x4x1024, .f32⟩ : BufTy).Contents (Elt F)),
    binary main_v80 main_v79 main_v81 (Host.divf : (⟨S4x4096x4x1024, .f32⟩ : BufTy).Contents (Elt F) → (⟨S4x4096x4x1024, .f32⟩ : BufTy).Contents (Elt F) → (⟨S4x4096x4x1024, .f32⟩ : BufTy).Contents (Elt F)) ]

/-- The attention branch. -/
abbrev c4 : List (HloOp τ sig (Elt F)) :=
  [ unary main_v81 main_v82 ((extractStridedSlice S4x4096x1x1024 ![0, 0, 0, 0] · slices_S4x4096x4x1024_S4x4096x1x1024_0_0_0_0) : (⟨S4x4096x4x1024, .f32⟩ : BufTy).Contents (Elt F) → (⟨S4x4096x1x1024, .f32⟩ : BufTy).Contents (Elt F)),
    reshape main_v82 main_v83 (rfl : (.f32 : EltTy) = .f32) shapeCasts_S4x4096x1x1024_S4x4096x1024,
    TRef.unary (TRef.of (T := ⟨S4x4096x512, .f32⟩) main_v28) (TRef.of (T := ⟨S4x4096x512, .f32⟩) main_call1_v0) Host.negf,
    TRef.unary (TRef.of (T := ⟨S4x4096x512, .f32⟩) main_call1_v0) (TRef.of (T := ⟨S4x4096x512, .f32⟩) main_call1_v1) Host.exp,
    TRef.nullary (TRef.of (T := ⟨S_, .f32⟩) main_call1_cst) (constant S_ .f32 0x3F800000#32),
    TRef.unary (TRef.of (T := ⟨S_, .f32⟩) main_call1_cst) (TRef.of (T := ⟨S4x4096x512, .f32⟩) main_call1_v2) (broadcastInDim S4x4096x512 ![] bcast_S_S4x4096x512),
    TRef.binary (TRef.of (T := ⟨S4x4096x512, .f32⟩) main_call1_v2) (TRef.of (T := ⟨S4x4096x512, .f32⟩) main_call1_v1) (TRef.of (T := ⟨S4x4096x512, .f32⟩) main_call1_v3) addf,
    TRef.nullary (TRef.of (T := ⟨S_, .f32⟩) main_call1_cst_0) (constant S_ .f32 0x3F800000#32),
    TRef.unary (TRef.of (T := ⟨S_, .f32⟩) main_call1_cst_0) (TRef.of (T := ⟨S4x4096x512, .f32⟩) main_call1_v4) (broadcastInDim S4x4096x512 ![] bcast_S_S4x4096x512),
    TRef.binary (TRef.of (T := ⟨S4x4096x512, .f32⟩) main_call1_v4) (TRef.of (T := ⟨S4x4096x512, .f32⟩) main_call1_v3) (TRef.of (T := ⟨S4x4096x512, .f32⟩) main_call1_v5) Host.divf,
    TRef.binary (TRef.of (T := ⟨S4x4096x512, .f32⟩) main_v28) (TRef.of (T := ⟨S4x4096x512, .f32⟩) main_call1_v5) (TRef.of (T := ⟨S4x4096x512, .f32⟩) main_v84) mulf,
    binary main_arg4 main_v84 main_v85 (mulf : (⟨S4x4096x512, .f32⟩ : BufTy).Contents (Elt F) → (⟨S4x4096x512, .f32⟩ : BufTy).Contents (Elt F) → (⟨S4x4096x512, .f32⟩ : BufTy).Contents (Elt F)),
    binary main_v85 main_v66 main_v86 ((fun l r => Host.dotGeneral dot_S4x4096x512_S512x1024_S4x4096x1024_2_0_01_1_n_n none l r) : (⟨S4x4096x512, .f32⟩ : BufTy).Contents (Elt F) → (⟨S512x1024, .f32⟩ : BufTy).Contents (Elt F) → (⟨S4x4096x1024, .f32⟩ : BufTy).Contents (Elt F)),
    binary main_v83 main_v86 main_v87 (mulf : (⟨S4x4096x1024, .f32⟩ : BufTy).Contents (Elt F) → (⟨S4x4096x1024, .f32⟩ : BufTy).Contents (Elt F) → (⟨S4x4096x1024, .f32⟩ : BufTy).Contents (Elt F)),
    nullary main_cst_5 (constant S_ .f32 0x00000000#32),
    unary main_cst_5 main_v88 (broadcastInDim S4x4096x1024 ![] bcast_S_S4x4096x1024 : (⟨S_, .f32⟩ : BufTy).Contents (Elt F) → (⟨S4x4096x1024, .f32⟩ : BufTy).Contents (Elt F)),
    binary main_v88 main_v87 main_v89 (addf : (⟨S4x4096x1024, .f32⟩ : BufTy).Contents (Elt F) → (⟨S4x4096x1024, .f32⟩ : BufTy).Contents (Elt F) → (⟨S4x4096x1024, .f32⟩ : BufTy).Contents (Elt F)) ]

/-- The convolution branch. -/
abbrev c5 : List (HloOp τ sig (Elt F)) :=
  [ unary main_v81 main_v90 ((extractStridedSlice S4x4096x1x1024 ![0, 0, 1, 0] · slices_S4x4096x4x1024_S4x4096x1x1024_0_0_1_0) : (⟨S4x4096x4x1024, .f32⟩ : BufTy).Contents (Elt F) → (⟨S4x4096x1x1024, .f32⟩ : BufTy).Contents (Elt F)),
    reshape main_v90 main_v91 (rfl : (.f32 : EltTy) = .f32) shapeCasts_S4x4096x1x1024_S4x4096x1024,
    TRef.unary (TRef.of (T := ⟨S4x4096x256, .f32⟩) main_v32) (TRef.of (T := ⟨S4x4096x256, .f32⟩) main_call2_v0) Host.negf,
    TRef.unary (TRef.of (T := ⟨S4x4096x256, .f32⟩) main_call2_v0) (TRef.of (T := ⟨S4x4096x256, .f32⟩) main_call2_v1) Host.exp,
    TRef.nullary (TRef.of (T := ⟨S_, .f32⟩) main_call2_cst) (constant S_ .f32 0x3F800000#32),
    TRef.unary (TRef.of (T := ⟨S_, .f32⟩) main_call2_cst) (TRef.of (T := ⟨S4x4096x256, .f32⟩) main_call2_v2) (broadcastInDim S4x4096x256 ![] bcast_S_S4x4096x256),
    TRef.binary (TRef.of (T := ⟨S4x4096x256, .f32⟩) main_call2_v2) (TRef.of (T := ⟨S4x4096x256, .f32⟩) main_call2_v1) (TRef.of (T := ⟨S4x4096x256, .f32⟩) main_call2_v3) addf,
    TRef.nullary (TRef.of (T := ⟨S_, .f32⟩) main_call2_cst_0) (constant S_ .f32 0x3F800000#32),
    TRef.unary (TRef.of (T := ⟨S_, .f32⟩) main_call2_cst_0) (TRef.of (T := ⟨S4x4096x256, .f32⟩) main_call2_v4) (broadcastInDim S4x4096x256 ![] bcast_S_S4x4096x256),
    TRef.binary (TRef.of (T := ⟨S4x4096x256, .f32⟩) main_call2_v4) (TRef.of (T := ⟨S4x4096x256, .f32⟩) main_call2_v3) (TRef.of (T := ⟨S4x4096x256, .f32⟩) main_call2_v5) Host.divf,
    TRef.binary (TRef.of (T := ⟨S4x4096x256, .f32⟩) main_v32) (TRef.of (T := ⟨S4x4096x256, .f32⟩) main_call2_v5) (TRef.of (T := ⟨S4x4096x256, .f32⟩) main_v92) mulf,
    binary main_v64 main_v92 main_v93 (mulf : (⟨S4x4096x256, .f32⟩ : BufTy).Contents (Elt F) → (⟨S4x4096x256, .f32⟩ : BufTy).Contents (Elt F) → (⟨S4x4096x256, .f32⟩ : BufTy).Contents (Elt F)),
    binary main_v93 main_v68 main_v94 ((fun l r => Host.dotGeneral dot_S4x4096x256_S256x1024_S4x4096x1024_2_0_01_1_n_n none l r) : (⟨S4x4096x256, .f32⟩ : BufTy).Contents (Elt F) → (⟨S256x1024, .f32⟩ : BufTy).Contents (Elt F) → (⟨S4x4096x1024, .f32⟩ : BufTy).Contents (Elt F)),
    binary main_v91 main_v94 main_v95 (mulf : (⟨S4x4096x1024, .f32⟩ : BufTy).Contents (Elt F) → (⟨S4x4096x1024, .f32⟩ : BufTy).Contents (Elt F) → (⟨S4x4096x1024, .f32⟩ : BufTy).Contents (Elt F)),
    binary main_v89 main_v95 main_v96 (addf : (⟨S4x4096x1024, .f32⟩ : BufTy).Contents (Elt F) → (⟨S4x4096x1024, .f32⟩ : BufTy).Contents (Elt F) → (⟨S4x4096x1024, .f32⟩ : BufTy).Contents (Elt F)) ]

/-- The retention branch. -/
abbrev c6 : List (HloOp τ sig (Elt F)) :=
  [ unary main_v81 main_v97 ((extractStridedSlice S4x4096x1x1024 ![0, 0, 2, 0] · slices_S4x4096x4x1024_S4x4096x1x1024_0_0_2_0) : (⟨S4x4096x4x1024, .f32⟩ : BufTy).Contents (Elt F) → (⟨S4x4096x1x1024, .f32⟩ : BufTy).Contents (Elt F)),
    reshape main_v97 main_v98 (rfl : (.f32 : EltTy) = .f32) shapeCasts_S4x4096x1x1024_S4x4096x1024,
    TRef.unary (TRef.of (T := ⟨S4x4096x256, .f32⟩) main_v36) (TRef.of (T := ⟨S4x4096x256, .f32⟩) main_call3_v0) Host.negf,
    TRef.unary (TRef.of (T := ⟨S4x4096x256, .f32⟩) main_call3_v0) (TRef.of (T := ⟨S4x4096x256, .f32⟩) main_call3_v1) Host.exp,
    TRef.nullary (TRef.of (T := ⟨S_, .f32⟩) main_call3_cst) (constant S_ .f32 0x3F800000#32),
    TRef.unary (TRef.of (T := ⟨S_, .f32⟩) main_call3_cst) (TRef.of (T := ⟨S4x4096x256, .f32⟩) main_call3_v2) (broadcastInDim S4x4096x256 ![] bcast_S_S4x4096x256),
    TRef.binary (TRef.of (T := ⟨S4x4096x256, .f32⟩) main_call3_v2) (TRef.of (T := ⟨S4x4096x256, .f32⟩) main_call3_v1) (TRef.of (T := ⟨S4x4096x256, .f32⟩) main_call3_v3) addf,
    TRef.nullary (TRef.of (T := ⟨S_, .f32⟩) main_call3_cst_0) (constant S_ .f32 0x3F800000#32),
    TRef.unary (TRef.of (T := ⟨S_, .f32⟩) main_call3_cst_0) (TRef.of (T := ⟨S4x4096x256, .f32⟩) main_call3_v4) (broadcastInDim S4x4096x256 ![] bcast_S_S4x4096x256),
    TRef.binary (TRef.of (T := ⟨S4x4096x256, .f32⟩) main_call3_v4) (TRef.of (T := ⟨S4x4096x256, .f32⟩) main_call3_v3) (TRef.of (T := ⟨S4x4096x256, .f32⟩) main_call3_v5) Host.divf,
    TRef.binary (TRef.of (T := ⟨S4x4096x256, .f32⟩) main_v36) (TRef.of (T := ⟨S4x4096x256, .f32⟩) main_call3_v5) (TRef.of (T := ⟨S4x4096x256, .f32⟩) main_v99) mulf,
    binary main_arg7 main_v99 main_v100 (mulf : (⟨S4x4096x256, .f32⟩ : BufTy).Contents (Elt F) → (⟨S4x4096x256, .f32⟩ : BufTy).Contents (Elt F) → (⟨S4x4096x256, .f32⟩ : BufTy).Contents (Elt F)),
    binary main_v100 main_v70 main_v101 ((fun l r => Host.dotGeneral dot_S4x4096x256_S256x1024_S4x4096x1024_2_0_01_1_n_n none l r) : (⟨S4x4096x256, .f32⟩ : BufTy).Contents (Elt F) → (⟨S256x1024, .f32⟩ : BufTy).Contents (Elt F) → (⟨S4x4096x1024, .f32⟩ : BufTy).Contents (Elt F)),
    binary main_v98 main_v101 main_v102 (mulf : (⟨S4x4096x1024, .f32⟩ : BufTy).Contents (Elt F) → (⟨S4x4096x1024, .f32⟩ : BufTy).Contents (Elt F) → (⟨S4x4096x1024, .f32⟩ : BufTy).Contents (Elt F)),
    binary main_v96 main_v102 main_v103 (addf : (⟨S4x4096x1024, .f32⟩ : BufTy).Contents (Elt F) → (⟨S4x4096x1024, .f32⟩ : BufTy).Contents (Elt F) → (⟨S4x4096x1024, .f32⟩ : BufTy).Contents (Elt F)) ]

/-- The Fourier branch. -/
abbrev c7 : List (HloOp τ sig (Elt F)) :=
  [ unary main_v81 main_v104 ((extractStridedSlice S4x4096x1x1024 ![0, 0, 3, 0] · slices_S4x4096x4x1024_S4x4096x1x1024_0_0_3_0) : (⟨S4x4096x4x1024, .f32⟩ : BufTy).Contents (Elt F) → (⟨S4x4096x1x1024, .f32⟩ : BufTy).Contents (Elt F)),
    reshape main_v104 main_v105 (rfl : (.f32 : EltTy) = .f32) shapeCasts_S4x4096x1x1024_S4x4096x1024,
    TRef.unary (TRef.of (T := ⟨S4x4096x256, .f32⟩) main_v38) (TRef.of (T := ⟨S4x4096x256, .f32⟩) main_call4_v0) Host.negf,
    TRef.unary (TRef.of (T := ⟨S4x4096x256, .f32⟩) main_call4_v0) (TRef.of (T := ⟨S4x4096x256, .f32⟩) main_call4_v1) Host.exp,
    TRef.nullary (TRef.of (T := ⟨S_, .f32⟩) main_call4_cst) (constant S_ .f32 0x3F800000#32),
    TRef.unary (TRef.of (T := ⟨S_, .f32⟩) main_call4_cst) (TRef.of (T := ⟨S4x4096x256, .f32⟩) main_call4_v2) (broadcastInDim S4x4096x256 ![] bcast_S_S4x4096x256),
    TRef.binary (TRef.of (T := ⟨S4x4096x256, .f32⟩) main_call4_v2) (TRef.of (T := ⟨S4x4096x256, .f32⟩) main_call4_v1) (TRef.of (T := ⟨S4x4096x256, .f32⟩) main_call4_v3) addf,
    TRef.nullary (TRef.of (T := ⟨S_, .f32⟩) main_call4_cst_0) (constant S_ .f32 0x3F800000#32),
    TRef.unary (TRef.of (T := ⟨S_, .f32⟩) main_call4_cst_0) (TRef.of (T := ⟨S4x4096x256, .f32⟩) main_call4_v4) (broadcastInDim S4x4096x256 ![] bcast_S_S4x4096x256),
    TRef.binary (TRef.of (T := ⟨S4x4096x256, .f32⟩) main_call4_v4) (TRef.of (T := ⟨S4x4096x256, .f32⟩) main_call4_v3) (TRef.of (T := ⟨S4x4096x256, .f32⟩) main_call4_v5) Host.divf,
    TRef.binary (TRef.of (T := ⟨S4x4096x256, .f32⟩) main_v38) (TRef.of (T := ⟨S4x4096x256, .f32⟩) main_call4_v5) (TRef.of (T := ⟨S4x4096x256, .f32⟩) main_v106) mulf,
    binary main_arg8 main_v106 main_v107 (mulf : (⟨S4x4096x256, .f32⟩ : BufTy).Contents (Elt F) → (⟨S4x4096x256, .f32⟩ : BufTy).Contents (Elt F) → (⟨S4x4096x256, .f32⟩ : BufTy).Contents (Elt F)),
    binary main_v107 main_v72 main_v108 ((fun l r => Host.dotGeneral dot_S4x4096x256_S256x1024_S4x4096x1024_2_0_01_1_n_n none l r) : (⟨S4x4096x256, .f32⟩ : BufTy).Contents (Elt F) → (⟨S256x1024, .f32⟩ : BufTy).Contents (Elt F) → (⟨S4x4096x1024, .f32⟩ : BufTy).Contents (Elt F)),
    binary main_v105 main_v108 main_v109 (mulf : (⟨S4x4096x1024, .f32⟩ : BufTy).Contents (Elt F) → (⟨S4x4096x1024, .f32⟩ : BufTy).Contents (Elt F) → (⟨S4x4096x1024, .f32⟩ : BufTy).Contents (Elt F)),
    binary main_v103 main_v109 main_v110 (addf : (⟨S4x4096x1024, .f32⟩ : BufTy).Contents (Elt F) → (⟨S4x4096x1024, .f32⟩ : BufTy).Contents (Elt F) → (⟨S4x4096x1024, .f32⟩ : BufTy).Contents (Elt F)) ]

/-- The output product and its normalisation. -/
abbrev c8 : List (HloOp τ sig (Elt F)) :=
  [ binary main_v110 main_v74 main_v111 ((fun l r => Host.dotGeneral dot_S4x4096x1024_S1024x1024_S4x4096x1024_2_0_01_1_n_n none l r) : (⟨S4x4096x1024, .f32⟩ : BufTy).Contents (Elt F) → (⟨S1024x1024, .f32⟩ : BufTy).Contents (Elt F) → (⟨S4x4096x1024, .f32⟩ : BufTy).Contents (Elt F)),
    binary main_v111 main_v111 main_v112 (mulf : (⟨S4x4096x1024, .f32⟩ : BufTy).Contents (Elt F) → (⟨S4x4096x1024, .f32⟩ : BufTy).Contents (Elt F) → (⟨S4x4096x1024, .f32⟩ : BufTy).Contents (Elt F)),
    nullary main_cst_6 (constant S_ .f32 0x00000000#32),
    binary main_v112 main_cst_6 main_v113 ((fun x v => Host.reduceAdd x v reducesTo_S4x4096x1024_S4x4096_d2 h_S_) : (⟨S4x4096x1024, .f32⟩ : BufTy).Contents (Elt F) → (⟨S_, .f32⟩ : BufTy).Contents (Elt F) → (⟨S4x4096, .f32⟩ : BufTy).Contents (Elt F)),
    unary main_v113 main_v114 (broadcastInDim S4x4096x1 ![0, 1] bcast_S4x4096_S4x4096x1_0_1 : (⟨S4x4096, .f32⟩ : BufTy).Contents (Elt F) → (⟨S4x4096x1, .f32⟩ : BufTy).Contents (Elt F)),
    nullary main_cst_7 (constant S_ .f32 0x44800000#32),
    unary main_cst_7 main_v115 (broadcastInDim S4x4096x1 ![] bcast_S_S4x4096x1 : (⟨S_, .f32⟩ : BufTy).Contents (Elt F) → (⟨S4x4096x1, .f32⟩ : BufTy).Contents (Elt F)),
    binary main_v114 main_v115 main_v116 (Host.divf : (⟨S4x4096x1, .f32⟩ : BufTy).Contents (Elt F) → (⟨S4x4096x1, .f32⟩ : BufTy).Contents (Elt F) → (⟨S4x4096x1, .f32⟩ : BufTy).Contents (Elt F)),
    nullary main_cst_8 (constant S_ .f32 0x358637BD#32),
    unary main_cst_8 main_v117 (broadcastInDim S4x4096x1 ![] bcast_S_S4x4096x1 : (⟨S_, .f32⟩ : BufTy).Contents (Elt F) → (⟨S4x4096x1, .f32⟩ : BufTy).Contents (Elt F)),
    binary main_v116 main_v117 main_v118 (addf : (⟨S4x4096x1, .f32⟩ : BufTy).Contents (Elt F) → (⟨S4x4096x1, .f32⟩ : BufTy).Contents (Elt F) → (⟨S4x4096x1, .f32⟩ : BufTy).Contents (Elt F)),
    unary main_v118 main_v119 (Host.rsqrt : (⟨S4x4096x1, .f32⟩ : BufTy).Contents (Elt F) → (⟨S4x4096x1, .f32⟩ : BufTy).Contents (Elt F)),
    unary main_v119 main_v120 (broadcastInDim S4x4096x1024 ![0, 1, 2] bcast_S4x4096x1_S4x4096x1024_0_1_2 : (⟨S4x4096x1, .f32⟩ : BufTy).Contents (Elt F) → (⟨S4x4096x1024, .f32⟩ : BufTy).Contents (Elt F)),
    binary main_v111 main_v120 main_v121 (mulf : (⟨S4x4096x1024, .f32⟩ : BufTy).Contents (Elt F) → (⟨S4x4096x1024, .f32⟩ : BufTy).Contents (Elt F) → (⟨S4x4096x1024, .f32⟩ : BufTy).Contents (Elt F)),
    unary main_arg3 main_v122 (broadcastInDim S1x1x1024 ![2] bcast_S1024_S1x1x1024_2 : (⟨S1024, .f32⟩ : BufTy).Contents (Elt F) → (⟨S1x1x1024, .f32⟩ : BufTy).Contents (Elt F)),
    unary main_v122 main_v123 (broadcastInDim S4x4096x1024 ![0, 1, 2] bcast_S1x1x1024_S4x4096x1024_0_1_2 : (⟨S1x1x1024, .f32⟩ : BufTy).Contents (Elt F) → (⟨S4x4096x1024, .f32⟩ : BufTy).Contents (Elt F)),
    binary main_v121 main_v123 main_v124 (mulf : (⟨S4x4096x1024, .f32⟩ : BufTy).Contents (Elt F) → (⟨S4x4096x1024, .f32⟩ : BufTy).Contents (Elt F) → (⟨S4x4096x1024, .f32⟩ : BufTy).Contents (Elt F)),
    unary main_v2 main_v125 (broadcastInDim S4x4096x1024 ![0, 1, 2] bcast_S4x1x1024_S4x4096x1024_0_1_2 : (⟨S4x1x1024, .f32⟩ : BufTy).Contents (Elt F) → (⟨S4x4096x1024, .f32⟩ : BufTy).Contents (Elt F)),
    binary main_v125 main_v124 main_v126 (mulf : (⟨S4x4096x1024, .f32⟩ : BufTy).Contents (Elt F) → (⟨S4x4096x1024, .f32⟩ : BufTy).Contents (Elt F) → (⟨S4x4096x1024, .f32⟩ : BufTy).Contents (Elt F)),
    binary main_arg0 main_v126 main_v127 (addf : (⟨S4x4096x1024, .f32⟩ : BufTy).Contents (Elt F) → (⟨S4x4096x1024, .f32⟩ : BufTy).Contents (Elt F) → (⟨S4x4096x1024, .f32⟩ : BufTy).Contents (Elt F)),
    reshape main_v127 main_v128 (rfl : (.f32 : EltTy) = .f32) shapeCasts_S4x4096x1024_S16384x1024 ]

/-- All nine lines. -/
abbrev ops : List (HloOp τ sig (Elt F)) := c0 ++ (c1 ++ (c2 ++ (c3 ++ (c4 ++ (c5 ++ (c6 ++ (c7 ++ c8)))))))

set_option maxHeartbeats 4000000 in
/-- The reference is a line of operations. -/
theorem main_eq (c : Dev nD) : main (F := F) c = seq ops := rfl

/-- What line 0 writes. -/
abbrev w0 : List (Ref sig .tc) := [main_v0, main_v1, main_v2, main_v3, main_cst, main_v4, main_v5, main_cst_0, main_v6, main_v7, main_cst_1, main_v8, main_v9, main_v10, main_v11, main_v12, main_v13, main_v14, main_v15, main_cst_2, main_v16, main_v17, main_v18, main_v19, main_v20, main_v21]

/-- Line 0 keeps every buffer it does not write. -/
theorem keep0 (V : Valuation τ sig (Elt F)) (r : Ref sig .tc) (h : r ∉ w0) :
    after c0 V (Proc.devRef .tc r) = V (Proc.devRef .tc r) :=
  after_of_writes_sub c0 V (forall_writes_sub_of_map (W := w0) rfl) h

/-- Line 0 touches the device's own buffers. -/
theorem sub0 : (c0 : List (HloOp τ sig (Elt F))).Forall fun op => op.bufs ⊆ tcRefs τ sig :=
  ⟨unary_bufs_sub .., unary_bufs_sub .., unary_bufs_sub .., binary_bufs_sub .., nullary_bufs_sub .., binary_bufs_sub .., unary_bufs_sub .., nullary_bufs_sub .., unary_bufs_sub .., binary_bufs_sub .., nullary_bufs_sub .., unary_bufs_sub .., binary_bufs_sub .., unary_bufs_sub .., unary_bufs_sub .., binary_bufs_sub .., unary_bufs_sub .., unary_bufs_sub .., binary_bufs_sub .., nullary_bufs_sub .., unary_bufs_sub .., binary_bufs_sub .., unary_bufs_sub .., binary_bufs_sub .., unary_bufs_sub .., binary_bufs_sub ..⟩

/-- Line 0 determines every result. -/
theorem fresh0 : ∀ op ∈ (c0 : List (HloOp τ sig (Elt F))), op.fresh = ∅ := by
  intro _ h; (repeat (cases h with | head => rfl | tail _ h => ?_)); exact nomatch h

/-- What line 1 writes. -/
abbrev w1 : List (Ref sig .tc) := [main_v22, main_v23, main_v24, main_v25, main_v26, main_v27, main_v28, main_v29, main_v30, main_v31, main_v32, main_v33, main_v34, main_v35, main_v36, main_v37, main_v38, main_v39]

/-- Line 1 keeps every buffer it does not write. -/
theorem keep1 (V : Valuation τ sig (Elt F)) (r : Ref sig .tc) (h : r ∉ w1) :
    after c1 V (Proc.devRef .tc r) = V (Proc.devRef .tc r) :=
  after_of_writes_sub c1 V (forall_writes_sub_of_map (W := w1) rfl) h

/-- Line 1 touches the device's own buffers. -/
theorem sub1 : (c1 : List (HloOp τ sig (Elt F))).Forall fun op => op.bufs ⊆ tcRefs τ sig :=
  ⟨unary_bufs_sub .., reshape_bufs_sub .., binary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub ..⟩

/-- Line 1 determines every result. -/
theorem fresh1 : ∀ op ∈ (c1 : List (HloOp τ sig (Elt F))), op.fresh = ∅ := by
  intro _ h; (repeat (cases h with | head => rfl | tail _ h => ?_)); exact nomatch h

/-- What line 2 writes. -/
abbrev w2 : List (Ref sig .tc) := [main_c, main_call0_v0, main_v40, main_v41, main_v42, main_v43, main_v44, main_v45, main_v46, main_v47, main_v48, main_v49, main_v50, main_v51, main_v52, main_v53, main_v54, main_v55, main_v56, main_v57, main_v58, main_v59, main_v60, main_v61, main_v62, main_v63, main_v64]

/-- Line 2 keeps every buffer it does not write. -/
theorem keep2 (V : Valuation τ sig (Elt F)) (r : Ref sig .tc) (h : r ∉ w2) :
    after c2 V (Proc.devRef .tc r) = V (Proc.devRef .tc r) :=
  after_of_writes_sub c2 V (forall_writes_sub_of_map (W := w2) rfl) h

/-- Line 2 touches the device's own buffers. -/
theorem sub2 : (c2 : List (HloOp τ sig (Elt F))).Forall fun op => op.bufs ⊆ tcRefs τ sig :=
  ⟨nullary_bufs_sub .., unary_bufs_sub .., binary_bufs_sub .., unary_bufs_sub .., unary_bufs_sub .., reshape_bufs_sub .., unary_bufs_sub .., unary_bufs_sub .., binary_bufs_sub .., unary_bufs_sub .., unary_bufs_sub .., reshape_bufs_sub .., unary_bufs_sub .., unary_bufs_sub .., binary_bufs_sub .., binary_bufs_sub .., unary_bufs_sub .., unary_bufs_sub .., reshape_bufs_sub .., unary_bufs_sub .., unary_bufs_sub .., binary_bufs_sub .., binary_bufs_sub .., unary_bufs_sub .., unary_bufs_sub .., binary_bufs_sub .., binary_bufs_sub ..⟩

/-- Line 2 determines every result. -/
theorem fresh2 : ∀ op ∈ (c2 : List (HloOp τ sig (Elt F))), op.fresh = ∅ := by
  intro _ h; (repeat (cases h with | head => rfl | tail _ h => ?_)); exact nomatch h

/-- What line 3 writes. -/
abbrev w3 : List (Ref sig .tc) := [main_v65, main_v66, main_v67, main_v68, main_v69, main_v70, main_v71, main_v72, main_v73, main_v74, main_v75, main_v76, main_v77, main_cst_3, main_v78, main_v79, main_cst_4, main_v80, main_v81]

/-- Line 3 keeps every buffer it does not write. -/
theorem keep3 (V : Valuation τ sig (Elt F)) (r : Ref sig .tc) (h : r ∉ w3) :
    after c3 V (Proc.devRef .tc r) = V (Proc.devRef .tc r) :=
  after_of_writes_sub c3 V (forall_writes_sub_of_map (W := w3) rfl) h

/-- Line 3 touches the device's own buffers. -/
theorem sub3 : (c3 : List (HloOp τ sig (Elt F))).Forall fun op => op.bufs ⊆ tcRefs τ sig :=
  ⟨unary_bufs_sub .., reshape_bufs_sub .., unary_bufs_sub .., reshape_bufs_sub .., unary_bufs_sub .., reshape_bufs_sub .., unary_bufs_sub .., reshape_bufs_sub .., unary_bufs_sub .., reshape_bufs_sub .., reshape_bufs_sub .., unary_bufs_sub .., unary_bufs_sub .., nullary_bufs_sub .., unary_bufs_sub .., binary_bufs_sub .., nullary_bufs_sub .., unary_bufs_sub .., binary_bufs_sub ..⟩

/-- Line 3 determines every result. -/
theorem fresh3 : ∀ op ∈ (c3 : List (HloOp τ sig (Elt F))), op.fresh = ∅ := by
  intro _ h; (repeat (cases h with | head => rfl | tail _ h => ?_)); exact nomatch h

/-- What line 4 writes. -/
abbrev w4 : List (Ref sig .tc) := [main_v82, main_v83, main_call1_v0, main_call1_v1, main_call1_cst, main_call1_v2, main_call1_v3, main_call1_cst_0, main_call1_v4, main_call1_v5, main_v84, main_v85, main_v86, main_v87, main_cst_5, main_v88, main_v89]

/-- Line 4 keeps every buffer it does not write. -/
theorem keep4 (V : Valuation τ sig (Elt F)) (r : Ref sig .tc) (h : r ∉ w4) :
    after c4 V (Proc.devRef .tc r) = V (Proc.devRef .tc r) :=
  after_of_writes_sub c4 V (forall_writes_sub_of_map (W := w4) rfl) h

/-- Line 4 touches the device's own buffers. -/
theorem sub4 : (c4 : List (HloOp τ sig (Elt F))).Forall fun op => op.bufs ⊆ tcRefs τ sig :=
  ⟨unary_bufs_sub .., reshape_bufs_sub .., unary_bufs_sub .., unary_bufs_sub .., nullary_bufs_sub .., unary_bufs_sub .., binary_bufs_sub .., nullary_bufs_sub .., unary_bufs_sub .., binary_bufs_sub .., binary_bufs_sub .., binary_bufs_sub .., binary_bufs_sub .., binary_bufs_sub .., nullary_bufs_sub .., unary_bufs_sub .., binary_bufs_sub ..⟩

/-- Line 4 determines every result. -/
theorem fresh4 : ∀ op ∈ (c4 : List (HloOp τ sig (Elt F))), op.fresh = ∅ := by
  intro _ h; (repeat (cases h with | head => rfl | tail _ h => ?_)); exact nomatch h

/-- What line 5 writes. -/
abbrev w5 : List (Ref sig .tc) := [main_v90, main_v91, main_call2_v0, main_call2_v1, main_call2_cst, main_call2_v2, main_call2_v3, main_call2_cst_0, main_call2_v4, main_call2_v5, main_v92, main_v93, main_v94, main_v95, main_v96]

/-- Line 5 keeps every buffer it does not write. -/
theorem keep5 (V : Valuation τ sig (Elt F)) (r : Ref sig .tc) (h : r ∉ w5) :
    after c5 V (Proc.devRef .tc r) = V (Proc.devRef .tc r) :=
  after_of_writes_sub c5 V (forall_writes_sub_of_map (W := w5) rfl) h

/-- Line 5 touches the device's own buffers. -/
theorem sub5 : (c5 : List (HloOp τ sig (Elt F))).Forall fun op => op.bufs ⊆ tcRefs τ sig :=
  ⟨unary_bufs_sub .., reshape_bufs_sub .., unary_bufs_sub .., unary_bufs_sub .., nullary_bufs_sub .., unary_bufs_sub .., binary_bufs_sub .., nullary_bufs_sub .., unary_bufs_sub .., binary_bufs_sub .., binary_bufs_sub .., binary_bufs_sub .., binary_bufs_sub .., binary_bufs_sub .., binary_bufs_sub ..⟩

/-- Line 5 determines every result. -/
theorem fresh5 : ∀ op ∈ (c5 : List (HloOp τ sig (Elt F))), op.fresh = ∅ := by
  intro _ h; (repeat (cases h with | head => rfl | tail _ h => ?_)); exact nomatch h

/-- What line 6 writes. -/
abbrev w6 : List (Ref sig .tc) := [main_v97, main_v98, main_call3_v0, main_call3_v1, main_call3_cst, main_call3_v2, main_call3_v3, main_call3_cst_0, main_call3_v4, main_call3_v5, main_v99, main_v100, main_v101, main_v102, main_v103]

/-- Line 6 keeps every buffer it does not write. -/
theorem keep6 (V : Valuation τ sig (Elt F)) (r : Ref sig .tc) (h : r ∉ w6) :
    after c6 V (Proc.devRef .tc r) = V (Proc.devRef .tc r) :=
  after_of_writes_sub c6 V (forall_writes_sub_of_map (W := w6) rfl) h

/-- Line 6 touches the device's own buffers. -/
theorem sub6 : (c6 : List (HloOp τ sig (Elt F))).Forall fun op => op.bufs ⊆ tcRefs τ sig :=
  ⟨unary_bufs_sub .., reshape_bufs_sub .., unary_bufs_sub .., unary_bufs_sub .., nullary_bufs_sub .., unary_bufs_sub .., binary_bufs_sub .., nullary_bufs_sub .., unary_bufs_sub .., binary_bufs_sub .., binary_bufs_sub .., binary_bufs_sub .., binary_bufs_sub .., binary_bufs_sub .., binary_bufs_sub ..⟩

/-- Line 6 determines every result. -/
theorem fresh6 : ∀ op ∈ (c6 : List (HloOp τ sig (Elt F))), op.fresh = ∅ := by
  intro _ h; (repeat (cases h with | head => rfl | tail _ h => ?_)); exact nomatch h

/-- What line 7 writes. -/
abbrev w7 : List (Ref sig .tc) := [main_v104, main_v105, main_call4_v0, main_call4_v1, main_call4_cst, main_call4_v2, main_call4_v3, main_call4_cst_0, main_call4_v4, main_call4_v5, main_v106, main_v107, main_v108, main_v109, main_v110]

/-- Line 7 keeps every buffer it does not write. -/
theorem keep7 (V : Valuation τ sig (Elt F)) (r : Ref sig .tc) (h : r ∉ w7) :
    after c7 V (Proc.devRef .tc r) = V (Proc.devRef .tc r) :=
  after_of_writes_sub c7 V (forall_writes_sub_of_map (W := w7) rfl) h

/-- Line 7 touches the device's own buffers. -/
theorem sub7 : (c7 : List (HloOp τ sig (Elt F))).Forall fun op => op.bufs ⊆ tcRefs τ sig :=
  ⟨unary_bufs_sub .., reshape_bufs_sub .., unary_bufs_sub .., unary_bufs_sub .., nullary_bufs_sub .., unary_bufs_sub .., binary_bufs_sub .., nullary_bufs_sub .., unary_bufs_sub .., binary_bufs_sub .., binary_bufs_sub .., binary_bufs_sub .., binary_bufs_sub .., binary_bufs_sub .., binary_bufs_sub ..⟩

/-- Line 7 determines every result. -/
theorem fresh7 : ∀ op ∈ (c7 : List (HloOp τ sig (Elt F))), op.fresh = ∅ := by
  intro _ h; (repeat (cases h with | head => rfl | tail _ h => ?_)); exact nomatch h

/-- What line 8 writes. -/
abbrev w8 : List (Ref sig .tc) := [main_v111, main_v112, main_cst_6, main_v113, main_v114, main_cst_7, main_v115, main_v116, main_cst_8, main_v117, main_v118, main_v119, main_v120, main_v121, main_v122, main_v123, main_v124, main_v125, main_v126, main_v127, main_v128]

/-- Line 8 keeps every buffer it does not write. -/
theorem keep8 (V : Valuation τ sig (Elt F)) (r : Ref sig .tc) (h : r ∉ w8) :
    after c8 V (Proc.devRef .tc r) = V (Proc.devRef .tc r) :=
  after_of_writes_sub c8 V (forall_writes_sub_of_map (W := w8) rfl) h

/-- Line 8 touches the device's own buffers. -/
theorem sub8 : (c8 : List (HloOp τ sig (Elt F))).Forall fun op => op.bufs ⊆ tcRefs τ sig :=
  ⟨binary_bufs_sub .., binary_bufs_sub .., nullary_bufs_sub .., binary_bufs_sub .., unary_bufs_sub .., nullary_bufs_sub .., unary_bufs_sub .., binary_bufs_sub .., nullary_bufs_sub .., unary_bufs_sub .., binary_bufs_sub .., unary_bufs_sub .., unary_bufs_sub .., binary_bufs_sub .., unary_bufs_sub .., unary_bufs_sub .., binary_bufs_sub .., unary_bufs_sub .., binary_bufs_sub .., binary_bufs_sub .., reshape_bufs_sub ..⟩

/-- Line 8 determines every result. -/
theorem fresh8 : ∀ op ∈ (c8 : List (HloOp τ sig (Elt F))), op.fresh = ∅ := by
  intro _ h; (repeat (cases h with | head => rfl | tail _ h => ?_)); exact nomatch h

/-- The program has no scoped buffers. -/
theorem scopedRefs_eq : (Finset.univ.filter fun b : Ref sig .tc => b.isScoped) = ∅ := by decide
/-- The program has no scoped semaphores. -/
theorem scopedSems_eq : (Finset.univ.filter fun sm : SemLoc sig => sm.isScoped .tc) = ∅ := by decide

/-- All nine lines touch the device's own buffers. -/
theorem ops_sub : (ops : List (HloOp τ sig (Elt F))).Forall fun op => op.bufs ⊆ tcRefs τ sig := by
  simp only [ops, List.forall_append]
  exact ⟨sub0, sub1, sub2, sub3, sub4, sub5, sub6, sub7, sub8⟩

/-- All nine lines determine every result. -/
theorem ops_fresh : ∀ op ∈ (ops : List (HloOp τ sig (Elt F))), op.fresh = ∅ := by
  intro op h
  simp only [ops, List.mem_append] at h
  rcases h with h | h | h | h | h | h | h | h | h
  exacts [fresh0 op h, fresh1 op h, fresh2 op h, fresh3 op h, fresh4 op h, fresh5 op h, fresh6 op h, fresh7 op h, fresh8 op h]

/-- The buffers after each line, from contents `V`. -/
def v1 (V : Valuation τ sig (Elt F)) := after c0 V
/-- The contents after 1 chunks. -/
def v2 (V : Valuation τ sig (Elt F)) := after c1 (v1 V)
/-- The contents after 2 chunks. -/
def v3 (V : Valuation τ sig (Elt F)) := after c2 (v2 V)
/-- The contents after 3 chunks. -/
def v4 (V : Valuation τ sig (Elt F)) := after c3 (v3 V)
/-- The contents after 4 chunks. -/
def v5 (V : Valuation τ sig (Elt F)) := after c4 (v4 V)
/-- The contents after 5 chunks. -/
def v6 (V : Valuation τ sig (Elt F)) := after c5 (v5 V)
/-- The contents after 6 chunks. -/
def v7 (V : Valuation τ sig (Elt F)) := after c6 (v6 V)
/-- The contents after 7 chunks. -/
def v8 (V : Valuation τ sig (Elt F)) := after c7 (v7 V)
/-- The contents after 8 chunks. -/
def v9 (V : Valuation τ sig (Elt F)) := after c8 (v8 V)

/-- The contents after the whole line are those after its chunks, one after the other. -/
theorem after_ops (V : Valuation τ sig (Elt F)) : after ops V = v9 V := by
  simp only [ops, after_append]; rfl

/-- A buffer that the first 1 lines do not write keeps its contents through them. -/
theorem kept1 (V : Valuation τ sig (Elt F)) (r : Ref sig .tc) (h : r ∉ w0) :
    v1 V (Proc.devRef .tc r) = V (Proc.devRef .tc r) := by
  exact keep0 V r h

/-- A buffer that the first 2 lines do not write keeps its contents through them. -/
theorem kept2 (V : Valuation τ sig (Elt F)) (r : Ref sig .tc) (h : r ∉ w0 ++ w1) :
    v2 V (Proc.devRef .tc r) = V (Proc.devRef .tc r) := by
  have h' := List.mem_append.not.mp h
  exact (keep1 _ r fun x => h' (Or.inr x)).trans (kept1 V r fun x => h' (Or.inl x))

/-- A buffer that the first 3 lines do not write keeps its contents through them. -/
theorem kept3 (V : Valuation τ sig (Elt F)) (r : Ref sig .tc) (h : r ∉ w0 ++ w1 ++ w2) :
    v3 V (Proc.devRef .tc r) = V (Proc.devRef .tc r) := by
  have h' := List.mem_append.not.mp h
  exact (keep2 _ r fun x => h' (Or.inr x)).trans (kept2 V r fun x => h' (Or.inl x))

/-- A buffer that the first 4 lines do not write keeps its contents through them. -/
theorem kept4 (V : Valuation τ sig (Elt F)) (r : Ref sig .tc) (h : r ∉ w0 ++ w1 ++ w2 ++ w3) :
    v4 V (Proc.devRef .tc r) = V (Proc.devRef .tc r) := by
  have h' := List.mem_append.not.mp h
  exact (keep3 _ r fun x => h' (Or.inr x)).trans (kept3 V r fun x => h' (Or.inl x))

/-- A buffer that the first 5 lines do not write keeps its contents through them. -/
theorem kept5 (V : Valuation τ sig (Elt F)) (r : Ref sig .tc) (h : r ∉ w0 ++ w1 ++ w2 ++ w3 ++ w4) :
    v5 V (Proc.devRef .tc r) = V (Proc.devRef .tc r) := by
  have h' := List.mem_append.not.mp h
  exact (keep4 _ r fun x => h' (Or.inr x)).trans (kept4 V r fun x => h' (Or.inl x))

/-- A buffer that the first 6 lines do not write keeps its contents through them. -/
theorem kept6 (V : Valuation τ sig (Elt F)) (r : Ref sig .tc) (h : r ∉ w0 ++ w1 ++ w2 ++ w3 ++ w4 ++ w5) :
    v6 V (Proc.devRef .tc r) = V (Proc.devRef .tc r) := by
  have h' := List.mem_append.not.mp h
  exact (keep5 _ r fun x => h' (Or.inr x)).trans (kept5 V r fun x => h' (Or.inl x))

/-- A buffer that the first 7 lines do not write keeps its contents through them. -/
theorem kept7 (V : Valuation τ sig (Elt F)) (r : Ref sig .tc) (h : r ∉ w0 ++ w1 ++ w2 ++ w3 ++ w4 ++ w5 ++ w6) :
    v7 V (Proc.devRef .tc r) = V (Proc.devRef .tc r) := by
  have h' := List.mem_append.not.mp h
  exact (keep6 _ r fun x => h' (Or.inr x)).trans (kept6 V r fun x => h' (Or.inl x))

/-- A buffer that the first 8 lines do not write keeps its contents through them. -/
theorem kept8 (V : Valuation τ sig (Elt F)) (r : Ref sig .tc) (h : r ∉ w0 ++ w1 ++ w2 ++ w3 ++ w4 ++ w5 ++ w6 ++ w7) :
    v8 V (Proc.devRef .tc r) = V (Proc.devRef .tc r) := by
  have h' := List.mem_append.not.mp h
  exact (keep7 _ r fun x => h' (Or.inr x)).trans (kept7 V r fun x => h' (Or.inl x))

/-- A buffer that the first 9 lines do not write keeps its contents through them. -/
theorem kept9 (V : Valuation τ sig (Elt F)) (r : Ref sig .tc) (h : r ∉ w0 ++ w1 ++ w2 ++ w3 ++ w4 ++ w5 ++ w6 ++ w7 ++ w8) :
    v9 V (Proc.devRef .tc r) = V (Proc.devRef .tc r) := by
  have h' := List.mem_append.not.mp h
  exact (keep8 _ r fun x => h' (Or.inr x)).trans (kept8 V r fun x => h' (Or.inl x))

/-- From any memory with zero counters every execution of the reference terminates, each buffer at what the nine lines
leave. -/
theorem run (m : (ℓ : Loc nD τ sig) → Buf (Elt F) ℓ) (ρ : Dev nD → PrngReg) :
    θ_run defs (onTc (τ := τ) (main (F := F))) ⟨m, fun _ => 0, ρ⟩ fun r => ∀ (d : Dev nD) (b : Ref sig .tc),
      r.2.mem ((d.tc : Thread nD τ).loc b) = v9 (launchContents m d) (Proc.devRef .tc b) :=
  (θ_run defs _ _).mono (fun _ h d b => (h d b).trans (by rw [after_ops]))
    (run_seq scopedRefs_eq scopedSems_eq defs main (fun _ => ops) main_eq (fun _ => ops_sub) m ρ (fun _ => ops_fresh))

end Cert.MergeLine

end
-- ==== Proof.MergeRef.lean ====
module

public import proofs.«01_k».proof.Proof.MergeLine
public import proofs.«01_k».proof.Proof.MergeSpec
public import Idealize.ShloMosaic.Lib.StableHlo.ReadAt

/-! The reference's merge, read at an element: its result is `Merge.resArr` of its arguments. -/

@[expose] public section

set_option maxRecDepth 16384

noncomputable section

namespace Cert.MergeRef

open Idealize.SL.Sem Cert.Reference2Ideal Cert.Reference2Ideal.Gen Cert.MergeLine Cert.Merge Idealize.ShloMosaic Idealize.ShloMosaic.TcCoe
  Idealize.ShloMosaic.StableHlo

/-- The memory `V` holds the arguments `A`. -/
structure Holds (A : Args) (V : Valuation τ sig (Elt Ideal)) : Prop where
  h0 : V (Proc.devRef .tc main_arg0) = A.a0
  h1 : V (Proc.devRef .tc main_arg1) = A.a1
  h2 : V (Proc.devRef .tc main_arg2) = A.a2
  h3 : V (Proc.devRef .tc main_arg3) = A.a3
  h4 : V (Proc.devRef .tc main_arg4) = A.a4
  h5 : V (Proc.devRef .tc main_arg5) = A.a5
  h6 : V (Proc.devRef .tc main_arg6) = A.a6
  h7 : V (Proc.devRef .tc main_arg7) = A.a7
  h8 : V (Proc.devRef .tc main_arg8) = A.a8
  h9 : V (Proc.devRef .tc main_arg9) = A.a9
  h10 : V (Proc.devRef .tc main_arg10) = A.a10
  h11 : V (Proc.devRef .tc main_arg11) = A.a11
  h12 : V (Proc.devRef .tc main_arg12) = A.a12
  h13 : V (Proc.devRef .tc main_arg13) = A.a13
  h14 : V (Proc.devRef .tc main_arg14) = A.a14
  h15 : V (Proc.devRef .tc main_arg15) = A.a15
  h16 : V (Proc.devRef .tc main_arg16) = A.a16

variable (A : Args) (b : Fin 4) (s : Fin 4096) (V : Valuation τ sig (Elt Ideal))

/-- The reference's modulated rows. -/
theorem h_at (hV : Holds A V) (k : Fin 1024) : after c0 V (Proc.devRef .tc main_v21) (ix3 b s k) = hx A b s k := by
  after_reads_at
  simp only [hV.h0, hV.h1, hV.h2]
  rfl

/-- The reference's gate of the merge. -/
theorem g_at (hV : Holds A V) (k : Fin 1024) :
    after c0 V (Proc.devRef .tc main_v2) (ix3 b 0 k) = A.a1 (ix3 b 0 ⟨2048 + k.val, by omega⟩) := by
  after_reads_at
  rw [hV.h1]

section Columns

variable (hw : V (Proc.devRef .tc main_arg11) = A.a11)
  (hh : ∀ k, V (Proc.devRef .tc main_v21) (ix3 b s k) = hx A b s k)

include hw hh

/-- The reference's columns of the input product from 768. -/
theorem za_at (j : Fin 512) : after c1 V (Proc.devRef .tc main_v28) (ix3 b s j) = zc A b s ⟨768 + j.val, by omega⟩ := by
  after_reads_at
  simp only [hw, hh]
  rfl

/-- The reference's columns of the input product from 2048. -/
theorem zb_at (j : Fin 256) : after c1 V (Proc.devRef .tc main_v32) (ix3 b s j) = zc A b s ⟨2048 + j.val, by omega⟩ := by
  after_reads_at
  simp only [hw, hh]
  rfl

/-- The reference's columns of the input product from 3072. -/
theorem zr_at (j : Fin 256) : after c1 V (Proc.devRef .tc main_v36) (ix3 b s j) = zc A b s ⟨3072 + j.val, by omega⟩ := by
  after_reads_at
  simp only [hw, hh]
  rfl

/-- The reference's columns of the input product from 3584. -/
theorem zf_at (j : Fin 256) : after c1 V (Proc.devRef .tc main_v38) (ix3 b s j) = zc A b s ⟨3584 + j.val, by omega⟩ := by
  after_reads_at
  simp only [hw, hh]
  rfl

/-- The reference's columns of the input product from 3840. -/
theorem zg_at (j : Fin 4096) : after c1 V (Proc.devRef .tc main_v39) (ix3 b s j) = zc A b s ⟨3840 + j.val, by omega⟩ := by
  after_reads_at
  simp only [hw, hh]
  rfl

end Columns

/-- The reference's convolution, times its branch's gate. -/
theorem yb_at (h5 : V (Proc.devRef .tc main_arg5) = A.a5) (h6 : V (Proc.devRef .tc main_arg6) = A.a6)
    (h9 : V (Proc.devRef .tc main_arg9) = A.a9) (h10 : V (Proc.devRef .tc main_arg10) = A.a10) (n : Fin 256) :
    after c2 V (Proc.devRef .tc main_v64) (ix3 b s n) = yb A b s n := by
  after_reads_at
  have hz : (FloatOps.sitofp FTy.f32 (0#32 : BitVec 32) : Ideal .f32) = (0 : EReal) := by
    show ((((0#32 : BitVec 32).toInt : ℝ)) : EReal) = 0
    simp
  simp only [h5, h6, h9, h10, hz]
  unfold yb
  have e1 : (if h : 1 ≤ s.val ∧ s.val - 1 < 4096 then A.a5 (ix3 b ⟨s.val - 1, by omega⟩ n) else 0)
      = (if h : s.val = 0 then 0 else A.a5 (ix3 b ⟨s.val - 1, by omega⟩ n)) := by
    by_cases h : s.val = 0
    · rw [dif_pos h, dif_neg (by omega)]
    · rw [dif_neg h, dif_pos (by omega)]
  have e2 : (if h : 1 ≤ 2 + s.val ∧ 2 + s.val - 1 < 4096 then A.a5 (ix3 b ⟨2 + s.val - 1, by omega⟩ n) else 0)
      = (if h : s.val = 4095 then 0 else A.a5 (ix3 b ⟨s.val + 1, by omega⟩ n)) := by
    by_cases h : s.val = 4095
    · rw [dif_pos h, dif_neg (by omega)]
    · rw [dif_neg h, dif_pos (by omega)]
      congr 2; apply Fin.ext; show 2 + s.val - 1 = s.val + 1; omega
  rw [e1, e2]

/-- The reference's merge gates: the logistic function of the input product's columns. -/
theorem sg_at (i : Fin 4) (c : Fin 1024) :
    after c3 V (Proc.devRef .tc main_v81) (ix4 b s i c)
      = sg (V (Proc.devRef .tc main_v39) (ix3 b s ⟨i.val * 1024 + c.val, by omega⟩)) := by
  after_reads_at
  unfold sg
  rw [zero_sub]

/-- The first of the stacked weights arg12. -/
theorem v66_at (n : Fin 512) (c : Fin 1024) :
    after c3 V (Proc.devRef .tc main_v66) (ix2 n c) = V (Proc.devRef .tc main_arg12) (ix3 0 n c) := by
  after_reads_at

/-- The first of the stacked weights arg13. -/
theorem v68_at (n : Fin 256) (c : Fin 1024) :
    after c3 V (Proc.devRef .tc main_v68) (ix2 n c) = V (Proc.devRef .tc main_arg13) (ix3 0 n c) := by
  after_reads_at

/-- The first of the stacked weights arg14. -/
theorem v70_at (n : Fin 256) (c : Fin 1024) :
    after c3 V (Proc.devRef .tc main_v70) (ix2 n c) = V (Proc.devRef .tc main_arg14) (ix3 0 n c) := by
  after_reads_at

/-- The first of the stacked weights arg15. -/
theorem v72_at (n : Fin 256) (c : Fin 1024) :
    after c3 V (Proc.devRef .tc main_v72) (ix2 n c) = V (Proc.devRef .tc main_arg15) (ix3 0 n c) := by
  after_reads_at

/-- The first of the stacked weights arg16. -/
theorem v74_at (n : Fin 1024) (c : Fin 1024) :
    after c3 V (Proc.devRef .tc main_v74) (ix2 n c) = V (Proc.devRef .tc main_arg16) (ix3 0 n c) := by
  after_reads_at

/-- The merge's sum after branch 0. -/
theorem ta_at (c : Fin 1024) (g : EReal) (hg : V (Proc.devRef .tc main_v81) (ix4 b s 0 c) = g) :
    after c4 V (Proc.devRef .tc main_v89) (ix3 b s c) = g *
      dotc (fun n : Fin 512 => act (V (Proc.devRef .tc main_arg4) (ix3 b s n)) (V (Proc.devRef .tc main_v28) (ix3 b s n)))
        (fun n => V (Proc.devRef .tc main_v66) (ix2 n c)) := by
  subst hg
  after_reads_at
  unfold dotc act sg
  simp only [zero_sub]

/-- The merge's sum after branch 1. -/
theorem tb_at (c : Fin 1024) (g : EReal) (hg : V (Proc.devRef .tc main_v81) (ix4 b s 1 c) = g)
    (t : EReal) (ht : V (Proc.devRef .tc main_v89) (ix3 b s c) = t) :
    after c5 V (Proc.devRef .tc main_v96) (ix3 b s c) = t + g *
      dotc (fun n : Fin 256 => act (V (Proc.devRef .tc main_v64) (ix3 b s n)) (V (Proc.devRef .tc main_v32) (ix3 b s n)))
        (fun n => V (Proc.devRef .tc main_v68) (ix2 n c)) := by
  subst hg ht
  after_reads_at
  unfold dotc act sg
  simp only [zero_sub]

/-- The merge's sum after branch 2. -/
theorem tr_at (c : Fin 1024) (g : EReal) (hg : V (Proc.devRef .tc main_v81) (ix4 b s 2 c) = g)
    (t : EReal) (ht : V (Proc.devRef .tc main_v96) (ix3 b s c) = t) :
    after c6 V (Proc.devRef .tc main_v103) (ix3 b s c) = t + g *
      dotc (fun n : Fin 256 => act (V (Proc.devRef .tc main_arg7) (ix3 b s n)) (V (Proc.devRef .tc main_v36) (ix3 b s n)))
        (fun n => V (Proc.devRef .tc main_v70) (ix2 n c)) := by
  subst hg ht
  after_reads_at
  unfold dotc act sg
  simp only [zero_sub]

/-- The merge's sum after branch 3. -/
theorem tf_at (c : Fin 1024) (g : EReal) (hg : V (Proc.devRef .tc main_v81) (ix4 b s 3 c) = g)
    (t : EReal) (ht : V (Proc.devRef .tc main_v103) (ix3 b s c) = t) :
    after c7 V (Proc.devRef .tc main_v110) (ix3 b s c) = t + g *
      dotc (fun n : Fin 256 => act (V (Proc.devRef .tc main_arg8) (ix3 b s n)) (V (Proc.devRef .tc main_v38) (ix3 b s n)))
        (fun n => V (Proc.devRef .tc main_v72) (ix2 n c)) := by
  subst hg ht
  after_reads_at
  unfold dotc act sg
  simp only [zero_sub]

/-- The reference's result from the merge's sum. -/
theorem out_at (b : Fin 4) (s : Fin 4096) (l : Fin 1024) :
    after c8 V (Proc.devRef .tc main_v128) (ix2 ⟨b.val * 4096 + s.val, by omega⟩ l)
      = outRow (fun k => V (Proc.devRef .tc main_arg0) (ix3 b s k)) (fun k => V (Proc.devRef .tc main_v2) (ix3 b 0 k))
          (fun k => V (Proc.devRef .tc main_arg3) (ix1 k))
          (fun k => dotc (fun c : Fin 1024 => V (Proc.devRef .tc main_v110) (ix3 b s c))
            (fun c => V (Proc.devRef .tc main_v74) (ix2 c k))) l := by
  after_reads_at
  rfl

/-- The result that the reference leaves is the merge of its arguments. -/
theorem v9_at (hV : Holds A V) (b : Fin 4) (s : Fin 4096) (l : Fin 1024) :
    v9 V (Proc.devRef .tc main_v128) (ix2 ⟨b.val * 4096 + s.val, by omega⟩ l) = res A b s l := by
  have hh : ∀ k, v1 V (Proc.devRef .tc main_v21) (ix3 b s k) = hx A b s k := h_at A b s V hV
  have hw : v1 V (Proc.devRef .tc main_arg11) = A.a11 := (kept1 V main_arg11 (by decide)).trans hV.h11
  have za := za_at A b s (v1 V) hw hh
  have zb := zb_at A b s (v1 V) hw hh
  have zr := zr_at A b s (v1 V) hw hh
  have zf := zf_at A b s (v1 V) hw hh
  have zg := zg_at A b s (v1 V) hw hh
  have hy := yb_at A b s (v2 V) ((kept2 V main_arg5 (by decide)).trans hV.h5) ((kept2 V main_arg6 (by decide)).trans hV.h6)
    ((kept2 V main_arg9 (by decide)).trans hV.h9) ((kept2 V main_arg10 (by decide)).trans hV.h10)
  have k3 : ∀ r, r ∉ w2 → v3 V (Proc.devRef .tc r) = v2 V (Proc.devRef .tc r) := fun r h => keep2 _ r h
  have k4 : ∀ r, r ∉ w3 → v4 V (Proc.devRef .tc r) = v3 V (Proc.devRef .tc r) := fun r h => keep3 _ r h
  have k5 : ∀ r, r ∉ w4 → v5 V (Proc.devRef .tc r) = v4 V (Proc.devRef .tc r) := fun r h => keep4 _ r h
  have k6 : ∀ r, r ∉ w5 → v6 V (Proc.devRef .tc r) = v5 V (Proc.devRef .tc r) := fun r h => keep5 _ r h
  have k7 : ∀ r, r ∉ w6 → v7 V (Proc.devRef .tc r) = v6 V (Proc.devRef .tc r) := fun r h => keep6 _ r h
  have k8 : ∀ r, r ∉ w7 → v8 V (Proc.devRef .tc r) = v7 V (Proc.devRef .tc r) := fun r h => keep7 _ r h
  -- the gates
  have hg : ∀ (i : Fin 4) (c : Fin 1024), v4 V (Proc.devRef .tc main_v81) (ix4 b s i c)
      = sg (zc A b s ⟨3840 + (i.val * 1024 + c.val), by omega⟩) := fun i c => by
    refine (sg_at b s (v3 V) i c).trans ?_
    rw [k3 main_v39 (by decide)]
    exact congrArg sg (zg ⟨i.val * 1024 + c.val, by omega⟩)
  have hgi : ∀ (i : Fin 4) (c : Fin 1024) (k : Fin 7936), k.val = 3840 + (i.val * 1024 + c.val) →
      v4 V (Proc.devRef .tc main_v81) (ix4 b s i c) = sg (zc A b s k) := fun i c k hk =>
    (hg i c).trans (congrArg sg (congrArg (zc A b s) (Fin.ext hk.symm)))
  have hg0 := fun c : Fin 1024 => hgi 0 c ⟨3840 + c.val, by omega⟩ (by show 3840 + c.val = 3840 + (0 * 1024 + c.val); omega)
  have hg1 := fun c : Fin 1024 => hgi 1 c ⟨4864 + c.val, by omega⟩ (by show 4864 + c.val = 3840 + (1 * 1024 + c.val); omega)
  have hg2 := fun c : Fin 1024 => hgi 2 c ⟨5888 + c.val, by omega⟩ (by show 5888 + c.val = 3840 + (2 * 1024 + c.val); omega)
  have hg3 := fun c : Fin 1024 => hgi 3 c ⟨6912 + c.val, by omega⟩ (by show 6912 + c.val = 3840 + (3 * 1024 + c.val); omega)
  -- the weights
  have e66 : ∀ (n : Fin 512) (c : Fin 1024), v4 V (Proc.devRef .tc main_v66) (ix2 n c) = A.a12 (ix3 0 n c) := fun n c =>
    (v66_at (v3 V) n c).trans (by rw [kept3 V main_arg12 (by decide), hV.h12])
  have e68 : ∀ (n : Fin 256) (c : Fin 1024), v4 V (Proc.devRef .tc main_v68) (ix2 n c) = A.a13 (ix3 0 n c) := fun n c =>
    (v68_at (v3 V) n c).trans (by rw [kept3 V main_arg13 (by decide), hV.h13])
  have e70 : ∀ (n : Fin 256) (c : Fin 1024), v4 V (Proc.devRef .tc main_v70) (ix2 n c) = A.a14 (ix3 0 n c) := fun n c =>
    (v70_at (v3 V) n c).trans (by rw [kept3 V main_arg14 (by decide), hV.h14])
  have e72 : ∀ (n : Fin 256) (c : Fin 1024), v4 V (Proc.devRef .tc main_v72) (ix2 n c) = A.a15 (ix3 0 n c) := fun n c =>
    (v72_at (v3 V) n c).trans (by rw [kept3 V main_arg15 (by decide), hV.h15])
  have e74 : ∀ (n : Fin 1024) (c : Fin 1024), v4 V (Proc.devRef .tc main_v74) (ix2 n c) = A.a16 (ix3 0 n c) := fun n c =>
    (v74_at (v3 V) n c).trans (by rw [kept3 V main_arg16 (by decide), hV.h16])
  -- the sum, branch by branch
  have s0 := fun c => ta_at b s (v4 V) c _ (hg0 c)
  have s1 := fun c => tb_at b s (v5 V) c _ ((congrFun (k5 main_v81 (by decide)) _).trans (hg1 c)) _ (s0 c)
  have s2 := fun c => tr_at b s (v6 V) c _ ((congrFun ((k6 main_v81 (by decide)).trans (k5 main_v81 (by decide))) _).trans (hg2 c)) _ (s1 c)
  have s3 := fun c => tf_at b s (v7 V) c _ ((congrFun ((k7 main_v81 (by decide)).trans ((k6 main_v81 (by decide)).trans (k5 main_v81 (by decide)))) _).trans (hg3 c)) _ (s2 c)
  have ht : ∀ c, v8 V (Proc.devRef .tc main_v110) (ix3 b s c) = tot A b s c := fun c => by
    refine (s3 c).trans ?_
    rw [k4 main_v28 (by decide), k3 main_v28 (by decide), kept4 V main_arg4 (by decide), hV.h4,
      k5 main_v32 (by decide), k4 main_v32 (by decide), k3 main_v32 (by decide), k5 main_v64 (by decide), k4 main_v64 (by decide),
      k5 main_v68 (by decide),
      k6 main_v36 (by decide), k5 main_v36 (by decide), k4 main_v36 (by decide), k3 main_v36 (by decide), kept6 V main_arg7 (by decide), hV.h7,
      k6 main_v70 (by decide), k5 main_v70 (by decide),
      k7 main_v38 (by decide), k6 main_v38 (by decide), k5 main_v38 (by decide), k4 main_v38 (by decide), k3 main_v38 (by decide), kept7 V main_arg8 (by decide), hV.h8,
      k7 main_v72 (by decide), k6 main_v72 (by decide), k5 main_v72 (by decide)]
    have za' : ∀ j, v2 V (Proc.devRef .tc main_v28) (ix3 b s j) = _ := za
    have zb' : ∀ j, v2 V (Proc.devRef .tc main_v32) (ix3 b s j) = _ := zb
    have zr' : ∀ j, v2 V (Proc.devRef .tc main_v36) (ix3 b s j) = _ := zr
    have zf' : ∀ j, v2 V (Proc.devRef .tc main_v38) (ix3 b s j) = _ := zf
    have hy' : ∀ n, v3 V (Proc.devRef .tc main_v64) (ix3 b s n) = _ := hy
    simp only [e66, e68, e70, e72, za', zb', zr', zf', hy']
    rfl
  refine (out_at (v8 V) b s l).trans ?_
  rw [kept8 V main_arg0 (by decide), hV.h0, kept8 V main_arg3 (by decide), hV.h3,
    k8 main_v2 (by decide), k7 main_v2 (by decide), k6 main_v2 (by decide), k5 main_v2 (by decide), k4 main_v2 (by decide),
    k3 main_v2 (by decide), show v2 V (Proc.devRef .tc main_v2) = v1 V (Proc.devRef .tc main_v2) from keep1 _ main_v2 (by decide),
    k8 main_v74 (by decide), k7 main_v74 (by decide), k6 main_v74 (by decide), k5 main_v74 (by decide)]
  have hgate : ∀ k, v1 V (Proc.devRef .tc main_v2) (ix3 b 0 k) = _ := g_at A b V hV
  simp only [ht, e74, hgate]
  rfl

/-- The result that the reference leaves is the merge's result array. -/
theorem v9_eq (hV : Holds A V) : v9 V (Proc.devRef .tc main_v128) = resArr A := by
  funext j
  have hj : (j 0).val < 16384 := (j 0).isLt
  have e : j = ix2 (⟨(j 0).val / 4096 * 4096 + (j 0).val % 4096, by omega⟩ : Fin 16384) (j 1) := by
    funext a
    fin_cases a
    · exact Fin.ext (show (j 0).val = (j 0).val / 4096 * 4096 + (j 0).val % 4096 by omega)
    · rfl
  refine (congrArg (v9 V (Proc.devRef .tc main_v128)) e).trans ?_
  exact v9_at A V hV ⟨(j 0).val / 4096, by omega⟩ ⟨(j 0).val % 4096, by omega⟩ (j 1)

/-- The arguments a device's memory holds at launch. -/
def argsOf (m : (ℓ : Loc nD τ sig) → Buf (Elt Ideal) ℓ) (c : Dev nD) : Args where
  a0 := m ((c.tc : Thread nD τ).loc main_arg0)
  a1 := m ((c.tc : Thread nD τ).loc main_arg1)
  a2 := m ((c.tc : Thread nD τ).loc main_arg2)
  a3 := m ((c.tc : Thread nD τ).loc main_arg3)
  a4 := m ((c.tc : Thread nD τ).loc main_arg4)
  a5 := m ((c.tc : Thread nD τ).loc main_arg5)
  a6 := m ((c.tc : Thread nD τ).loc main_arg6)
  a7 := m ((c.tc : Thread nD τ).loc main_arg7)
  a8 := m ((c.tc : Thread nD τ).loc main_arg8)
  a9 := m ((c.tc : Thread nD τ).loc main_arg9)
  a10 := m ((c.tc : Thread nD τ).loc main_arg10)
  a11 := m ((c.tc : Thread nD τ).loc main_arg11)
  a12 := m ((c.tc : Thread nD τ).loc main_arg12)
  a13 := m ((c.tc : Thread nD τ).loc main_arg13)
  a14 := m ((c.tc : Thread nD τ).loc main_arg14)
  a15 := m ((c.tc : Thread nD τ).loc main_arg15)
  a16 := m ((c.tc : Thread nD τ).loc main_arg16)

/-- On any memory with zero counters the reference terminates, its result the merge's result array and its arguments
kept. -/
theorem run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v128) = resArr (argsOf m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16) :=
  (θ_run defs _ _).mono (fun _ h c => ⟨(h c main_v128).trans (v9_eq (argsOf m c) _ ⟨rfl, rfl, rfl, rfl, rfl, rfl, rfl, rfl, rfl, rfl, rfl, rfl, rfl, rfl, rfl, rfl, rfl⟩),
    (h c main_arg0).trans (kept9 _ main_arg0 (by decide)),
    (h c main_arg1).trans (kept9 _ main_arg1 (by decide)),
    (h c main_arg2).trans (kept9 _ main_arg2 (by decide)),
    (h c main_arg3).trans (kept9 _ main_arg3 (by decide)),
    (h c main_arg4).trans (kept9 _ main_arg4 (by decide)),
    (h c main_arg5).trans (kept9 _ main_arg5 (by decide)),
    (h c main_arg6).trans (kept9 _ main_arg6 (by decide)),
    (h c main_arg7).trans (kept9 _ main_arg7 (by decide)),
    (h c main_arg8).trans (kept9 _ main_arg8 (by decide)),
    (h c main_arg9).trans (kept9 _ main_arg9 (by decide)),
    (h c main_arg10).trans (kept9 _ main_arg10 (by decide)),
    (h c main_arg11).trans (kept9 _ main_arg11 (by decide)),
    (h c main_arg12).trans (kept9 _ main_arg12 (by decide)),
    (h c main_arg13).trans (kept9 _ main_arg13 (by decide)),
    (h c main_arg14).trans (kept9 _ main_arg14 (by decide)),
    (h c main_arg15).trans (kept9 _ main_arg15 (by decide)),
    (h c main_arg16).trans (kept9 _ main_arg16 (by decide))⟩)
    (MergeLine.run m ρ)

end Cert.MergeRef

end
-- ==== Proof.MergeValue.lean ====
module

public import proofs.«01_k».proof.Defs
public import proofs.«01_k».proof.Proof.MergeArr
public import proofs.«01_k».proof.Proof.MergeRef

/-! The merge kernel and the merge reference end with the same result array. -/

@[expose] public section

set_option maxRecDepth 16384

noncomputable section

namespace Cert.MergeValue

open Idealize.ShloMosaic Idealize.ShloMosaic.TcCoe Idealize.SL.Sem

/-- The idealized merge kernel computes its reference, from any memory. -/
theorem algebraic : Cert.algebraic_Kernel2Ideal_Reference2Ideal (hKernel2Ideal := Cert.Kernel2Ideal.Gen.facts)
    (hReference2Ideal := Cert.Reference2Ideal.Gen.facts) := by
  intro m g m' g' _ hagree
  refine ⟨fun c => Merge.resArr (MergeK.argsOf m c), ?_, ?_⟩
  · refine (θ_run Cert.Kernel2Ideal.defs _ _).mono (fun r h c => ?_) (Cert.Kernel2Ideal.Value.run_blocks m g)
    exact ⟨(h c).1.trans (MergeK.arr_eq m c), (h c).2⟩
  · refine (θ_run Cert.Reference2Ideal.defs _ _).mono (fun r h c => ?_) (MergeRef.run m' g')
    refine ⟨(h c).1.trans ?_, (h c).2⟩
    have e : MergeRef.argsOf m' c = MergeK.argsOf m c := by
      obtain ⟨h0, h1, h2, h3, h4, h5, h6, h7, h8, h9, h10, h11, h12, h13, h14, h15, h16⟩ := hagree c
      unfold MergeRef.argsOf MergeK.argsOf
      rw [h0, h1, h2, h3, h4, h5, h6, h7, h8, h9, h10, h11, h12, h13, h14, h15, h16]
    rw [e]

end Cert.MergeValue

end
-- ==== Proof.AttnMath.lean ====
module

public import Idealize.ShloMosaic.PureOps.Ideal.Laws
public import Mathlib.Analysis.SpecialFunctions.Pow.Real

/-! The windowed attention of one row over the extended reals: softmax weights with a sink, in base e with the weights
divided before the sums, and in base 2 with one division after them; the two are equal when the row's maximum is a
number. -/

@[expose] public section

noncomputable section

namespace Cert.Attn

open Idealize.ShloMosaic

/-- The reciprocal of the natural logarithm of two. -/
abbrev κ : EReal := (((Real.log 2)⁻¹ : ℝ) : EReal)

/-- The reciprocal of the logarithm of two is positive. -/
theorem κ_pos : (0 : ℝ) < (Real.log 2)⁻¹ := inv_pos.mpr (Real.log_pos (by norm_num))
/-- The reciprocal of the logarithm of two is nonnegative. -/
theorem κ_nonneg : (0 : EReal) ≤ κ := EReal.coe_nonneg.mpr κ_pos.le
/-- The reciprocal of the logarithm of two is finite. -/
theorem κ_ne_top : κ ≠ ⊤ := EReal.coe_ne_top _

/-- A power of two whose exponent is scaled by the reciprocal of the logarithm of two is an exponential. -/
theorem exp2_mul (y : EReal) : Ideal.exp2 (y * κ) = Ideal.exp y := by
  induction y using EReal.rec with
  | bot => rw [EReal.bot_mul_coe_of_pos κ_pos]; rfl
  | top => rw [EReal.top_mul_coe_of_pos κ_pos]; rfl
  | coe r =>
    rw [← EReal.coe_mul, Ideal.exp2_coe, Ideal.exp_coe]
    congr 1
    show (2 : ℝ) ^ (r * (Real.log 2)⁻¹) = Real.exp r
    rw [Real.rpow_def_of_pos (by norm_num)]
    congr 1
    have h : Real.log 2 ≠ 0 := (Real.log_pos (by norm_num)).ne'
    field_simp

/-- Scaling by a nonnegative number distributes over a difference. -/
theorem sub_mul_κ (x y : EReal) : x * κ - y * κ = (x - y) * κ := by
  rw [sub_eq_add_neg, sub_eq_add_neg, ← EReal.neg_mul, EReal.right_distrib_of_nonneg_of_ne_top κ_nonneg κ_ne_top]

/-- A nonnegative factor that is not infinite comes out of a sum. -/
theorem sum_mul_of_nonneg {ι : Type} [DecidableEq ι] (s : Finset ι) (f : ι → EReal) {c : EReal} (h : 0 ≤ c) (ht : c ≠ ⊤) :
    ∑ i ∈ s, f i * c = (∑ i ∈ s, f i) * c := by
  induction s using Finset.induction_on with
  | empty => simp
  | insert a s ha ih => rw [Finset.sum_insert ha, Finset.sum_insert ha, ih, EReal.right_distrib_of_nonneg_of_ne_top h ht]

/-- Scaling by a positive number keeps the order. -/
theorem mul_κ_le (x y : EReal) : x * κ ≤ y * κ ↔ x ≤ y := by
  have hm : ∀ a b : EReal, a ≤ b → a * κ ≤ b * κ := fun a b h => mul_le_mul_of_nonneg_right h κ_nonneg
  refine ⟨fun h => ?_, hm x y⟩
  have h1 : ∀ a : EReal, a * κ * ((Real.log 2 : ℝ) : EReal) = a := fun a => by
    rw [mul_assoc, ← EReal.coe_mul, inv_mul_cancel₀ (Real.log_pos (by norm_num)).ne', EReal.coe_one, mul_one]
  have := mul_le_mul_of_nonneg_right h (EReal.coe_nonneg.mpr (Real.log_pos (by norm_num : (1:ℝ) < 2)).le)
  rwa [h1, h1] at this

/-- The greatest of a row's scores: three blocks, the context and the sink. -/
def rowMax (x : Fin 384 → EReal) (y : Fin 256 → EReal) (s : EReal) : EReal :=
  max (max (Finset.univ.sup x) (Finset.univ.sup y)) s

/-- A bound on a row's maximum is a bound on its elements and its sink. -/
theorem rowMax_le (x : Fin 384 → EReal) (y : Fin 256 → EReal) (s b : EReal) :
    rowMax x y s ≤ b ↔ (∀ c, x c ≤ b) ∧ (∀ c, y c ≤ b) ∧ s ≤ b := by
  simp [rowMax, Finset.sup_le_iff, and_assoc]

/-- A row's greatest score by what lies above it. -/
theorem eq_rowMax {x : Fin 384 → EReal} {y : Fin 256 → EReal} {s M : EReal}
    (h : ∀ b, M ≤ b ↔ (∀ c, x c ≤ b) ∧ (∀ c, y c ≤ b) ∧ s ≤ b) : M = rowMax x y s :=
  le_antisymm ((h _).2 ((rowMax_le x y s _).1 le_rfl)) ((rowMax_le x y s _).2 ((h _).1 le_rfl))

/-- The greatest score of scaled scores. -/
theorem rowMax_mul (x : Fin 384 → EReal) (y : Fin 256 → EReal) (s : EReal) :
    rowMax (fun c => x c * κ) (fun c => y c * κ) (s * κ) = rowMax x y s * κ := by
  symm
  apply eq_rowMax
  intro b
  have hb : b = b * ((Real.log 2 : ℝ) : EReal) * κ := by
    rw [mul_assoc, ← EReal.coe_mul, mul_inv_cancel₀ (Real.log_pos (by norm_num)).ne', EReal.coe_one, mul_one]
  rw [hb]
  simp only [mul_κ_le, rowMax_le]

/-- The weights' denominator: the exponentials of the scores and of the sink. -/
def den (x : Fin 384 → EReal) (y : Fin 256 → EReal) (s M : EReal) : EReal :=
  (∑ c, Ideal.exp (x c - M)) + (∑ c, Ideal.exp (y c - M)) + Ideal.exp (s - M)

/-- The row's result, each weight divided before the sums. -/
def out (x : Fin 384 → EReal) (y : Fin 256 → EReal) (s : EReal) (v : Fin 384 → EReal) (w : Fin 256 → EReal) : EReal :=
  (∑ c, v c * Ideal.div (Ideal.exp (x c - rowMax x y s)) (den x y s (rowMax x y s)))
    + ∑ c, w c * Ideal.div (Ideal.exp (y c - rowMax x y s)) (den x y s (rowMax x y s))

/-- The row's result in base two, one division after the sums. -/
def outK (x : Fin 384 → EReal) (y : Fin 256 → EReal) (s : EReal) (v : Fin 384 → EReal) (w : Fin 256 → EReal) : EReal :=
  Ideal.div ((∑ c, Ideal.exp2 (x c - rowMax x y s) * v c) + ∑ c, Ideal.exp2 (y c - rowMax x y s) * w c)
    ((∑ c, Ideal.exp2 (x c - rowMax x y s)) + (∑ c, Ideal.exp2 (y c - rowMax x y s)) + Ideal.exp2 (s - rowMax x y s))

/-- An exponential is nonnegative. -/
theorem exp_nonneg (y : EReal) : 0 ≤ Ideal.exp y := by
  induction y using EReal.rec with
  | bot => exact le_rfl
  | top => exact le_top
  | coe r => rw [Ideal.exp_coe]; exact EReal.coe_nonneg.mpr (Real.exp_pos r).le

/-- The two results of a row are equal: `x`, `y`, `s` its scores and sink, none of them `⊤` and the sink a number, and
the values of the three blocks equal wherever the score is not `⊥`. -/
theorem outK_eq (x : Fin 384 → EReal) (y : Fin 256 → EReal) (s : EReal) (v v' : Fin 384 → EReal) (w : Fin 256 → EReal)
    (hx : ∀ c, x c ≠ ⊤) (hy : ∀ c, y c ≠ ⊤) (hs : s ≠ ⊤) (hs' : s ≠ ⊥) (hv : ∀ c, x c ≠ ⊥ → v' c = v c) :
    outK (fun c => x c * κ) (fun c => y c * κ) (s * κ) v' w = out x y s v w := by
  have hM : rowMax x y s ≠ ⊤ := by
    have : rowMax x y s < ⊤ := by
      unfold rowMax
      simp only [max_lt_iff]
      refine ⟨⟨?_, ?_⟩, hs.lt_top⟩
      · exact (Finset.sup_lt_iff (by exact bot_lt_top)).2 fun c _ => (hx c).lt_top
      · exact (Finset.sup_lt_iff (by exact bot_lt_top)).2 fun c _ => (hy c).lt_top
    exact this.ne
  have hM' : rowMax x y s ≠ ⊥ := fun h => hs' (le_bot_iff.1 (h ▸ (le_max_right _ _ : s ≤ rowMax x y s)))
  unfold outK out
  rw [rowMax_mul]
  simp only [sub_mul_κ, exp2_mul]
  generalize hMe : rowMax x y s = M at *
  have hd : (∑ c, Ideal.exp (x c - M)) + (∑ c, Ideal.exp (y c - M)) + Ideal.exp (s - M) = den x y s M := rfl
  rw [hd]
  have hpos : 0 < den x y s M := by
    have h1 : (0 : EReal) ≤ (∑ c, Ideal.exp (x c - M)) + (∑ c, Ideal.exp (y c - M)) :=
      add_nonneg (Finset.sum_nonneg fun c _ => exp_nonneg _) (Finset.sum_nonneg fun c _ => exp_nonneg _)
    have h2 : 0 < Ideal.exp (s - M) := by
      lift s to ℝ using ⟨hs, hs'⟩
      lift M to ℝ using ⟨hM, hM'⟩
      rw [← EReal.coe_sub, Ideal.exp_coe]
      exact EReal.coe_pos.mpr (Real.exp_pos _)
    calc (0 : EReal) < Ideal.exp (s - M) := h2
      _ = 0 + Ideal.exp (s - M) := (zero_add _).symm
      _ ≤ den x y s M := by unfold den; gcongr
  have hne := hpos.ne'
  have hi : ∀ a, Ideal.div a (den x y s M) = a * (den x y s M)⁻¹ := fun a => by rw [Ideal.div, if_neg hne]
  have hi0 : 0 ≤ (den x y s M)⁻¹ := EReal.inv_nonneg_of_nonneg hpos.le
  have hit : (den x y s M)⁻¹ ≠ ⊤ := by
    generalize den x y s M = D at hpos
    induction D using EReal.rec with
    | bot => simp
    | top => simp
    | coe r => rw [← EReal.coe_inv]; exact EReal.coe_ne_top _
  simp only [hi]
  rw [EReal.right_distrib_of_nonneg_of_ne_top hi0 hit, ← sum_mul_of_nonneg _ _ hi0 hit, ← sum_mul_of_nonneg _ _ hi0 hit]
  congr 1
  · refine Finset.sum_congr rfl fun c _ => ?_
    by_cases h : x c = ⊥
    · have : Ideal.exp (x c - M) = 0 := by rw [h, EReal.bot_sub]; rfl
      rw [this]; simp
    · rw [hv c h, mul_right_comm, mul_comm]
  · exact Finset.sum_congr rfl fun c _ => by rw [mul_right_comm, mul_comm]

end Cert.Attn

end
-- ==== Proof.AttnTile.lean ====
module

public import proofs.«01_k».proof.Proof.Gen.KernelIdeal.Value
public import proofs.«01_k».proof.Proof.AttnMath
public import Idealize.ShloMosaic.Lib.Pointwise

/-! One tile of the attention kernel: the four heads that share a key head, at one block of rows. -/

@[expose] public section

set_option maxRecDepth 16384

noncomputable section

namespace Cert.AttnTile

open Idealize.ShloMosaic Idealize.ShloMosaic.TcCoe Cert.KernelIdeal Cert.KernelIdeal.Gen Cert.Attn

/-- What one tile of scores is made from: which rows are near, the four heads' queries, the context's keys, the rows'
keys, the four sinks. -/
structure In (F : FTy → Type) where
  valid : IVec S1x128x384 1
  q : Fin 4 → Vec F S1x128x128 .bf16
  kx : Vec F S1x256x128 .bf16
  kw : Vec F S384x128 .bf16
  s : Fin 4 → Elt F .f32

section
variable {F : FTy → Type} [FloatOps F] [Named F] (t : In F)

/-- The tile's scores. -/
def scores : FVec F S512x640 .f32 :=
  k0_pay13 t.valid (k0_pay10 (t.q 0)) (k0_pay10 (t.q 1)) (k0_pay10 (t.q 2)) (t.q 3) t.kx t.kw

/-- The tile's rows' largest scores. -/
def maxes : FVec F S512x1 .f32 :=
  k0_pay15 t.valid (k0_pay10 (t.q 0)) (k0_pay10 (t.q 1)) (k0_pay10 (t.q 2)) (t.q 3) t.kx t.kw (t.s 0) (t.s 1) (t.s 2) (t.s 3)

/-- The tile's weights. -/
def probs : FVec F S512x640 .bf16 :=
  k0_pay16 t.valid (k0_pay10 (t.q 0)) (k0_pay10 (t.q 1)) (k0_pay10 (t.q 2)) (t.q 3) t.kx t.kw (t.s 0) (t.s 1) (t.s 2) (t.s 3)

/-- The tile's sinks' weights. -/
def sinkExp : FVec F S512x1 .f32 :=
  k0_pay17 t.valid (k0_pay10 (t.q 0)) (k0_pay10 (t.q 1)) (k0_pay10 (t.q 2)) (t.q 3) t.kx t.kw (t.s 0) (t.s 1) (t.s 2) (t.s 3)

variable (vw : Vec F S384x256 .bf16) (vx : Vec F S1x256x256 .bf16)

/-- The tile's weighted values: the rows' and then the context's. -/
def sums : FVec F S512x256 .f32 :=
  addf
    (matmul dot_S512x384_S384x256_S512x256_1_0_0_1_n_n none
      (extractStridedSlice S512x384 ![0, 0] (probs t) slices_S512x640_o0_0_S512x384) vw (constant S512x256 .f32 0x00000000#32))
    (matmul dot_S512x256_S256x256_S512x256_1_0_0_1_n_n none
      (extractStridedSlice S512x256 ![0, 384] (probs t) slices_S512x640_o0_384_S512x256)
      (shapeCast S256x256 vx shapeCasts_S1x256x256_S256x256) (constant S512x256 .f32 0x00000000#32))

/-- The lanes of the first of a pair of heads. -/
def low : IVec S128x128 1 := cmpi .slt (iota .tc S128x128 32 [1] iota_S128x128_d1_w32) (broadcast S128x128 64#32)

/-- A pair of heads side by side: each lane's sum over the sum of its head's weights, which lie in the other half. -/
def pair (a b : FVec F S128x128 .f32) (ea eb : FVec F S128x1 .f32) : FVec F S1x128x128 .f32 :=
  shapeCast S1x128x128
    (divf (select low a b)
      (addf (dynamicRotate 1 64#32 none (select low b a) rotates_S128x128_d1)
        (select low (broadcastTo S128x128 (shapeCast S128x1 ea shapeCasts_S128x1_S128x1) broadcasts_S128x1_S128x128)
          (broadcastTo S128x128 (shapeCast S128x1 eb shapeCasts_S128x1_S128x1) broadcasts_S128x1_S128x128))))
    shapeCasts_S128x128_S1x128x128

/-- The tile's first pair of heads. -/
def tile0 : FVec F S1x128x128 .f32 :=
  pair (extractStridedSlice S128x128 ![0, 0] (sums t vw vx) slices_S512x256_o0_0_S128x128)
    (extractStridedSlice S128x128 ![128, 128] (sums t vw vx) slices_S512x256_o128_128_S128x128)
    (extractStridedSlice S128x1 ![0, 0] (sinkExp t) slices_S512x1_o0_0_S128x1)
    (extractStridedSlice S128x1 ![128, 0] (sinkExp t) slices_S512x1_o128_0_S128x1)

/-- The tile's second pair of heads. -/
def tile1 : FVec F S1x128x128 .f32 :=
  pair (extractStridedSlice S128x128 ![256, 0] (sums t vw vx) slices_S512x256_o256_0_S128x128)
    (extractStridedSlice S128x128 ![384, 128] (sums t vw vx) slices_S512x256_o384_128_S128x128)
    (extractStridedSlice S128x1 ![256, 0] (sinkExp t) slices_S512x1_o256_0_S128x1)
    (extractStridedSlice S128x1 ![384, 0] (sinkExp t) slices_S512x1_o384_0_S128x1)

end

variable (t : In Ideal) (vw : Vec Ideal S384x256 .bf16) (vx : Vec Ideal S1x256x256 .bf16)

/-- The row of head `g`, row `r`. -/
def row (g : Fin 4) (r : Fin 128) : Fin 512 := ⟨128 * g.val + r.val, by omega⟩

/-- The scores against the rows. -/
def sl (g : Fin 4) (r : Fin 128) (c : Fin 384) : EReal :=
  if t.valid (ix3 0 r c) = 1#1 then ∑ d, t.q g (ix3 0 r d) * t.kw (ix2 c d) else ⊥

/-- The scores against the context. -/
def sx (g : Fin 4) (r : Fin 128) (c : Fin 256) : EReal := ∑ d, t.q g (ix3 0 r d) * t.kx (ix3 0 c d)

/-- The scores against the three blocks at a row. -/
theorem scores_l (g : Fin 4) (r : Fin 128) (c : Fin 384) :
    (scores t : S512x640.Idx → EReal) (ix2 (row g r) ⟨c.val, by omega⟩) = sl t g r c := by
  have hr := r.isLt
  have hN : Named.named (F := Ideal) (φ := .f32) KernelIdeal.κ "mask" 0xF149F2CA#32 = (⊥ : EReal) :=
    IdealRules.named_const.ideal_named_scalar _ _ _ _ rfl
  fin_cases g
  · have h0 : r.val / 128 = 0 := by omega
    pointwise [scores, k0_pay13, k0_pay10, row, sl]
    rw [hN]
    simp [Scalar.select, h0, Nat.mod_eq_of_lt hr]
  · have h0 : (128 + r.val) / 128 = 1 := by omega
    have h1 : (128 + r.val) % 128 = r.val := by omega
    pointwise [scores, k0_pay13, k0_pay10, row, sl]
    rw [hN]
    simp [Scalar.select, h0, h1, Nat.mod_eq_of_lt hr]
  · have h0 : (256 + r.val) / 128 = 2 := by omega
    have h1 : (256 + r.val) % 128 = r.val := by omega
    have h2 : ¬ 256 + r.val < 128 := by omega
    have h3 : ¬ 256 + r.val - 128 < 128 := by omega
    have h4 : 256 + r.val - 128 - 128 = r.val := by omega
    pointwise [scores, k0_pay13, k0_pay10, row, sl]
    rw [hN]
    simp only [Scalar.select, h0, h1, Nat.reduceMul, h2, h3, h4, hr, ↓reduceDIte]
    rfl
  · have h0 : (384 + r.val) / 128 = 3 := by omega
    have h1 : (384 + r.val) % 128 = r.val := by omega
    have h2 : ¬ 384 + r.val < 128 := by omega
    have h3 : ¬ 384 + r.val - 128 < 128 := by omega
    have h4 : ¬ 384 + r.val - 128 - 128 < 128 := by omega
    have h5 : 384 + r.val - 128 - 128 - 128 = r.val := by omega
    pointwise [scores, k0_pay13, k0_pay10, row, sl]
    rw [hN]
    simp only [Scalar.select, h0, h1, Nat.reduceMul, h2, h3, h4, h5, ↓reduceDIte]
    rfl

/-- The scores against the context at a row. -/
theorem scores_x (g : Fin 4) (r : Fin 128) (c : Fin 256) :
    (scores t : S512x640.Idx → EReal) (ix2 (row g r) ⟨384 + c.val, by omega⟩) = sx t g r c := by
  have hr := r.isLt
  fin_cases g
  · pointwise [scores, k0_pay13, k0_pay10, row, sx]
  · pointwise [scores, k0_pay13, k0_pay10, row, sx]
  · have h2 : ¬ 256 + r.val < 128 := by omega
    have h3 : ¬ 256 + r.val - 128 < 128 := by omega
    have h4 : 256 + r.val - 128 - 128 = r.val := by omega
    pointwise [scores, k0_pay13, k0_pay10, row, sx]
    simp only [h2, h3, h4, hr, ↓reduceDIte]
  · have h2 : ¬ 384 + r.val < 128 := by omega
    have h3 : ¬ 384 + r.val - 128 < 128 := by omega
    have h4 : ¬ 384 + r.val - 128 - 128 < 128 := by omega
    have h5 : 384 + r.val - 128 - 128 - 128 = r.val := by omega
    pointwise [scores, k0_pay13, k0_pay10, row, sx]
    simp only [h2, h3, h4, h5, ↓reduceDIte]

/-- The sinks at a row. -/
theorem sinks_at (g : Fin 4) (r : Fin 128) :
    (k0_pay14 (t.s 0) (t.s 1) (t.s 2) (t.s 3) : S512x1.Idx → EReal) (ix2 (row g r) 0) = (t.s g : EReal) * Attn.κ := by
  have hr := r.isLt
  have hN : Named.named (F := Ideal) (φ := .f32) KernelIdeal.κ "log2e" 0x3FB8AA3B#32 = (Attn.κ : EReal) :=
    IdealRules.named_const.ideal_named_scalar _ _ _ _ rfl
  fin_cases g
  · pointwise [k0_pay14, row]
    rw [hN]
  · pointwise [k0_pay14, row]
    rw [hN]
  · have h2 : ¬ 256 + r.val < 128 := by omega
    have h3 : ¬ 256 + r.val - 128 < 128 := by omega
    have h4 : 256 + r.val - 128 - 128 = r.val := by omega
    pointwise [k0_pay14, row]
    rw [hN]
    simp only [h2, h3, h4, hr, ↓reduceDIte]
  · have h2 : ¬ 384 + r.val < 128 := by omega
    have h3 : ¬ 384 + r.val - 128 < 128 := by omega
    have h4 : ¬ 384 + r.val - 128 - 128 < 128 := by omega
    pointwise [k0_pay14, row]
    rw [hN]
    simp only [h2, h3, h4, ↓reduceDIte]

/-- The maximum of a row's scores and its sink. -/
theorem maxes_at (g : Fin 4) (r : Fin 128) :
    (maxes t : S512x1.Idx → EReal) (ix2 (row g r) 0) = rowMax (sl t g r) (sx t g r) ((t.s g : EReal) * Attn.κ) := by
  rw [← sinks_at t g r]
  have hl := scores_l t g r
  have hx := scores_x t g r
  have e : (maxes t : S512x1.Idx → EReal) = maximumf (shapeCast S512x1 (multiReduction .maximumf [1] S512 (scores t) 0xFF800000#32 reduces_S512x640_S512 (.inl rfl) rfl) shapeCasts_S512_S512x1) (k0_pay14 (t.s 0) (t.s 1) (t.s 2) (t.s 3)) := rfl
  rw [e]
  generalize scores t = S at *
  generalize k0_pay14 (t.s 0) (t.s 1) (t.s 2) (t.s 3) = T at *
  pointwise []
  refine eq_rowMax fun b => ?_
  have hb : Ideal.ofBits .f32 0xFF800000#32 = (⊥ : EReal) := by simp [Ideal.ofBits, Ideal.ieee]
  rw [hb, max_le_iff, Finset.fold_max_le]
  constructor
  · rintro ⟨⟨-, h⟩, hs⟩
    exact ⟨fun c => by rw [← hl c]; exact h _ (Finset.mem_univ _), fun c => by rw [← hx c]; exact h _ (Finset.mem_univ _), hs⟩
  · rintro ⟨h, h', hs⟩
    refine ⟨⟨bot_le, fun c _ => ?_⟩, hs⟩
    by_cases hc : c.val < 384
    · exact (hl ⟨c.val, hc⟩).trans_le (h _)
    · have := c.isLt
      have e : (⟨384 + (c.val - 384), by omega⟩ : Fin 640) = c := Fin.ext (by simp only; omega)
      have := hx ⟨c.val - 384, by omega⟩
      rw [e] at this
      exact this.trans_le (h' _)

/-- The weights before the division. -/
theorem probs_at (R : Fin 512) (c : Fin 640) :
    (probs t : S512x640.Idx → EReal) (ix2 R c) = Ideal.exp2 ((scores t : S512x640.Idx → EReal) (ix2 R c) - (maxes t : S512x1.Idx → EReal) (ix2 R 0)) := by
  have e : (probs t : S512x640.Idx → EReal) = exp2 (truncf .bf16 (subf (scores t) (broadcastTo S512x640 (maxes t) broadcasts_S512x1_S512x640)) bitsLt_bf16_f32) := rfl
  rw [e]
  generalize scores t = S at *
  generalize maxes t = T at *
  pointwise []
  rfl

/-- The sink's weight before the division. -/
theorem sinkExp_at (g : Fin 4) (r : Fin 128) :
    (sinkExp t : S512x1.Idx → EReal) (ix2 (row g r) 0) = Ideal.exp2 ((t.s g : EReal) * Attn.κ - (maxes t : S512x1.Idx → EReal) (ix2 (row g r) 0)) := by
  rw [← sinks_at t g r]
  rfl

/-- The weighted sums of the values and of the columns of ones. -/
theorem sums_at (R : Fin 512) (e : Fin 256) :
    (sums t vw vx : S512x256.Idx → EReal) (ix2 R e) = (∑ c : Fin 384, (probs t : S512x640.Idx → EReal) (ix2 R ⟨c.val, by omega⟩) * vw (ix2 c e))
      + ∑ c : Fin 256, (probs t : S512x640.Idx → EReal) (ix2 R ⟨384 + c.val, by omega⟩) * vx (ix3 0 c e) := by
  unfold sums
  generalize probs t = S at *
  pointwise []

/-- The first head of a pair in the low lanes of its tile. -/
theorem pair_low (a b : FVec Ideal S128x128 .f32) (ea eb : FVec Ideal S128x1 .f32) (r : Fin 128) (d : Fin 64) :
    (pair a b ea eb : S1x128x128.Idx → EReal) (ix3 0 r ⟨d.val, by omega⟩) =
      Ideal.div (a (ix2 r ⟨d.val, by omega⟩)) (a (ix2 r ⟨64 + d.val, by omega⟩) + ea (ix2 r 0)) := by
  have hd := d.isLt
  have h1 : (d.val + 128 - 64) % 128 = 64 + d.val := by omega
  have e1 : IntOp.cmpi .slt (BitVec.ofNat 32 d.val) 64#32 = 1#1 :=
    (by decide +kernel : ∀ d : Fin 64, IntOp.cmpi .slt (BitVec.ofNat 32 d.val) 64#32 = 1#1) d
  have e2 : IntOp.cmpi .slt (BitVec.ofNat 32 (64 + d.val)) 64#32 = 0#1 :=
    (by decide +kernel : ∀ d : Fin 64, IntOp.cmpi .slt (BitVec.ofNat 32 (64 + d.val)) 64#32 = 0#1) d
  pointwise [pair, low]
  simp only [h1, e1, e2]
  rfl

/-- The second head of a pair in the high lanes of its tile. -/
theorem pair_high (a b : FVec Ideal S128x128 .f32) (ea eb : FVec Ideal S128x1 .f32) (r : Fin 128) (d : Fin 64) :
    (pair a b ea eb : S1x128x128.Idx → EReal) (ix3 0 r ⟨64 + d.val, by omega⟩) =
      Ideal.div (b (ix2 r ⟨64 + d.val, by omega⟩)) (b (ix2 r ⟨d.val, by omega⟩) + eb (ix2 r 0)) := by
  have hd := d.isLt
  have h1 : (64 + d.val + 128 - 64) % 128 = d.val := by omega
  have e1 : IntOp.cmpi .slt (BitVec.ofNat 32 d.val) 64#32 = 1#1 :=
    (by decide +kernel : ∀ d : Fin 64, IntOp.cmpi .slt (BitVec.ofNat 32 d.val) 64#32 = 1#1) d
  have e2 : IntOp.cmpi .slt (BitVec.ofNat 32 (64 + d.val)) 64#32 = 0#1 :=
    (by decide +kernel : ∀ d : Fin 64, IntOp.cmpi .slt (BitVec.ofNat 32 (64 + d.val)) 64#32 = 0#1) d
  pointwise [pair, low]
  simp only [h1, e1, e2]
  rfl

/-- The column of the values in which head `g` finds element `d`, and the column of ones beside it. -/
def numCol (g : Fin 4) (d : Fin 64) : Fin 256 := ⟨192 * (g.val % 2) + d.val, by omega⟩
/-- The column of ones that head `g`'s lane `d` divides by. -/
def denCol (g : Fin 4) (d : Fin 64) : Fin 256 := ⟨64 + 64 * (g.val % 2) + d.val, by omega⟩

/-- The pair of heads that head `g` is of. -/
def tile (g : Fin 4) : Vec Ideal S1x128x128 .f32 := if g.val < 2 then tile0 t vw vx else tile1 t vw vx

/-- A tile's element is a quotient of two sums. -/
theorem tile_quot (g : Fin 4) (r : Fin 128) (d : Fin 64) :
    (tile t vw vx g : S1x128x128.Idx → EReal) (ix3 0 r ⟨64 * (g.val % 2) + d.val, by omega⟩) =
      Ideal.div ((sums t vw vx : S512x256.Idx → EReal) (ix2 (row g r) (numCol g d)))
        ((sums t vw vx : S512x256.Idx → EReal) (ix2 (row g r) (denCol g d)) + (sinkExp t : S512x1.Idx → EReal) (ix2 (row g r) 0)) := by
  fin_cases g
  · refine (congrArg (tile0 t vw vx) ?_).trans ((pair_low _ _ _ _ r d).trans ?_)
    · congr 1; exact Fin.ext (by simp)
    · generalize sums t vw vx = S; generalize sinkExp t = T
      pointwise [row, numCol, denCol]
  · refine (congrArg (tile0 t vw vx) ?_).trans ((pair_high _ _ _ _ r d).trans ?_)
    · congr 1
    · generalize sums t vw vx = S; generalize sinkExp t = T
      pointwise [row, numCol, denCol]
      simp only [← Nat.add_assoc, Nat.reduceAdd]
  · refine (congrArg (tile1 t vw vx) ?_).trans ((pair_low _ _ _ _ r d).trans ?_)
    · congr 1; exact Fin.ext (by simp)
    · generalize sums t vw vx = S; generalize sinkExp t = T
      pointwise [row, numCol, denCol]
  · refine (congrArg (tile1 t vw vx) ?_).trans ((pair_high _ _ _ _ r d).trans ?_)
    · congr 1
    · generalize sums t vw vx = S; generalize sinkExp t = T
      pointwise [row, numCol, denCol]
      simp only [← Nat.add_assoc, Nat.reduceAdd]

/-- A head's lanes of its tile: the attention of its rows, in powers of two, where the values' columns of ones are ones. -/
theorem tile_at (g : Fin 4) (r : Fin 128) (d : Fin 64) (hw : ∀ c, vw (ix2 c (denCol g d)) = (1 : EReal))
    (hx : ∀ c, vx (ix3 0 c (denCol g d)) = (1 : EReal)) :
    (tile t vw vx g : S1x128x128.Idx → EReal) (ix3 0 r ⟨64 * (g.val % 2) + d.val, by omega⟩) =
      outK (sl t g r) (sx t g r) ((t.s g : EReal) * Attn.κ) (fun c => vw (ix2 c (numCol g d))) (fun c => vx (ix3 0 c (numCol g d))) := by
  rw [tile_quot, sums_at, sums_at, sinkExp_at]
  simp only [probs_at, scores_l, scores_x, maxes_at, hw, hx, mul_one]
  rfl

end Cert.AttnTile
end
-- ==== Proof.AttnSpec.lean ====
module

public import Idealize.ShloMosaic.Lib.Pointwise
public import proofs.«01_k».proof.Proof.AttnMath

/-! The windowed attention as a function of its six arguments: each row against the three blocks of keys around it that
lie within its window, and against the context. -/

@[expose] public section

noncomputable section

namespace Cert.Attn

open Idealize.ShloMosaic

/-- The attention's arguments: queries, keys, values, the context's keys and values, the sinks. -/
structure Args where
  q : (⟨4, ![4, 4096, 8, 64]⟩ : Shape).Idx → EReal
  k : (⟨4, ![4, 4096, 2, 64]⟩ : Shape).Idx → EReal
  v : (⟨4, ![4, 4096, 2, 64]⟩ : Shape).Idx → EReal
  kc : (⟨4, ![4, 256, 2, 64]⟩ : Shape).Idx → EReal
  vc : (⟨4, ![4, 256, 2, 64]⟩ : Shape).Idx → EReal
  sink : (⟨1, ![8]⟩ : Shape).Idx → EReal

/-- The scores' scale. -/
abbrev scale : EReal := ((0.125 : ℝ) : EReal)

variable (A : Args) (b : Fin 4) (n : Fin 32) (r : Fin 128) (j : Fin 2) (g : Fin 4)

/-- The query of row `r` of block `n`, of the head `g` that shares key head `j`. -/
def qAt (d : Fin 64) : EReal := A.q (ix4 b ⟨128 * n.val + r.val, by omega⟩ ⟨4 * j.val + g.val, by omega⟩ d)

/-- Element `d` of row `c` of the three blocks about block `n` of an array of rows, zero outside the array. -/
def rowAt (X : (⟨4, ![4, 4096, 2, 64]⟩ : Shape).Idx → EReal) (c : Fin 384) (d : Fin 64) : EReal :=
  if h : 128 ≤ 128 * n.val + c.val ∧ 128 * n.val + c.val < 4224 then X (ix4 b ⟨128 * n.val + c.val - 128, by omega⟩ j d) else 0

/-- Row `c` of the three blocks about block `n` lies in the array and within the window of the block's row `r`. -/
def near (n : Fin 32) (r : Fin 128) (c : Fin 384) : Prop :=
  (r.val ≤ c.val ∧ c.val ≤ r.val + 256) ∧ 128 ≤ 128 * n.val + c.val ∧ 128 * n.val + c.val < 4224

/-- Nearness is decidable. -/
instance (n : Fin 32) (r : Fin 128) (c : Fin 384) : Decidable (near n r c) := by unfold near; infer_instance

/-- The scores of the three blocks. -/
def locScore (c : Fin 384) : EReal :=
  if near n r c then (∑ d, rowAt b n j A.k c d * qAt A b n r j g d) * scale else ⊥

/-- The scores of the context. -/
def ctxScore (c : Fin 256) : EReal := (∑ d, A.kc (ix4 b c j d) * qAt A b n r j g d) * scale

/-- The head's sink. -/
def sinkAt : EReal := A.sink (ix1 ⟨4 * j.val + g.val, by omega⟩)

/-- The attention's result. -/
def res (d : Fin 64) : EReal :=
  out (locScore A b n r j g) (ctxScore A b n r j g) (sinkAt A j g) (fun c => rowAt b n j A.v c d) (fun c => A.vc (ix4 b c j d))

/-- The attention's result as an array of rows, the heads side by side. -/
def resArr : (⟨3, ![4, 4096, 512]⟩ : Shape).Idx → EReal := fun i =>
  res A (i 0) ⟨(i 1).val / 128, by have : (i 1).val < 4096 := (i 1).isLt; omega⟩ ⟨(i 1).val % 128, Nat.mod_lt _ (by norm_num)⟩
    ⟨(i 2).val / 256, by have : (i 2).val < 512 := (i 2).isLt; omega⟩
    ⟨(i 2).val / 64 % 4, Nat.mod_lt _ (by norm_num)⟩ ⟨(i 2).val % 64, Nat.mod_lt _ (by norm_num)⟩

/-- The queries, the keys, the context's keys and the sinks are numbers. -/
structure Fin' : Prop where
  q : ∀ i, A.q i ≠ ⊤ ∧ A.q i ≠ ⊥
  k : ∀ i, A.k i ≠ ⊤ ∧ A.k i ≠ ⊥
  kc : ∀ i, A.kc i ≠ ⊤ ∧ A.kc i ≠ ⊥
  sink : ∀ i, A.sink i ≠ ⊤ ∧ A.sink i ≠ ⊥

/-- A sum of products of numbers is a number. -/
theorem dot_fin {m : Nat} (f g : Fin m → EReal) (hf : ∀ d, f d ≠ ⊤ ∧ f d ≠ ⊥) (hg : ∀ d, g d ≠ ⊤ ∧ g d ≠ ⊥) :
    ∃ x : ℝ, ∑ d, f d * g d = (x : EReal) := by
  refine ⟨∑ d, (f d).toReal * (g d).toReal, ?_⟩
  have hcoe : ∀ (s : Finset (Fin m)) (F : Fin m → ℝ), ((∑ d ∈ s, F d : ℝ) : EReal) = ∑ d ∈ s, (F d : EReal) := fun s F => by
    induction s using Finset.induction_on with
    | empty => simp
    | insert a s ha ih => rw [Finset.sum_insert ha, Finset.sum_insert ha, EReal.coe_add, ih]
  rw [hcoe]
  refine Finset.sum_congr rfl fun d _ => ?_
  rw [EReal.coe_mul, EReal.coe_toReal (hf d).1 (hf d).2, EReal.coe_toReal (hg d).1 (hg d).2]

variable {A}

/-- The rows about a block of keys that are numbers are numbers. -/
theorem rowAt_fin (h : Fin' A) (c : Fin 384) (d : Fin 64) : rowAt b n j A.k c d ≠ ⊤ ∧ rowAt b n j A.k c d ≠ ⊥ := by
  unfold rowAt
  split
  · exact h.k _
  · exact ⟨EReal.zero_ne_top, EReal.zero_ne_bot⟩

/-- The scores against the three blocks are not plus infinity. -/
theorem locScore_ne_top (h : Fin' A) (c : Fin 384) : locScore A b n r j g c ≠ ⊤ := by
  unfold locScore
  split
  · obtain ⟨x, hx⟩ := dot_fin (fun d => rowAt b n j A.k c d) (qAt A b n r j g) (rowAt_fin b n j h c) (fun _ => h.q _)
    rw [hx, ← EReal.coe_mul]; exact EReal.coe_ne_top _
  · exact bot_ne_top

/-- The scores against the context are not plus infinity. -/
theorem ctxScore_ne_top (h : Fin' A) (c : Fin 256) : ctxScore A b n r j g c ≠ ⊤ := by
  unfold ctxScore
  obtain ⟨x, hx⟩ := dot_fin (fun d => A.kc (ix4 b c j d)) (qAt A b n r j g) (fun _ => h.kc _) (fun _ => h.q _)
  rw [hx, ← EReal.coe_mul]; exact EReal.coe_ne_top _

end Cert.Attn

end
-- ==== Proof.AttnWords.lean ====
module

public import proofs.«01_k».proof.Proof.AttnSpec

/-! The attention's window as the reference computes it: on words. -/

@[expose] public section

set_option maxRecDepth 16384

noncomputable section

namespace Cert.AttnWords

open Idealize.ShloMosaic Cert.Attn

/-- A conjunction of bits of conditions. -/
theorem and_ofBool (a b : Bool) : IntOp.andi (BitVec.ofBool a) (BitVec.ofBool b) = BitVec.ofBool (a && b) := by
  cases a <;> cases b <;> rfl

/-- The distance of the two rows does not depend on the block. -/
theorem dist_eq (m x y : BitVec 32) : IntOp.subi (IntOp.addi m x) (IntOp.addi (IntOp.subi m 128#32) y) = IntOp.addi (IntOp.subi x y) 128#32 := by
  show (m + x) - (m - 128#32 + y) = x - y + 128#32
  bv_omega

/-- The distance of a column from a row, as the words compute it. -/
theorem dist_le : ∀ (r : Fin 128) (c : Fin 384),
    IntOp.cmpi .sle (IntOp.absi (IntOp.addi (IntOp.subi (BitVec.ofNat 32 r.val) (BitVec.ofNat 32 c.val)) 128#32)) 128#32
      = BitVec.ofBool (decide (r.val ≤ c.val ∧ c.val ≤ r.val + 256)) := by decide +kernel

/-- A column's row is not before the array, as the words compute it. -/
theorem pos_ge : ∀ (n : Fin 32) (c : Fin 384),
    IntOp.cmpi .sge (IntOp.addi (IntOp.subi (IntOp.muli (BitVec.ofNat 32 n.val) 128#32) 128#32) (BitVec.ofNat 32 c.val)) 0#32
      = BitVec.ofBool (decide (128 ≤ 128 * n.val + c.val)) := by decide +kernel

/-- A column's row is not past the array, as the words compute it. -/
theorem pos_lt : ∀ (n : Fin 32) (c : Fin 384),
    IntOp.cmpi .slt (IntOp.addi (IntOp.subi (IntOp.muli (BitVec.ofNat 32 n.val) 128#32) 128#32) (BitVec.ofNat 32 c.val)) 4096#32
      = BitVec.ofBool (decide (128 * n.val + c.val < 4224)) := by decide +kernel

/-- The reference's window. -/
theorem ref_near (n : Fin 32) (r : Fin 128) (c : Fin 384) :
    IntOp.andi (IntOp.andi (IntOp.cmpi .sle (IntOp.absi (IntOp.subi (IntOp.addi (IntOp.muli (BitVec.ofNat 32 n.val) 128#32) (BitVec.ofNat 32 r.val))
      (IntOp.addi (IntOp.subi (IntOp.muli (BitVec.ofNat 32 n.val) 128#32) 128#32) (BitVec.ofNat 32 c.val)))) 128#32)
      (IntOp.cmpi .sge (IntOp.addi (IntOp.subi (IntOp.muli (BitVec.ofNat 32 n.val) 128#32) 128#32) (BitVec.ofNat 32 c.val)) 0#32))
      (IntOp.cmpi .slt (IntOp.addi (IntOp.subi (IntOp.muli (BitVec.ofNat 32 n.val) 128#32) 128#32) (BitVec.ofNat 32 c.val)) 4096#32)
    = BitVec.ofBool (decide (near n r c)) := by
  rw [dist_eq, dist_le, pos_ge, pos_lt, and_ofBool, and_ofBool]
  congr 1
  rw [Bool.eq_iff_iff]
  simp only [Bool.and_eq_true, decide_eq_true_iff]
  unfold near
  omega

end Cert.AttnWords
end
-- ==== Proof.AttnMask.lean ====
module

public import proofs.«01_k».proof.Proof.Gen.KernelIdeal.Value
public import proofs.«01_k».proof.Proof.AttnWords

/-! The attention's window as the kernel computes it: on words. -/

@[expose] public section

set_option maxRecDepth 16384

noncomputable section

namespace Cert.AttnMask

open Idealize.ShloMosaic Cert.Attn Cert.AttnWords

/-- A signed minimum is nonnegative when both its terms are. -/
theorem min_ge (a b : BitVec 32) : IntOp.cmpi .sge (IntOp.minsi a b) 0#32 = IntOp.andi (IntOp.cmpi .sge a 0#32) (IntOp.cmpi .sge b 0#32) := by
  show BitVec.ofBool ((0#32).sle (if a.slt b then a else b)) = IntOp.andi (BitVec.ofBool ((0#32).sle a)) (BitVec.ofBool ((0#32).sle b))
  rw [and_ofBool]
  congr 1
  rw [Bool.eq_iff_iff]
  simp only [BitVec.sle, BitVec.slt, Bool.and_eq_true, decide_eq_true_iff]
  split <;> omega

/-- A difference of words of integers is the word of the difference. -/
theorem sub_ofInt (x y : Int) : IntOp.subi (BitVec.ofInt 32 x) (BitVec.ofInt 32 y) = BitVec.ofInt 32 (x - y) := by
  show BitVec.ofInt 32 x - BitVec.ofInt 32 y = _
  rw [Int.sub_eq_add_neg, BitVec.ofInt_add, BitVec.ofInt_neg, BitVec.sub_eq_add_neg]

/-- A sum of words of integers is the word of the sum. -/
theorem add_ofInt (x y : Int) : IntOp.addi (BitVec.ofInt 32 x) (BitVec.ofInt 32 y) = BitVec.ofInt 32 (x + y) :=
  (BitVec.ofInt_add x y).symm

/-- A product of words of integers is the word of the product. -/
theorem mul_ofInt (x y : Int) : IntOp.muli (BitVec.ofInt 32 x) (BitVec.ofInt 32 y) = BitVec.ofInt 32 (x * y) :=
  (BitVec.ofInt_mul x y).symm

/-- The word of a small integer is nonnegative when the integer is. -/
theorem ge_ofInt (z : Int) (hl : -100000 ≤ z) (hu : z ≤ 100000) : IntOp.cmpi .sge (BitVec.ofInt 32 z) 0#32 = BitVec.ofBool (decide (0 ≤ z)) := by
  show BitVec.ofBool (decide ((0#32).toInt ≤ (BitVec.ofInt 32 z).toInt)) = _
  rw [BitVec.toInt_ofInt_eq_self (by norm_num) (by norm_num; omega) (by norm_num; omega)]
  rfl

open Cert.KernelIdeal Cert.KernelIdeal.Gen

/-- The kernel's window at block `sub` of a grid step whose second coordinate is the word `w`. -/
def valid (w sub : BitVec 32) : IVec S1x128x384 1 :=
  shapeCast S1x128x384
    (cmpi .sge
      (minsi k0_pay8
        (minsi
          (subi (iota .tc S128x384 32 [1] iota_S128x384_d1_w32)
            (broadcast S128x384 (Scalar.subi 128#32 (Scalar.muli (Scalar.addi (Scalar.muli w 8#32) sub) 128#32))))
          (subi
            (broadcast S128x384
              (Scalar.subi (Scalar.addi 128#32 (Scalar.muli (Scalar.addi (Scalar.subi 31#32 (Scalar.addi (Scalar.muli w 8#32) sub)) 1#32) 128#32)) 1#32))
            (iota .tc S128x384 32 [1] iota_S128x384_d1_w32))))
      (broadcast S128x384 0#32))
    shapeCasts_S128x384_S1x128x384

/-- The kernel's window at a row and a column says whether the column's key is near the row. -/
theorem valid_at (N : Fin 4) (sub : Fin 8) (r : Fin 128) (c : Fin 384) :
    valid (BitVec.ofNat 32 N.val) (BitVec.ofNat 32 sub.val) (ix3 0 r c) = BitVec.ofBool (decide (near ⟨8 * N.val + sub.val, by omega⟩ r c)) := by
  have hN := N.isLt
  have hs := sub.isLt
  have hr := r.isLt
  have hc := c.isLt
  pointwise [valid, k0_pay8]
  have h1 : IntOp.subi (BitVec.ofNat 32 c.val) (BitVec.ofNat 32 r.val) = BitVec.ofInt 32 ((c.val : Int) - r.val) := sub_ofInt (c.val : Int) (r.val : Int)
  have h2 : IntOp.subi (IntOp.addi (BitVec.ofNat 32 r.val) 256#32) (BitVec.ofNat 32 c.val) = BitVec.ofInt 32 ((r.val : Int) + 256 - c.val) :=
    (congrArg (IntOp.subi · _) (add_ofInt (r.val : Int) 256)).trans (sub_ofInt _ (c.val : Int))
  have hg : Scalar.addi (Scalar.muli (BitVec.ofNat 32 N.val) 8#32) (BitVec.ofNat 32 sub.val) = BitVec.ofInt 32 ((N.val : Int) * 8 + sub.val) :=
    (congrArg (IntOp.addi · _) (mul_ofInt (N.val : Int) 8)).trans (add_ofInt _ (sub.val : Int))
  have h3 : Scalar.subi (128#32) (Scalar.muli (BitVec.ofInt 32 ((N.val : Int) * 8 + sub.val)) 128#32)
      = BitVec.ofInt 32 (128 - ((N.val : Int) * 8 + sub.val) * 128) :=
    (congrArg (IntOp.subi (128#32) ·) (mul_ofInt _ 128)).trans (sub_ofInt 128 _)
  have h4 : Scalar.subi (Scalar.addi (128#32) (Scalar.muli (Scalar.addi (Scalar.subi (31#32) (BitVec.ofInt 32 ((N.val : Int) * 8 + sub.val))) 1#32) 128#32)) 1#32
      = BitVec.ofInt 32 (128 + (31 - ((N.val : Int) * 8 + sub.val) + 1) * 128 - 1) := by
    have e1 : Scalar.subi (31#32) (BitVec.ofInt 32 ((N.val : Int) * 8 + sub.val)) = BitVec.ofInt 32 (31 - ((N.val : Int) * 8 + sub.val)) := sub_ofInt 31 _
    have e2 : ∀ z : Int, Scalar.addi (BitVec.ofInt 32 z) 1#32 = BitVec.ofInt 32 (z + 1) := fun z => add_ofInt z 1
    have e3 : ∀ z : Int, Scalar.muli (BitVec.ofInt 32 z) 128#32 = BitVec.ofInt 32 (z * 128) := fun z => mul_ofInt z 128
    have e4 : ∀ z : Int, Scalar.addi 128#32 (BitVec.ofInt 32 z) = BitVec.ofInt 32 (128 + z) := fun z => add_ofInt 128 z
    have e5 : ∀ z : Int, Scalar.subi (BitVec.ofInt 32 z) 1#32 = BitVec.ofInt 32 (z - 1) := fun z => sub_ofInt z 1
    rw [e1, e2, e3, e4, e5]
  have h5 : ∀ z : Int, IntOp.subi (BitVec.ofNat 32 c.val) (BitVec.ofInt 32 z) = BitVec.ofInt 32 (c.val - z) := fun z => sub_ofInt (c.val : Int) z
  have h6 : ∀ z : Int, IntOp.subi (BitVec.ofInt 32 z) (BitVec.ofNat 32 c.val) = BitVec.ofInt 32 (z - c.val) := fun z => sub_ofInt z (c.val : Int)
  rw [min_ge, min_ge, min_ge, h1, h2, hg, h3, h4, h5, h6, ge_ofInt _ (by omega) (by omega), ge_ofInt _ (by omega) (by omega),
    ge_ofInt _ (by omega) (by omega), ge_ofInt _ (by omega) (by omega), and_ofBool, and_ofBool, and_ofBool]
  congr 1
  rw [Bool.eq_iff_iff]
  simp only [Bool.and_eq_true, decide_eq_true_iff]
  unfold near
  show _ ↔ (_ ∧ 128 ≤ 128 * (8 * N.val + sub.val) + c.val ∧ 128 * (8 * N.val + sub.val) + c.val < 4224)
  omega

end Cert.AttnMask
end
-- ==== Proof.AttnPieces.lean ====
module

public import proofs.«01_k».proof.Proof.AttnTile
public import proofs.«01_k».proof.Proof.AttnMask

/-! The attention kernel's stores: every one of the thirty-two is the tile of its block of rows and its pair of heads. -/

@[expose] public section

set_option maxRecDepth 16384

noncomputable section

namespace Cert.AttnPieces

open Idealize.ShloMosaic Idealize.ShloMosaic.TcCoe Idealize.SL.Sem Cert.KernelIdeal Cert.KernelIdeal.Gen Cert.AttnTile Cert.AttnMask

variable {F : FTy → Type} [FloatOps F] [Named F]
variable (c : Dev nD) (i : grid0.Coords) (arg2 : Memref sig .tc .smem S8 .f32) (harg2 : arg2.IsWhole) (arg3 : Memref sig .tc .vmem S1x1024x1024 .bf16) (harg3 : arg3.IsWhole) (arg4 : Memref sig .tc .vmem S1x128x256 .bf16) (harg4 : arg4.IsWhole) (arg5 : Memref sig .tc .vmem S1x1024x256 .bf16) (harg5 : arg5.IsWhole) (arg6 : Memref sig .tc .vmem S1x128x256 .bf16) (harg6 : arg6.IsWhole) (arg7 : Memref sig .tc .vmem S1x128x512 .bf16) (harg7 : arg7.IsWhole) (arg8 : Memref sig .tc .vmem S1x1024x512 .bf16) (harg8 : arg8.IsWhole) (arg9 : Memref sig .tc .vmem S1x128x512 .bf16) (harg9 : arg9.IsWhole) (arg10 : Memref sig .tc .vmem S1x256x256 .bf16) (harg10 : arg10.IsWhole) (arg11 : Memref sig .tc .vmem S1x256x512 .bf16) (harg11 : arg11.IsWhole) (arg12 : Memref sig .tc .vmem S1x1024x512 .f32) (harg12 : arg12.IsWhole) (arg13 : Memref sig .tc .vmem S1280x256 .bf16) (harg13 : arg13.IsWhole) (arg14 : Memref sig .tc .vmem S1280x512 .bf16) (harg14 : arg14.IsWhole)
  (x0 : Vec F S8 .f32) (x1 : Vec F S1x1024x1024 .bf16) (x2 : Vec F S1x128x256 .bf16) (x3 : Vec F S1x1024x256 .bf16) (x4 : Vec F S1x128x256 .bf16) (x5 : Vec F S1x128x512 .bf16) (x6 : Vec F S1x1024x512 .bf16) (x7 : Vec F S1x128x512 .bf16) (x8 : Vec F S1x256x256 .bf16) (x9 : Vec F S1x256x512 .bf16)

/-- The three blocks of keys side by side in the scratch array, as the kernel stores them. -/
def keyPieces : List (View.Piece (Elt F) S1280x256 .bf16) :=
  [⟨Rect.unit ![1152, 0] S128x256.size (by decide), shapeCast S128x256 (shapeCast S128x256 (View.readAt (Elt F) arg6.view (Rect.unit ![0, 0, 0] S1x128x256.size (by decide)).toLoadRect (harg6.unread x4)) shapeCasts_S1x128x256_S128x256) shapeCasts_S128x256_S128x256⟩,
   ⟨Rect.unit ![128, 0] S1024x256.size (by decide), shapeCast S1024x256 (shapeCast S1024x256 (View.readAt (Elt F) arg5.view (Rect.unit ![0, 0, 0] S1x1024x256.size (by decide)).toLoadRect (harg5.unread x3)) shapeCasts_S1x1024x256_S1024x256) shapeCasts_S1024x256_S1024x256⟩,
   ⟨Rect.unit ![0, 0] S128x256.size (by decide), shapeCast S128x256 (shapeCast S128x256 (View.readAt (Elt F) arg4.view (Rect.unit ![0, 0, 0] S1x128x256.size (by decide)).toLoadRect (harg4.unread x2)) shapeCasts_S1x128x256_S128x256) shapeCasts_S128x256_S128x256⟩]

/-- The three blocks of values side by side in the scratch array, as the kernel stores them. -/
def valPieces : List (View.Piece (Elt F) S1280x512 .bf16) :=
  [⟨Rect.unit ![1152, 0] S128x512.size (by decide), shapeCast S128x512 (shapeCast S128x512 (View.readAt (Elt F) arg9.view (Rect.unit ![0, 0, 0] S1x128x512.size (by decide)).toLoadRect (harg9.unread x7)) shapeCasts_S1x128x512_S128x512) shapeCasts_S128x512_S128x512⟩,
   ⟨Rect.unit ![128, 0] S1024x512.size (by decide), shapeCast S1024x512 (shapeCast S1024x512 (View.readAt (Elt F) arg8.view (Rect.unit ![0, 0, 0] S1x1024x512.size (by decide)).toLoadRect (harg8.unread x6)) shapeCasts_S1x1024x512_S1024x512) shapeCasts_S1024x512_S1024x512⟩,
   ⟨Rect.unit ![0, 0] S128x512.size (by decide), shapeCast S128x512 (shapeCast S128x512 (View.readAt (Elt F) arg7.view (Rect.unit ![0, 0, 0] S1x128x512.size (by decide)).toLoadRect (harg7.unread x5)) shapeCasts_S1x128x512_S128x512) shapeCasts_S128x512_S128x512⟩]

/-- A head's block of queries lies in its window. -/
theorem inb_q (s : Fin 8) (p : Fin 8) : ∀ a, (![0, 128 * s.val, 128 * p.val] : Fin 3 → Nat) a + S1x128x128.size a ≤ S1x1024x1024.size a := by
  revert s p; decide

/-- A head's context keys lie in their window. -/
theorem inb_kx (j : Fin 2) : ∀ a, (![0, 0, 128 * j.val] : Fin 3 → Nat) a + S1x256x128.size a ≤ S1x256x256.size a := by
  revert j; decide

/-- A head's context values lie in their window. -/
theorem inb_vx (j : Fin 2) : ∀ a, (![0, 0, 256 * j.val] : Fin 3 → Nat) a + S1x256x256.size a ≤ S1x256x512.size a := by
  revert j; decide

/-- The keys about a block of rows lie in the scratch array. -/
theorem inb_kw (s : Fin 8) (j : Fin 2) : ∀ a, (![128 * s.val, 128 * j.val] : Fin 2 → Nat) a + S384x128.size a ≤ S1280x256.size a := by
  revert s j; decide

/-- The values about a block of rows lie in the scratch array. -/
theorem inb_vw (s : Fin 8) (j : Fin 2) : ∀ a, (![128 * s.val, 256 * j.val] : Fin 2 → Nat) a + S384x256.size a ≤ S1280x512.size a := by
  revert s j; decide

/-- A head's sink lies in its window. -/
theorem inb_s (p : Fin 8) : ∀ a, (![p.val] : Fin 1 → Nat) a + S1.size a ≤ S8.size a := by
  revert p; decide

/-- A pair of heads' block of results lies in its window. -/
theorem inb_o (s : Fin 8) (p : Fin 4) : ∀ a, (![0, 128 * s.val, 128 * p.val] : Fin 3 → Nat) a + S1x128x128.size a ≤ S1x1024x512.size a := by
  revert s p; decide

/-- The head `g` of those that share key head `j`. -/
def head (j : Fin 2) (g : Fin 4) : Fin 8 := ⟨4 * j.val + g.val, by omega⟩

/-- The number of a block as a word. -/
def word : Fin 8 → BitVec 32
  | 0 => 0#32
  | 1 => 1#32
  | 2 => 2#32
  | 3 => 3#32
  | 4 => 4#32
  | 5 => 5#32
  | 6 => 6#32
  | 7 => 7#32

/-- The tile of block `s`, key head `j`. -/
def inp (s : Fin 8) (j : Fin 2) : In F where
  valid := valid (BitVec.ofNat 32 (i 1).val) (word s)
  q g := View.readAt (Elt F) arg3.view (Rect.unit (s := S1x1024x1024) ![0, 128 * s.val, 128 * (head j g).val] S1x128x128.size (inb_q s (head j g))).toLoadRect (harg3.unread x1)
  kx := View.readAt (Elt F) arg10.view (Rect.unit (s := S1x256x256) ![0, 0, 128 * j.val] S1x256x128.size (inb_kx j)).toLoadRect (harg10.unread x8)
  kw := arg13.view.readCov (keyPieces arg4 harg4 arg5 harg5 arg6 harg6 x2 x3 x4) (Rect.unit (s := S1280x256) ![128 * s.val, 128 * j.val] S384x128.size (inb_kw s j)).toLoadRect
  s g := View.readAt (Elt F) arg2.view (Rect.unit (s := S8) ![(head j g).val] S1.size (inb_s (head j g))).toLoadRect (harg2.unread x0) (Shape.Idx.first (by decide : 0 < S1.numel))

/-- The values of block `s`'s rows, key head `j`. -/
def inpVw (s : Fin 8) (j : Fin 2) : Vec F S384x256 .bf16 :=
  arg14.view.readCov (valPieces arg7 harg7 arg8 harg8 arg9 harg9 x5 x6 x7) (Rect.unit (s := S1280x512) ![128 * s.val, 256 * j.val] S384x256.size (inb_vw s j)).toLoadRect

/-- The context's values, key head `j`. -/
def inpVx (j : Fin 2) : Vec F S1x256x256 .bf16 :=
  View.readAt (Elt F) arg11.view (Rect.unit (s := S1x256x512) ![0, 0, 256 * j.val] S1x256x256.size (inb_vx j)).toLoadRect (harg11.unread x9)

/-- The store of block `s`, pair of heads `p`. -/
def piece (s : Fin 8) (p : Fin 4) : View.Piece (Elt F) S1x1024x512 .f32 :=
  ⟨Rect.unit ![0, 128 * s.val, 128 * p.val] S1x128x128.size (inb_o s p),
    match p with
    | 0 => tile0 (inp i arg2 harg2 arg3 harg3 arg4 harg4 arg5 harg5 arg6 harg6 arg10 harg10 arg13 x0 x1 x2 x3 x4 x8 s 0) (inpVw arg7 harg7 arg8 harg8 arg9 harg9 arg14 x5 x6 x7 s 0) (inpVx arg11 harg11 x9 0)
    | 1 => tile1 (inp i arg2 harg2 arg3 harg3 arg4 harg4 arg5 harg5 arg6 harg6 arg10 harg10 arg13 x0 x1 x2 x3 x4 x8 s 0) (inpVw arg7 harg7 arg8 harg8 arg9 harg9 arg14 x5 x6 x7 s 0) (inpVx arg11 harg11 x9 0)
    | 2 => tile0 (inp i arg2 harg2 arg3 harg3 arg4 harg4 arg5 harg5 arg6 harg6 arg10 harg10 arg13 x0 x1 x2 x3 x4 x8 s 1) (inpVw arg7 harg7 arg8 harg8 arg9 harg9 arg14 x5 x6 x7 s 1) (inpVx arg11 harg11 x9 1)
    | 3 => tile1 (inp i arg2 harg2 arg3 harg3 arg4 harg4 arg5 harg5 arg6 harg6 arg10 harg10 arg13 x0 x1 x2 x3 x4 x8 s 1) (inpVw arg7 harg7 arg8 harg8 arg9 harg9 arg14 x5 x6 x7 s 1) (inpVx arg11 harg11 x9 1)⟩

/-- The kernel's stores into its result's block, the newest first. -/
def pieces : List (View.Piece (Elt F) S1x1024x512 .f32) :=
  [piece i arg2 harg2 arg3 harg3 arg4 harg4 arg5 harg5 arg6 harg6 arg7 harg7 arg8 harg8 arg9 harg9 arg10 harg10 arg11 harg11 arg13 arg14 x0 x1 x2 x3 x4 x5 x6 x7 x8 x9 7 3, piece i arg2 harg2 arg3 harg3 arg4 harg4 arg5 harg5 arg6 harg6 arg7 harg7 arg8 harg8 arg9 harg9 arg10 harg10 arg11 harg11 arg13 arg14 x0 x1 x2 x3 x4 x5 x6 x7 x8 x9 7 2, piece i arg2 harg2 arg3 harg3 arg4 harg4 arg5 harg5 arg6 harg6 arg7 harg7 arg8 harg8 arg9 harg9 arg10 harg10 arg11 harg11 arg13 arg14 x0 x1 x2 x3 x4 x5 x6 x7 x8 x9 7 1, piece i arg2 harg2 arg3 harg3 arg4 harg4 arg5 harg5 arg6 harg6 arg7 harg7 arg8 harg8 arg9 harg9 arg10 harg10 arg11 harg11 arg13 arg14 x0 x1 x2 x3 x4 x5 x6 x7 x8 x9 7 0, piece i arg2 harg2 arg3 harg3 arg4 harg4 arg5 harg5 arg6 harg6 arg7 harg7 arg8 harg8 arg9 harg9 arg10 harg10 arg11 harg11 arg13 arg14 x0 x1 x2 x3 x4 x5 x6 x7 x8 x9 6 3, piece i arg2 harg2 arg3 harg3 arg4 harg4 arg5 harg5 arg6 harg6 arg7 harg7 arg8 harg8 arg9 harg9 arg10 harg10 arg11 harg11 arg13 arg14 x0 x1 x2 x3 x4 x5 x6 x7 x8 x9 6 2, piece i arg2 harg2 arg3 harg3 arg4 harg4 arg5 harg5 arg6 harg6 arg7 harg7 arg8 harg8 arg9 harg9 arg10 harg10 arg11 harg11 arg13 arg14 x0 x1 x2 x3 x4 x5 x6 x7 x8 x9 6 1, piece i arg2 harg2 arg3 harg3 arg4 harg4 arg5 harg5 arg6 harg6 arg7 harg7 arg8 harg8 arg9 harg9 arg10 harg10 arg11 harg11 arg13 arg14 x0 x1 x2 x3 x4 x5 x6 x7 x8 x9 6 0, piece i arg2 harg2 arg3 harg3 arg4 harg4 arg5 harg5 arg6 harg6 arg7 harg7 arg8 harg8 arg9 harg9 arg10 harg10 arg11 harg11 arg13 arg14 x0 x1 x2 x3 x4 x5 x6 x7 x8 x9 5 3, piece i arg2 harg2 arg3 harg3 arg4 harg4 arg5 harg5 arg6 harg6 arg7 harg7 arg8 harg8 arg9 harg9 arg10 harg10 arg11 harg11 arg13 arg14 x0 x1 x2 x3 x4 x5 x6 x7 x8 x9 5 2, piece i arg2 harg2 arg3 harg3 arg4 harg4 arg5 harg5 arg6 harg6 arg7 harg7 arg8 harg8 arg9 harg9 arg10 harg10 arg11 harg11 arg13 arg14 x0 x1 x2 x3 x4 x5 x6 x7 x8 x9 5 1, piece i arg2 harg2 arg3 harg3 arg4 harg4 arg5 harg5 arg6 harg6 arg7 harg7 arg8 harg8 arg9 harg9 arg10 harg10 arg11 harg11 arg13 arg14 x0 x1 x2 x3 x4 x5 x6 x7 x8 x9 5 0, piece i arg2 harg2 arg3 harg3 arg4 harg4 arg5 harg5 arg6 harg6 arg7 harg7 arg8 harg8 arg9 harg9 arg10 harg10 arg11 harg11 arg13 arg14 x0 x1 x2 x3 x4 x5 x6 x7 x8 x9 4 3, piece i arg2 harg2 arg3 harg3 arg4 harg4 arg5 harg5 arg6 harg6 arg7 harg7 arg8 harg8 arg9 harg9 arg10 harg10 arg11 harg11 arg13 arg14 x0 x1 x2 x3 x4 x5 x6 x7 x8 x9 4 2, piece i arg2 harg2 arg3 harg3 arg4 harg4 arg5 harg5 arg6 harg6 arg7 harg7 arg8 harg8 arg9 harg9 arg10 harg10 arg11 harg11 arg13 arg14 x0 x1 x2 x3 x4 x5 x6 x7 x8 x9 4 1, piece i arg2 harg2 arg3 harg3 arg4 harg4 arg5 harg5 arg6 harg6 arg7 harg7 arg8 harg8 arg9 harg9 arg10 harg10 arg11 harg11 arg13 arg14 x0 x1 x2 x3 x4 x5 x6 x7 x8 x9 4 0, piece i arg2 harg2 arg3 harg3 arg4 harg4 arg5 harg5 arg6 harg6 arg7 harg7 arg8 harg8 arg9 harg9 arg10 harg10 arg11 harg11 arg13 arg14 x0 x1 x2 x3 x4 x5 x6 x7 x8 x9 3 3, piece i arg2 harg2 arg3 harg3 arg4 harg4 arg5 harg5 arg6 harg6 arg7 harg7 arg8 harg8 arg9 harg9 arg10 harg10 arg11 harg11 arg13 arg14 x0 x1 x2 x3 x4 x5 x6 x7 x8 x9 3 2, piece i arg2 harg2 arg3 harg3 arg4 harg4 arg5 harg5 arg6 harg6 arg7 harg7 arg8 harg8 arg9 harg9 arg10 harg10 arg11 harg11 arg13 arg14 x0 x1 x2 x3 x4 x5 x6 x7 x8 x9 3 1, piece i arg2 harg2 arg3 harg3 arg4 harg4 arg5 harg5 arg6 harg6 arg7 harg7 arg8 harg8 arg9 harg9 arg10 harg10 arg11 harg11 arg13 arg14 x0 x1 x2 x3 x4 x5 x6 x7 x8 x9 3 0, piece i arg2 harg2 arg3 harg3 arg4 harg4 arg5 harg5 arg6 harg6 arg7 harg7 arg8 harg8 arg9 harg9 arg10 harg10 arg11 harg11 arg13 arg14 x0 x1 x2 x3 x4 x5 x6 x7 x8 x9 2 3, piece i arg2 harg2 arg3 harg3 arg4 harg4 arg5 harg5 arg6 harg6 arg7 harg7 arg8 harg8 arg9 harg9 arg10 harg10 arg11 harg11 arg13 arg14 x0 x1 x2 x3 x4 x5 x6 x7 x8 x9 2 2, piece i arg2 harg2 arg3 harg3 arg4 harg4 arg5 harg5 arg6 harg6 arg7 harg7 arg8 harg8 arg9 harg9 arg10 harg10 arg11 harg11 arg13 arg14 x0 x1 x2 x3 x4 x5 x6 x7 x8 x9 2 1, piece i arg2 harg2 arg3 harg3 arg4 harg4 arg5 harg5 arg6 harg6 arg7 harg7 arg8 harg8 arg9 harg9 arg10 harg10 arg11 harg11 arg13 arg14 x0 x1 x2 x3 x4 x5 x6 x7 x8 x9 2 0, piece i arg2 harg2 arg3 harg3 arg4 harg4 arg5 harg5 arg6 harg6 arg7 harg7 arg8 harg8 arg9 harg9 arg10 harg10 arg11 harg11 arg13 arg14 x0 x1 x2 x3 x4 x5 x6 x7 x8 x9 1 3, piece i arg2 harg2 arg3 harg3 arg4 harg4 arg5 harg5 arg6 harg6 arg7 harg7 arg8 harg8 arg9 harg9 arg10 harg10 arg11 harg11 arg13 arg14 x0 x1 x2 x3 x4 x5 x6 x7 x8 x9 1 2, piece i arg2 harg2 arg3 harg3 arg4 harg4 arg5 harg5 arg6 harg6 arg7 harg7 arg8 harg8 arg9 harg9 arg10 harg10 arg11 harg11 arg13 arg14 x0 x1 x2 x3 x4 x5 x6 x7 x8 x9 1 1, piece i arg2 harg2 arg3 harg3 arg4 harg4 arg5 harg5 arg6 harg6 arg7 harg7 arg8 harg8 arg9 harg9 arg10 harg10 arg11 harg11 arg13 arg14 x0 x1 x2 x3 x4 x5 x6 x7 x8 x9 1 0, piece i arg2 harg2 arg3 harg3 arg4 harg4 arg5 harg5 arg6 harg6 arg7 harg7 arg8 harg8 arg9 harg9 arg10 harg10 arg11 harg11 arg13 arg14 x0 x1 x2 x3 x4 x5 x6 x7 x8 x9 0 3, piece i arg2 harg2 arg3 harg3 arg4 harg4 arg5 harg5 arg6 harg6 arg7 harg7 arg8 harg8 arg9 harg9 arg10 harg10 arg11 harg11 arg13 arg14 x0 x1 x2 x3 x4 x5 x6 x7 x8 x9 0 2, piece i arg2 harg2 arg3 harg3 arg4 harg4 arg5 harg5 arg6 harg6 arg7 harg7 arg8 harg8 arg9 harg9 arg10 harg10 arg11 harg11 arg13 arg14 x0 x1 x2 x3 x4 x5 x6 x7 x8 x9 0 1, piece i arg2 harg2 arg3 harg3 arg4 harg4 arg5 harg5 arg6 harg6 arg7 harg7 arg8 harg8 arg9 harg9 arg10 harg10 arg11 harg11 arg13 arg14 x0 x1 x2 x3 x4 x5 x6 x7 x8 x9 0 0]

/-- Lists of pairs agree when their heads and their tails do. -/
theorem cons_eq {α : Type} {β : α → Type} {a : α} {b b' : β a} {l l' : List (Sigma β)} (h : b = b') (h' : l = l') : (⟨a, b⟩ :: l : List (Sigma β)) = ⟨a, b'⟩ :: l' := by
  subst h h'; rfl

set_option maxHeartbeats 0 in
/-- The kernel's stores into its result's window are the tiles of its blocks and pairs of heads. -/
theorem run_pieces : (kernelRun0_A c i arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7 x8 x9).1 = pieces i arg2 harg2 arg3 harg3 arg4 harg4 arg5 harg5 arg6 harg6 arg7 harg7 arg8 harg8 arg9 harg9 arg10 harg10 arg11 harg11 arg13 arg14 x0 x1 x2 x3 x4 x5 x6 x7 x8 x9 := by
  unfold kernelRun0_A
  refine cons_eq ?_ ?_
  · show _ = tile1 (inp i arg2 harg2 arg3 harg3 arg4 harg4 arg5 harg5 arg6 harg6 arg10 harg10 arg13 x0 x1 x2 x3 x4 x8 7 1) (inpVw arg7 harg7 arg8 harg8 arg9 harg9 arg14 x5 x6 x7 7 1) (inpVx arg11 harg11 x9 1)
    dsimp only [tile0, tile1, pair, sums, probs, sinkExp, inp, word, head, inpVw, inpVx, valid, low]
    rfl
  refine cons_eq ?_ ?_
  · show _ = tile0 (inp i arg2 harg2 arg3 harg3 arg4 harg4 arg5 harg5 arg6 harg6 arg10 harg10 arg13 x0 x1 x2 x3 x4 x8 7 1) (inpVw arg7 harg7 arg8 harg8 arg9 harg9 arg14 x5 x6 x7 7 1) (inpVx arg11 harg11 x9 1)
    dsimp only [tile0, tile1, pair, sums, probs, sinkExp, inp, word, head, inpVw, inpVx, valid, low]
    rfl
  refine cons_eq ?_ ?_
  · show _ = tile1 (inp i arg2 harg2 arg3 harg3 arg4 harg4 arg5 harg5 arg6 harg6 arg10 harg10 arg13 x0 x1 x2 x3 x4 x8 7 0) (inpVw arg7 harg7 arg8 harg8 arg9 harg9 arg14 x5 x6 x7 7 0) (inpVx arg11 harg11 x9 0)
    dsimp only [tile0, tile1, pair, sums, probs, sinkExp, inp, word, head, inpVw, inpVx, valid, low]
    rfl
  refine cons_eq ?_ ?_
  · show _ = tile0 (inp i arg2 harg2 arg3 harg3 arg4 harg4 arg5 harg5 arg6 harg6 arg10 harg10 arg13 x0 x1 x2 x3 x4 x8 7 0) (inpVw arg7 harg7 arg8 harg8 arg9 harg9 arg14 x5 x6 x7 7 0) (inpVx arg11 harg11 x9 0)
    dsimp only [tile0, tile1, pair, sums, probs, sinkExp, inp, word, head, inpVw, inpVx, valid, low]
    rfl
  refine cons_eq ?_ ?_
  · show _ = tile1 (inp i arg2 harg2 arg3 harg3 arg4 harg4 arg5 harg5 arg6 harg6 arg10 harg10 arg13 x0 x1 x2 x3 x4 x8 6 1) (inpVw arg7 harg7 arg8 harg8 arg9 harg9 arg14 x5 x6 x7 6 1) (inpVx arg11 harg11 x9 1)
    dsimp only [tile0, tile1, pair, sums, probs, sinkExp, inp, word, head, inpVw, inpVx, valid, low]
    rfl
  refine cons_eq ?_ ?_
  · show _ = tile0 (inp i arg2 harg2 arg3 harg3 arg4 harg4 arg5 harg5 arg6 harg6 arg10 harg10 arg13 x0 x1 x2 x3 x4 x8 6 1) (inpVw arg7 harg7 arg8 harg8 arg9 harg9 arg14 x5 x6 x7 6 1) (inpVx arg11 harg11 x9 1)
    dsimp only [tile0, tile1, pair, sums, probs, sinkExp, inp, word, head, inpVw, inpVx, valid, low]
    rfl
  refine cons_eq ?_ ?_
  · show _ = tile1 (inp i arg2 harg2 arg3 harg3 arg4 harg4 arg5 harg5 arg6 harg6 arg10 harg10 arg13 x0 x1 x2 x3 x4 x8 6 0) (inpVw arg7 harg7 arg8 harg8 arg9 harg9 arg14 x5 x6 x7 6 0) (inpVx arg11 harg11 x9 0)
    dsimp only [tile0, tile1, pair, sums, probs, sinkExp, inp, word, head, inpVw, inpVx, valid, low]
    rfl
  refine cons_eq ?_ ?_
  · show _ = tile0 (inp i arg2 harg2 arg3 harg3 arg4 harg4 arg5 harg5 arg6 harg6 arg10 harg10 arg13 x0 x1 x2 x3 x4 x8 6 0) (inpVw arg7 harg7 arg8 harg8 arg9 harg9 arg14 x5 x6 x7 6 0) (inpVx arg11 harg11 x9 0)
    dsimp only [tile0, tile1, pair, sums, probs, sinkExp, inp, word, head, inpVw, inpVx, valid, low]
    rfl
  refine cons_eq ?_ ?_
  · show _ = tile1 (inp i arg2 harg2 arg3 harg3 arg4 harg4 arg5 harg5 arg6 harg6 arg10 harg10 arg13 x0 x1 x2 x3 x4 x8 5 1) (inpVw arg7 harg7 arg8 harg8 arg9 harg9 arg14 x5 x6 x7 5 1) (inpVx arg11 harg11 x9 1)
    dsimp only [tile0, tile1, pair, sums, probs, sinkExp, inp, word, head, inpVw, inpVx, valid, low]
    rfl
  refine cons_eq ?_ ?_
  · show _ = tile0 (inp i arg2 harg2 arg3 harg3 arg4 harg4 arg5 harg5 arg6 harg6 arg10 harg10 arg13 x0 x1 x2 x3 x4 x8 5 1) (inpVw arg7 harg7 arg8 harg8 arg9 harg9 arg14 x5 x6 x7 5 1) (inpVx arg11 harg11 x9 1)
    dsimp only [tile0, tile1, pair, sums, probs, sinkExp, inp, word, head, inpVw, inpVx, valid, low]
    rfl
  refine cons_eq ?_ ?_
  · show _ = tile1 (inp i arg2 harg2 arg3 harg3 arg4 harg4 arg5 harg5 arg6 harg6 arg10 harg10 arg13 x0 x1 x2 x3 x4 x8 5 0) (inpVw arg7 harg7 arg8 harg8 arg9 harg9 arg14 x5 x6 x7 5 0) (inpVx arg11 harg11 x9 0)
    dsimp only [tile0, tile1, pair, sums, probs, sinkExp, inp, word, head, inpVw, inpVx, valid, low]
    rfl
  refine cons_eq ?_ ?_
  · show _ = tile0 (inp i arg2 harg2 arg3 harg3 arg4 harg4 arg5 harg5 arg6 harg6 arg10 harg10 arg13 x0 x1 x2 x3 x4 x8 5 0) (inpVw arg7 harg7 arg8 harg8 arg9 harg9 arg14 x5 x6 x7 5 0) (inpVx arg11 harg11 x9 0)
    dsimp only [tile0, tile1, pair, sums, probs, sinkExp, inp, word, head, inpVw, inpVx, valid, low]
    rfl
  refine cons_eq ?_ ?_
  · show _ = tile1 (inp i arg2 harg2 arg3 harg3 arg4 harg4 arg5 harg5 arg6 harg6 arg10 harg10 arg13 x0 x1 x2 x3 x4 x8 4 1) (inpVw arg7 harg7 arg8 harg8 arg9 harg9 arg14 x5 x6 x7 4 1) (inpVx arg11 harg11 x9 1)
    dsimp only [tile0, tile1, pair, sums, probs, sinkExp, inp, word, head, inpVw, inpVx, valid, low]
    rfl
  refine cons_eq ?_ ?_
  · show _ = tile0 (inp i arg2 harg2 arg3 harg3 arg4 harg4 arg5 harg5 arg6 harg6 arg10 harg10 arg13 x0 x1 x2 x3 x4 x8 4 1) (inpVw arg7 harg7 arg8 harg8 arg9 harg9 arg14 x5 x6 x7 4 1) (inpVx arg11 harg11 x9 1)
    dsimp only [tile0, tile1, pair, sums, probs, sinkExp, inp, word, head, inpVw, inpVx, valid, low]
    rfl
  refine cons_eq ?_ ?_
  · show _ = tile1 (inp i arg2 harg2 arg3 harg3 arg4 harg4 arg5 harg5 arg6 harg6 arg10 harg10 arg13 x0 x1 x2 x3 x4 x8 4 0) (inpVw arg7 harg7 arg8 harg8 arg9 harg9 arg14 x5 x6 x7 4 0) (inpVx arg11 harg11 x9 0)
    dsimp only [tile0, tile1, pair, sums, probs, sinkExp, inp, word, head, inpVw, inpVx, valid, low]
    rfl
  refine cons_eq ?_ ?_
  · show _ = tile0 (inp i arg2 harg2 arg3 harg3 arg4 harg4 arg5 harg5 arg6 harg6 arg10 harg10 arg13 x0 x1 x2 x3 x4 x8 4 0) (inpVw arg7 harg7 arg8 harg8 arg9 harg9 arg14 x5 x6 x7 4 0) (inpVx arg11 harg11 x9 0)
    dsimp only [tile0, tile1, pair, sums, probs, sinkExp, inp, word, head, inpVw, inpVx, valid, low]
    rfl
  refine cons_eq ?_ ?_
  · show _ = tile1 (inp i arg2 harg2 arg3 harg3 arg4 harg4 arg5 harg5 arg6 harg6 arg10 harg10 arg13 x0 x1 x2 x3 x4 x8 3 1) (inpVw arg7 harg7 arg8 harg8 arg9 harg9 arg14 x5 x6 x7 3 1) (inpVx arg11 harg11 x9 1)
    dsimp only [tile0, tile1, pair, sums, probs, sinkExp, inp, word, head, inpVw, inpVx, valid, low]
    rfl
  refine cons_eq ?_ ?_
  · show _ = tile0 (inp i arg2 harg2 arg3 harg3 arg4 harg4 arg5 harg5 arg6 harg6 arg10 harg10 arg13 x0 x1 x2 x3 x4 x8 3 1) (inpVw arg7 harg7 arg8 harg8 arg9 harg9 arg14 x5 x6 x7 3 1) (inpVx arg11 harg11 x9 1)
    dsimp only [tile0, tile1, pair, sums, probs, sinkExp, inp, word, head, inpVw, inpVx, valid, low]
    rfl
  refine cons_eq ?_ ?_
  · show _ = tile1 (inp i arg2 harg2 arg3 harg3 arg4 harg4 arg5 harg5 arg6 harg6 arg10 harg10 arg13 x0 x1 x2 x3 x4 x8 3 0) (inpVw arg7 harg7 arg8 harg8 arg9 harg9 arg14 x5 x6 x7 3 0) (inpVx arg11 harg11 x9 0)
    dsimp only [tile0, tile1, pair, sums, probs, sinkExp, inp, word, head, inpVw, inpVx, valid, low]
    rfl
  refine cons_eq ?_ ?_
  · show _ = tile0 (inp i arg2 harg2 arg3 harg3 arg4 harg4 arg5 harg5 arg6 harg6 arg10 harg10 arg13 x0 x1 x2 x3 x4 x8 3 0) (inpVw arg7 harg7 arg8 harg8 arg9 harg9 arg14 x5 x6 x7 3 0) (inpVx arg11 harg11 x9 0)
    dsimp only [tile0, tile1, pair, sums, probs, sinkExp, inp, word, head, inpVw, inpVx, valid, low]
    rfl
  refine cons_eq ?_ ?_
  · show _ = tile1 (inp i arg2 harg2 arg3 harg3 arg4 harg4 arg5 harg5 arg6 harg6 arg10 harg10 arg13 x0 x1 x2 x3 x4 x8 2 1) (inpVw arg7 harg7 arg8 harg8 arg9 harg9 arg14 x5 x6 x7 2 1) (inpVx arg11 harg11 x9 1)
    dsimp only [tile0, tile1, pair, sums, probs, sinkExp, inp, word, head, inpVw, inpVx, valid, low]
    rfl
  refine cons_eq ?_ ?_
  · show _ = tile0 (inp i arg2 harg2 arg3 harg3 arg4 harg4 arg5 harg5 arg6 harg6 arg10 harg10 arg13 x0 x1 x2 x3 x4 x8 2 1) (inpVw arg7 harg7 arg8 harg8 arg9 harg9 arg14 x5 x6 x7 2 1) (inpVx arg11 harg11 x9 1)
    dsimp only [tile0, tile1, pair, sums, probs, sinkExp, inp, word, head, inpVw, inpVx, valid, low]
    rfl
  refine cons_eq ?_ ?_
  · show _ = tile1 (inp i arg2 harg2 arg3 harg3 arg4 harg4 arg5 harg5 arg6 harg6 arg10 harg10 arg13 x0 x1 x2 x3 x4 x8 2 0) (inpVw arg7 harg7 arg8 harg8 arg9 harg9 arg14 x5 x6 x7 2 0) (inpVx arg11 harg11 x9 0)
    dsimp only [tile0, tile1, pair, sums, probs, sinkExp, inp, word, head, inpVw, inpVx, valid, low]
    rfl
  refine cons_eq ?_ ?_
  · show _ = tile0 (inp i arg2 harg2 arg3 harg3 arg4 harg4 arg5 harg5 arg6 harg6 arg10 harg10 arg13 x0 x1 x2 x3 x4 x8 2 0) (inpVw arg7 harg7 arg8 harg8 arg9 harg9 arg14 x5 x6 x7 2 0) (inpVx arg11 harg11 x9 0)
    dsimp only [tile0, tile1, pair, sums, probs, sinkExp, inp, word, head, inpVw, inpVx, valid, low]
    rfl
  refine cons_eq ?_ ?_
  · show _ = tile1 (inp i arg2 harg2 arg3 harg3 arg4 harg4 arg5 harg5 arg6 harg6 arg10 harg10 arg13 x0 x1 x2 x3 x4 x8 1 1) (inpVw arg7 harg7 arg8 harg8 arg9 harg9 arg14 x5 x6 x7 1 1) (inpVx arg11 harg11 x9 1)
    dsimp only [tile0, tile1, pair, sums, probs, sinkExp, inp, word, head, inpVw, inpVx, valid, low]
    rfl
  refine cons_eq ?_ ?_
  · show _ = tile0 (inp i arg2 harg2 arg3 harg3 arg4 harg4 arg5 harg5 arg6 harg6 arg10 harg10 arg13 x0 x1 x2 x3 x4 x8 1 1) (inpVw arg7 harg7 arg8 harg8 arg9 harg9 arg14 x5 x6 x7 1 1) (inpVx arg11 harg11 x9 1)
    dsimp only [tile0, tile1, pair, sums, probs, sinkExp, inp, word, head, inpVw, inpVx, valid, low]
    rfl
  refine cons_eq ?_ ?_
  · show _ = tile1 (inp i arg2 harg2 arg3 harg3 arg4 harg4 arg5 harg5 arg6 harg6 arg10 harg10 arg13 x0 x1 x2 x3 x4 x8 1 0) (inpVw arg7 harg7 arg8 harg8 arg9 harg9 arg14 x5 x6 x7 1 0) (inpVx arg11 harg11 x9 0)
    dsimp only [tile0, tile1, pair, sums, probs, sinkExp, inp, word, head, inpVw, inpVx, valid, low]
    rfl
  refine cons_eq ?_ ?_
  · show _ = tile0 (inp i arg2 harg2 arg3 harg3 arg4 harg4 arg5 harg5 arg6 harg6 arg10 harg10 arg13 x0 x1 x2 x3 x4 x8 1 0) (inpVw arg7 harg7 arg8 harg8 arg9 harg9 arg14 x5 x6 x7 1 0) (inpVx arg11 harg11 x9 0)
    dsimp only [tile0, tile1, pair, sums, probs, sinkExp, inp, word, head, inpVw, inpVx, valid, low]
    rfl
  refine cons_eq ?_ ?_
  · show _ = tile1 (inp i arg2 harg2 arg3 harg3 arg4 harg4 arg5 harg5 arg6 harg6 arg10 harg10 arg13 x0 x1 x2 x3 x4 x8 0 1) (inpVw arg7 harg7 arg8 harg8 arg9 harg9 arg14 x5 x6 x7 0 1) (inpVx arg11 harg11 x9 1)
    dsimp only [tile0, tile1, pair, sums, probs, sinkExp, inp, word, head, inpVw, inpVx, valid, low]
    rfl
  refine cons_eq ?_ ?_
  · show _ = tile0 (inp i arg2 harg2 arg3 harg3 arg4 harg4 arg5 harg5 arg6 harg6 arg10 harg10 arg13 x0 x1 x2 x3 x4 x8 0 1) (inpVw arg7 harg7 arg8 harg8 arg9 harg9 arg14 x5 x6 x7 0 1) (inpVx arg11 harg11 x9 1)
    dsimp only [tile0, tile1, pair, sums, probs, sinkExp, inp, word, head, inpVw, inpVx, valid, low]
    rfl
  refine cons_eq ?_ ?_
  · show _ = tile1 (inp i arg2 harg2 arg3 harg3 arg4 harg4 arg5 harg5 arg6 harg6 arg10 harg10 arg13 x0 x1 x2 x3 x4 x8 0 0) (inpVw arg7 harg7 arg8 harg8 arg9 harg9 arg14 x5 x6 x7 0 0) (inpVx arg11 harg11 x9 0)
    dsimp only [tile0, tile1, pair, sums, probs, sinkExp, inp, word, head, inpVw, inpVx, valid, low]
    rfl
  refine cons_eq ?_ ?_
  · show _ = tile0 (inp i arg2 harg2 arg3 harg3 arg4 harg4 arg5 harg5 arg6 harg6 arg10 harg10 arg13 x0 x1 x2 x3 x4 x8 0 0) (inpVw arg7 harg7 arg8 harg8 arg9 harg9 arg14 x5 x6 x7 0 0) (inpVx arg11 harg11 x9 0)
    dsimp only [tile0, tile1, pair, sums, probs, sinkExp, inp, word, head, inpVw, inpVx, valid, low]
    rfl
  rfl

end Cert.AttnPieces

end
-- ==== Proof.AttnBlock.lean ====
module

public import proofs.«01_k».proof.Proof.AttnPieces
public import proofs.«01_k».proof.Proof.Gen.KernelIdeal.Value
public import Idealize.ShloMosaic.Lib.WholeRead

/-! The attention kernel's block of results read at an element: the tile that its store holds there, and the tile's
operands as elements of the kernel's windows. -/

@[expose] public section

set_option maxRecDepth 16384

noncomputable section

namespace Cert.AttnBlock

open Idealize.ShloMosaic Idealize.ShloMosaic.TcCoe Idealize.SL.Sem Cert.KernelIdeal Cert.KernelIdeal.Gen Cert.AttnTile Cert.AttnMask Cert.AttnPieces

/-- Under its last write an element reads the write's value. -/
theorem canon_hit {s : Shape} {e : EltTy} (r : Rect s) (w : r.shape.Idx → Elt Ideal e) (L : List (View.Piece (Elt Ideal) s e)) (y : s.Idx)
    (x : r.shape.Idx) (h : r.emb x = y) : View.canon (⟨r, w⟩ :: L) y = w x := by
  subst h
  exact View.canon_cons_emb r w L x

/-- Off its last write an element reads the earlier writes. -/
theorem canon_miss {s : Shape} {e : EltTy} (r : Rect s) (w : r.shape.Idx → Elt Ideal e) (L : List (View.Piece (Elt Ideal) s e)) (y : s.Idx)
    (h : y ∉ r.set) : View.canon (⟨r, w⟩ :: L) y = View.canon L y := View.canon_cons_of_not_mem _ _ h

/-- Row `R` of three blocks of 128, 1024 and 128 rows, one after the other. -/
def row3 {n : Nat} (x : (⟨3, ![1, 128, n]⟩ : Shape).Idx → EReal) (y : (⟨3, ![1, 1024, n]⟩ : Shape).Idx → EReal)
    (z : (⟨3, ![1, 128, n]⟩ : Shape).Idx → EReal) (R : Fin 1280) (d : Fin n) : EReal :=
  if h : R.val < 128 then x (ix3 0 ⟨R.val, h⟩ d) else if h' : R.val < 1152 then y (ix3 0 ⟨R.val - 128, by omega⟩ d)
  else z (ix3 0 ⟨R.val - 1152, by omega⟩ d)

/-- A window's block as the kernel stores it in the scratch array. -/
theorem payK (m : Memref sig .tc .vmem S1x128x256 .bf16) (hm : m.IsWhole) (x : Vec Ideal S1x128x256 .bf16) (r : Fin 128) (d : Fin 256) :
    (shapeCast S128x256 (shapeCast S128x256 (View.readAt (Elt Ideal) m.view (Rect.unit (s := S1x128x256) ![0, 0, 0] S1x128x256.size (by decide)).toLoadRect (hm.unread x)) shapeCasts_S1x128x256_S128x256) shapeCasts_S128x256_S128x256 : S128x256.Idx → EReal) (ix2 r d)
      = x (ix3 0 r d) := by
  rw [shapeCast_self]
  refine Eq.trans (b := View.readAt (Elt Ideal) m.view (Rect.unit (s := S1x128x256) ![0, 0, 0] S1x128x256.size (by decide)).toLoadRect (hm.unread x) (ix3 0 r d)) ?_ ?_
  · pointwise
  · refine (hm.readAt_unread x _ _).trans (congrArg x ?_)
    funext a
    apply Fin.ext
    match a with
    | ⟨0, _⟩ => rfl
    | ⟨1, _⟩ => show 0 + 1 * r.val = r.val; omega
    | ⟨2, _⟩ => show 0 + 1 * d.val = d.val; omega

/-- A window's block as the kernel stores it in the scratch array. -/
theorem payK2 (m : Memref sig .tc .vmem S1x1024x256 .bf16) (hm : m.IsWhole) (x : Vec Ideal S1x1024x256 .bf16) (r : Fin 1024) (d : Fin 256) :
    (shapeCast S1024x256 (shapeCast S1024x256 (View.readAt (Elt Ideal) m.view (Rect.unit (s := S1x1024x256) ![0, 0, 0] S1x1024x256.size (by decide)).toLoadRect (hm.unread x)) shapeCasts_S1x1024x256_S1024x256) shapeCasts_S1024x256_S1024x256 : S1024x256.Idx → EReal) (ix2 r d)
      = x (ix3 0 r d) := by
  rw [shapeCast_self]
  refine Eq.trans (b := View.readAt (Elt Ideal) m.view (Rect.unit (s := S1x1024x256) ![0, 0, 0] S1x1024x256.size (by decide)).toLoadRect (hm.unread x) (ix3 0 r d)) ?_ ?_
  · pointwise
  · refine (hm.readAt_unread x _ _).trans (congrArg x ?_)
    funext a
    apply Fin.ext
    match a with
    | ⟨0, _⟩ => rfl
    | ⟨1, _⟩ => show 0 + 1 * r.val = r.val; omega
    | ⟨2, _⟩ => show 0 + 1 * d.val = d.val; omega

/-- A window's block as the kernel stores it in the scratch array. -/
theorem payV (m : Memref sig .tc .vmem S1x128x512 .bf16) (hm : m.IsWhole) (x : Vec Ideal S1x128x512 .bf16) (r : Fin 128) (d : Fin 512) :
    (shapeCast S128x512 (shapeCast S128x512 (View.readAt (Elt Ideal) m.view (Rect.unit (s := S1x128x512) ![0, 0, 0] S1x128x512.size (by decide)).toLoadRect (hm.unread x)) shapeCasts_S1x128x512_S128x512) shapeCasts_S128x512_S128x512 : S128x512.Idx → EReal) (ix2 r d)
      = x (ix3 0 r d) := by
  rw [shapeCast_self]
  refine Eq.trans (b := View.readAt (Elt Ideal) m.view (Rect.unit (s := S1x128x512) ![0, 0, 0] S1x128x512.size (by decide)).toLoadRect (hm.unread x) (ix3 0 r d)) ?_ ?_
  · pointwise
  · refine (hm.readAt_unread x _ _).trans (congrArg x ?_)
    funext a
    apply Fin.ext
    match a with
    | ⟨0, _⟩ => rfl
    | ⟨1, _⟩ => show 0 + 1 * r.val = r.val; omega
    | ⟨2, _⟩ => show 0 + 1 * d.val = d.val; omega

/-- A window's block as the kernel stores it in the scratch array. -/
theorem payV2 (m : Memref sig .tc .vmem S1x1024x512 .bf16) (hm : m.IsWhole) (x : Vec Ideal S1x1024x512 .bf16) (r : Fin 1024) (d : Fin 512) :
    (shapeCast S1024x512 (shapeCast S1024x512 (View.readAt (Elt Ideal) m.view (Rect.unit (s := S1x1024x512) ![0, 0, 0] S1x1024x512.size (by decide)).toLoadRect (hm.unread x)) shapeCasts_S1x1024x512_S1024x512) shapeCasts_S1024x512_S1024x512 : S1024x512.Idx → EReal) (ix2 r d)
      = x (ix3 0 r d) := by
  rw [shapeCast_self]
  refine Eq.trans (b := View.readAt (Elt Ideal) m.view (Rect.unit (s := S1x1024x512) ![0, 0, 0] S1x1024x512.size (by decide)).toLoadRect (hm.unread x) (ix3 0 r d)) ?_ ?_
  · pointwise
  · refine (hm.readAt_unread x _ _).trans (congrArg x ?_)
    funext a
    apply Fin.ext
    match a with
    | ⟨0, _⟩ => rfl
    | ⟨1, _⟩ => show 0 + 1 * r.val = r.val; omega
    | ⟨2, _⟩ => show 0 + 1 * d.val = d.val; omega

/-- An element of three blocks stored one after the other. -/
theorem keys3 (w4 : Vec Ideal S128x256 .bf16) (w3 : Vec Ideal S1024x256 .bf16) (w2 : Vec Ideal S128x256 .bf16) (p4 : ∀ a, (![1152, 0] : Fin 2 → Nat) a + S128x256.size a ≤ S1280x256.size a)
    (p3 : ∀ a, (![128, 0] : Fin 2 → Nat) a + S1024x256.size a ≤ S1280x256.size a) (p2 : ∀ a, (![0, 0] : Fin 2 → Nat) a + S128x256.size a ≤ S1280x256.size a) (R : Fin 1280) (d : Fin 256) :
    (View.canon ([⟨Rect.unit (s := S1280x256) ![1152, 0] S128x256.size p4, w4⟩, ⟨Rect.unit (s := S1280x256) ![128, 0] S1024x256.size p3, w3⟩,
        ⟨Rect.unit (s := S1280x256) ![0, 0] S128x256.size p2, w2⟩] : List (View.Piece (Elt Ideal) S1280x256 .bf16)) (ix2 R d) : EReal)
      = if h : R.val < 128 then w2 (ix2 ⟨R.val, h⟩ d) else if h' : R.val < 1152 then w3 (ix2 ⟨R.val - 128, by omega⟩ d)
        else w4 (ix2 ⟨R.val - 1152, by omega⟩ d) := by
  have m4 : R.val < 1152 → (ix2 R d : S1280x256.Idx) ∉ (Rect.unit (s := S1280x256) ![1152, 0] S128x256.size p4).set := fun h h' => by
    have h0 : 1152 ≤ R.val ∧ R.val < 1152 + 128 := (Rect.mem_set_unit (inb := p4)).1 h' 0
    omega
  have m3 : R.val < 128 → (ix2 R d : S1280x256.Idx) ∉ (Rect.unit (s := S1280x256) ![128, 0] S1024x256.size p3).set := fun h h' => by
    have h0 : 128 ≤ R.val ∧ R.val < 128 + 1024 := (Rect.mem_set_unit (inb := p3)).1 h' 0
    omega
  by_cases h1 : R.val < 128
  · rw [dif_pos h1]
    refine (canon_miss _ _ _ _ (m4 (by omega))).trans ?_
    refine (canon_miss _ _ _ _ (m3 h1)).trans ?_
    refine canon_hit (Rect.unit (s := S1280x256) ![0, 0] S128x256.size p2) w2 _ _ (ix2 ⟨R.val, h1⟩ d) ?_
    funext a
    apply Fin.ext
    match a with
    | ⟨0, _⟩ => show 0 + 1 * R.val = R.val; omega
    | ⟨1, _⟩ => show 0 + 1 * d.val = d.val; omega
  rw [dif_neg h1]
  by_cases h2 : R.val < 1152
  · rw [dif_pos h2]
    refine (canon_miss _ _ _ _ (m4 h2)).trans ?_
    refine canon_hit (Rect.unit (s := S1280x256) ![128, 0] S1024x256.size p3) w3 _ _ (ix2 ⟨R.val - 128, by omega⟩ d) ?_
    funext a
    apply Fin.ext
    match a with
    | ⟨0, _⟩ => show 128 + 1 * (R.val - 128) = R.val; omega
    | ⟨1, _⟩ => show 0 + 1 * d.val = d.val; omega
  · rw [dif_neg h2]
    refine canon_hit (Rect.unit (s := S1280x256) ![1152, 0] S128x256.size p4) w4 _ _ (ix2 ⟨R.val - 1152, by omega⟩ d) ?_
    funext a
    apply Fin.ext
    match a with
    | ⟨0, _⟩ => show 1152 + 1 * (R.val - 1152) = R.val; omega
    | ⟨1, _⟩ => show 0 + 1 * d.val = d.val; omega

/-- An element of three blocks stored one after the other. -/
theorem vals3 (w4 : Vec Ideal S128x512 .bf16) (w3 : Vec Ideal S1024x512 .bf16) (w2 : Vec Ideal S128x512 .bf16) (p4 : ∀ a, (![1152, 0] : Fin 2 → Nat) a + S128x512.size a ≤ S1280x512.size a)
    (p3 : ∀ a, (![128, 0] : Fin 2 → Nat) a + S1024x512.size a ≤ S1280x512.size a) (p2 : ∀ a, (![0, 0] : Fin 2 → Nat) a + S128x512.size a ≤ S1280x512.size a) (R : Fin 1280) (d : Fin 512) :
    (View.canon ([⟨Rect.unit (s := S1280x512) ![1152, 0] S128x512.size p4, w4⟩, ⟨Rect.unit (s := S1280x512) ![128, 0] S1024x512.size p3, w3⟩,
        ⟨Rect.unit (s := S1280x512) ![0, 0] S128x512.size p2, w2⟩] : List (View.Piece (Elt Ideal) S1280x512 .bf16)) (ix2 R d) : EReal)
      = if h : R.val < 128 then w2 (ix2 ⟨R.val, h⟩ d) else if h' : R.val < 1152 then w3 (ix2 ⟨R.val - 128, by omega⟩ d)
        else w4 (ix2 ⟨R.val - 1152, by omega⟩ d) := by
  have m4 : R.val < 1152 → (ix2 R d : S1280x512.Idx) ∉ (Rect.unit (s := S1280x512) ![1152, 0] S128x512.size p4).set := fun h h' => by
    have h0 : 1152 ≤ R.val ∧ R.val < 1152 + 128 := (Rect.mem_set_unit (inb := p4)).1 h' 0
    omega
  have m3 : R.val < 128 → (ix2 R d : S1280x512.Idx) ∉ (Rect.unit (s := S1280x512) ![128, 0] S1024x512.size p3).set := fun h h' => by
    have h0 : 128 ≤ R.val ∧ R.val < 128 + 1024 := (Rect.mem_set_unit (inb := p3)).1 h' 0
    omega
  by_cases h1 : R.val < 128
  · rw [dif_pos h1]
    refine (canon_miss _ _ _ _ (m4 (by omega))).trans ?_
    refine (canon_miss _ _ _ _ (m3 h1)).trans ?_
    refine canon_hit (Rect.unit (s := S1280x512) ![0, 0] S128x512.size p2) w2 _ _ (ix2 ⟨R.val, h1⟩ d) ?_
    funext a
    apply Fin.ext
    match a with
    | ⟨0, _⟩ => show 0 + 1 * R.val = R.val; omega
    | ⟨1, _⟩ => show 0 + 1 * d.val = d.val; omega
  rw [dif_neg h1]
  by_cases h2 : R.val < 1152
  · rw [dif_pos h2]
    refine (canon_miss _ _ _ _ (m4 h2)).trans ?_
    refine canon_hit (Rect.unit (s := S1280x512) ![128, 0] S1024x512.size p3) w3 _ _ (ix2 ⟨R.val - 128, by omega⟩ d) ?_
    funext a
    apply Fin.ext
    match a with
    | ⟨0, _⟩ => show 128 + 1 * (R.val - 128) = R.val; omega
    | ⟨1, _⟩ => show 0 + 1 * d.val = d.val; omega
  · rw [dif_neg h2]
    refine canon_hit (Rect.unit (s := S1280x512) ![1152, 0] S128x512.size p4) w4 _ _ (ix2 ⟨R.val - 1152, by omega⟩ d) ?_
    funext a
    apply Fin.ext
    match a with
    | ⟨0, _⟩ => show 1152 + 1 * (R.val - 1152) = R.val; omega
    | ⟨1, _⟩ => show 0 + 1 * d.val = d.val; omega

variable (c : Dev nD) (i : grid0.Coords) (arg2 : Memref sig .tc .smem S8 .f32) (harg2 : arg2.IsWhole) (arg3 : Memref sig .tc .vmem S1x1024x1024 .bf16) (harg3 : arg3.IsWhole) (arg4 : Memref sig .tc .vmem S1x128x256 .bf16) (harg4 : arg4.IsWhole) (arg5 : Memref sig .tc .vmem S1x1024x256 .bf16) (harg5 : arg5.IsWhole) (arg6 : Memref sig .tc .vmem S1x128x256 .bf16) (harg6 : arg6.IsWhole) (arg7 : Memref sig .tc .vmem S1x128x512 .bf16) (harg7 : arg7.IsWhole) (arg8 : Memref sig .tc .vmem S1x1024x512 .bf16) (harg8 : arg8.IsWhole) (arg9 : Memref sig .tc .vmem S1x128x512 .bf16) (harg9 : arg9.IsWhole) (arg10 : Memref sig .tc .vmem S1x256x256 .bf16) (harg10 : arg10.IsWhole) (arg11 : Memref sig .tc .vmem S1x256x512 .bf16) (harg11 : arg11.IsWhole) (arg12 : Memref sig .tc .vmem S1x1024x512 .f32) (harg12 : arg12.IsWhole) (arg13 : Memref sig .tc .vmem S1280x256 .bf16) (harg13 : arg13.IsWhole) (arg14 : Memref sig .tc .vmem S1280x512 .bf16) (harg14 : arg14.IsWhole)
  (x0 : Vec Ideal S8 .f32) (x1 : Vec Ideal S1x1024x1024 .bf16) (x2 : Vec Ideal S1x128x256 .bf16) (x3 : Vec Ideal S1x1024x256 .bf16) (x4 : Vec Ideal S1x128x256 .bf16) (x5 : Vec Ideal S1x128x512 .bf16) (x6 : Vec Ideal S1x1024x512 .bf16) (x7 : Vec Ideal S1x128x512 .bf16) (x8 : Vec Ideal S1x256x256 .bf16) (x9 : Vec Ideal S1x256x512 .bf16)

/-- The scratch array's rows are the three blocks' rows. -/
theorem key_canon (R : Fin 1280) (d : Fin 256) : (View.canon (keyPieces arg4 harg4 arg5 harg5 arg6 harg6 x2 x3 x4) (ix2 R d) : EReal) = row3 x2 x3 x4 R d := by
  unfold keyPieces row3
  refine (keys3 _ _ _ _ _ _ R d).trans ?_
  by_cases h1 : R.val < 128
  · rw [dif_pos h1, dif_pos h1]
    exact payK arg4 harg4 x2 _ d
  rw [dif_neg h1, dif_neg h1]
  by_cases h2 : R.val < 1152
  · rw [dif_pos h2, dif_pos h2]
    exact payK2 arg5 harg5 x3 _ d
  · rw [dif_neg h2, dif_neg h2]
    exact payK arg6 harg6 x4 _ d

/-- The scratch array's rows are the three blocks' rows. -/
theorem val_canon (R : Fin 1280) (d : Fin 512) : (View.canon (valPieces arg7 harg7 arg8 harg8 arg9 harg9 x5 x6 x7) (ix2 R d) : EReal) = row3 x5 x6 x7 R d := by
  unfold valPieces row3
  refine (vals3 _ _ _ _ _ _ R d).trans ?_
  by_cases h1 : R.val < 128
  · rw [dif_pos h1, dif_pos h1]
    exact payV arg7 harg7 x5 _ d
  rw [dif_neg h1, dif_neg h1]
  by_cases h2 : R.val < 1152
  · rw [dif_pos h2, dif_pos h2]
    exact payV2 arg8 harg8 x6 _ d
  · rw [dif_neg h2, dif_neg h2]
    exact payV arg9 harg9 x7 _ d

variable (s : Fin 8) (j : Fin 2)

/-- A tile's queries. -/
theorem q_at (g : Fin 4) (r d : Fin 128) : ((inp i arg2 harg2 arg3 harg3 arg4 harg4 arg5 harg5 arg6 harg6 arg10 harg10 arg13 x0 x1 x2 x3 x4 x8 s j).q g (ix3 0 r d) : EReal)
    = x1 (ix3 0 ⟨128 * s.val + r.val, by omega⟩ ⟨128 * (4 * j.val + g.val) + d.val, by omega⟩) := by
  refine (harg3.readAt_unread x1 _ _).trans (congrArg x1 ?_)
  funext a
  apply Fin.ext
  match a with
  | ⟨0, _⟩ => rfl
  | ⟨1, _⟩ => show 128 * s.val + 1 * r.val = 128 * s.val + r.val; omega
  | ⟨2, _⟩ => show 128 * (4 * j.val + g.val) + 1 * d.val = 128 * (4 * j.val + g.val) + d.val; omega

/-- A tile's context keys. -/
theorem kx_at (c : Fin 256) (d : Fin 128) : ((inp i arg2 harg2 arg3 harg3 arg4 harg4 arg5 harg5 arg6 harg6 arg10 harg10 arg13 x0 x1 x2 x3 x4 x8 s j).kx (ix3 0 c d) : EReal)
    = x8 (ix3 0 c ⟨128 * j.val + d.val, by omega⟩) := by
  refine (harg10.readAt_unread x8 _ _).trans (congrArg x8 ?_)
  funext a
  apply Fin.ext
  match a with
  | ⟨0, _⟩ => rfl
  | ⟨1, _⟩ => show 0 + 1 * c.val = c.val; omega
  | ⟨2, _⟩ => show 128 * j.val + 1 * d.val = 128 * j.val + d.val; omega

/-- A tile's context values. -/
theorem vx_at (c : Fin 256) (d : Fin 256) : (inpVx arg11 harg11 x9 j (ix3 0 c d) : EReal)
    = x9 (ix3 0 c ⟨256 * j.val + d.val, by omega⟩) := by
  refine (harg11.readAt_unread x9 _ _).trans (congrArg x9 ?_)
  funext a
  apply Fin.ext
  match a with
  | ⟨0, _⟩ => rfl
  | ⟨1, _⟩ => show 0 + 1 * c.val = c.val; omega
  | ⟨2, _⟩ => show 256 * j.val + 1 * d.val = 256 * j.val + d.val; omega

/-- A tile's sinks. -/
theorem s_at (g : Fin 4) : ((inp i arg2 harg2 arg3 harg3 arg4 harg4 arg5 harg5 arg6 harg6 arg10 harg10 arg13 x0 x1 x2 x3 x4 x8 s j).s g : EReal) = x0 (ix1 ⟨4 * j.val + g.val, by omega⟩) := by
  refine (harg2.readAt_unread x0 _ _).trans (congrArg x0 ?_)
  funext a
  apply Fin.ext
  match a with
  | ⟨0, _⟩ => rfl

/-- A tile's keys. -/
theorem kw_at (c : Fin 384) (d : Fin 128) : ((inp i arg2 harg2 arg3 harg3 arg4 harg4 arg5 harg5 arg6 harg6 arg10 harg10 arg13 x0 x1 x2 x3 x4 x8 s j).kw (ix2 c d) : EReal)
    = row3 x2 x3 x4 ⟨128 * s.val + c.val, by omega⟩ ⟨128 * j.val + d.val, by omega⟩ := by
  show (arg13.view.readCov (keyPieces arg4 harg4 arg5 harg5 arg6 harg6 x2 x3 x4) (Rect.unit (s := S1280x256) ![128 * s.val, 128 * j.val] S384x128.size (inb_kw s j)).toLoadRect (ix2 c d) : EReal) = _
  rw [View.readCov_eq_canon']
  refine Eq.trans (congrArg (View.canon (keyPieces arg4 harg4 arg5 harg5 arg6 harg6 x2 x3 x4)) ?_) (key_canon arg4 harg4 arg5 harg5 arg6 harg6 x2 x3 x4 _ _)
  funext a
  apply Fin.ext
  match a with
  | ⟨0, _⟩ => show 128 * s.val + 1 * c.val = 128 * s.val + c.val; omega
  | ⟨1, _⟩ => show 128 * j.val + 1 * d.val = 128 * j.val + d.val; omega

/-- A tile's values. -/
theorem vw_at (c : Fin 384) (d : Fin 256) : (inpVw arg7 harg7 arg8 harg8 arg9 harg9 arg14 x5 x6 x7 s j (ix2 c d) : EReal)
    = row3 x5 x6 x7 ⟨128 * s.val + c.val, by omega⟩ ⟨256 * j.val + d.val, by omega⟩ := by
  show (arg14.view.readCov (valPieces arg7 harg7 arg8 harg8 arg9 harg9 x5 x6 x7) (Rect.unit (s := S1280x512) ![128 * s.val, 256 * j.val] S384x256.size (inb_vw s j)).toLoadRect (ix2 c d) : EReal) = _
  rw [View.readCov_eq_canon']
  refine Eq.trans (congrArg (View.canon (valPieces arg7 harg7 arg8 harg8 arg9 harg9 x5 x6 x7)) ?_) (val_canon arg7 harg7 arg8 harg8 arg9 harg9 x5 x6 x7 _ _)
  funext a
  apply Fin.ext
  match a with
  | ⟨0, _⟩ => show 128 * s.val + 1 * c.val = 128 * s.val + c.val; omega
  | ⟨1, _⟩ => show 256 * j.val + 1 * d.val = 256 * j.val + d.val; omega

end Cert.AttnBlock
end
-- ==== Proof.AttnOut.lean ====
module

public import proofs.«01_k».proof.Proof.AttnBlock
public import proofs.«01_k».proof.Proof.Gen.KernelIdeal.Value
public import Idealize.ShloMosaic.Lib.WholeRead

/-! The attention kernel's block of results read at an element: the tile that its store holds there. -/

@[expose] public section

set_option maxRecDepth 16384

noncomputable section

namespace Cert.AttnOut

open Idealize.ShloMosaic Idealize.ShloMosaic.TcCoe Idealize.SL.Sem Cert.KernelIdeal Cert.KernelIdeal.Gen Cert.AttnTile Cert.AttnMask Cert.AttnPieces

/-- An element that exactly one of several stores covers reads that store's element. -/
theorem read_piece {sig : RefSig} {κ : Kind} {sp : Space} {s : Shape} {e : EltTy} (v : View sig κ sp s e) (f : v.ty.Contents (Elt Ideal)) (L : List (View.Piece (Elt Ideal) s e))
    (p : View.Piece (Elt Ideal) s e) (x : p.1.shape.Idx) (y : s.Idx) (hy : y = p.1.emb x) (hp : p ∈ L) (hu : ∀ q ∈ L, y ∈ q.1.set → q = p) :
    v.read (Elt Ideal) (v.writes (Elt Ideal) f L) y = p.2 x := by
  subst hy
  exact View.read_writes_of_unique v f p x L hp hu

variable (c : Dev nD) (i : grid0.Coords) (arg2 : Memref sig .tc .smem S8 .f32) (harg2 : arg2.IsWhole) (arg3 : Memref sig .tc .vmem S1x1024x1024 .bf16) (harg3 : arg3.IsWhole) (arg4 : Memref sig .tc .vmem S1x128x256 .bf16) (harg4 : arg4.IsWhole) (arg5 : Memref sig .tc .vmem S1x1024x256 .bf16) (harg5 : arg5.IsWhole) (arg6 : Memref sig .tc .vmem S1x128x256 .bf16) (harg6 : arg6.IsWhole) (arg7 : Memref sig .tc .vmem S1x128x512 .bf16) (harg7 : arg7.IsWhole) (arg8 : Memref sig .tc .vmem S1x1024x512 .bf16) (harg8 : arg8.IsWhole) (arg9 : Memref sig .tc .vmem S1x128x512 .bf16) (harg9 : arg9.IsWhole) (arg10 : Memref sig .tc .vmem S1x256x256 .bf16) (harg10 : arg10.IsWhole) (arg11 : Memref sig .tc .vmem S1x256x512 .bf16) (harg11 : arg11.IsWhole) (arg12 : Memref sig .tc .vmem S1x1024x512 .f32) (harg12 : arg12.IsWhole) (arg13 : Memref sig .tc .vmem S1280x256 .bf16) (harg13 : arg13.IsWhole) (arg14 : Memref sig .tc .vmem S1280x512 .bf16) (harg14 : arg14.IsWhole)
  (x0 : Vec Ideal S8 .f32) (x1 : Vec Ideal S1x1024x1024 .bf16) (x2 : Vec Ideal S1x128x256 .bf16) (x3 : Vec Ideal S1x1024x256 .bf16) (x4 : Vec Ideal S1x128x256 .bf16) (x5 : Vec Ideal S1x128x512 .bf16) (x6 : Vec Ideal S1x1024x512 .bf16) (x7 : Vec Ideal S1x128x512 .bf16) (x8 : Vec Ideal S1x256x256 .bf16) (x9 : Vec Ideal S1x256x512 .bf16)

variable (s : Fin 8) (j : Fin 2)

/-- The stores by block and pair of heads. -/
theorem pieces_eq : pieces i arg2 harg2 arg3 harg3 arg4 harg4 arg5 harg5 arg6 harg6 arg7 harg7 arg8 harg8 arg9 harg9 arg10 harg10 arg11 harg11 arg13 arg14 x0 x1 x2 x3 x4 x5 x6 x7 x8 x9 = ([7, 6, 5, 4, 3, 2, 1, 0] : List (Fin 8)).flatMap fun s => ([3, 2, 1, 0] : List (Fin 4)).map fun p => piece i arg2 harg2 arg3 harg3 arg4 harg4 arg5 harg5 arg6 harg6 arg7 harg7 arg8 harg8 arg9 harg9 arg10 harg10 arg11 harg11 arg13 arg14 x0 x1 x2 x3 x4 x5 x6 x7 x8 x9 s p := rfl

/-- The store of a block and a pair of heads is one of the stores. -/
theorem piece_mem (p : Fin 4) : piece i arg2 harg2 arg3 harg3 arg4 harg4 arg5 harg5 arg6 harg6 arg7 harg7 arg8 harg8 arg9 harg9 arg10 harg10 arg11 harg11 arg13 arg14 x0 x1 x2 x3 x4 x5 x6 x7 x8 x9 s p ∈ pieces i arg2 harg2 arg3 harg3 arg4 harg4 arg5 harg5 arg6 harg6 arg7 harg7 arg8 harg8 arg9 harg9 arg10 harg10 arg11 harg11 arg13 arg14 x0 x1 x2 x3 x4 x5 x6 x7 x8 x9 := by
  rw [pieces_eq]
  exact List.mem_flatMap.2 ⟨s, by revert s; decide, List.mem_map.2 ⟨p, by revert p; decide, rfl⟩⟩

/-- Every store is that of a block and a pair of heads. -/
theorem mem_pieces (q : View.Piece (Elt Ideal) S1x1024x512 .f32) (h : q ∈ pieces i arg2 harg2 arg3 harg3 arg4 harg4 arg5 harg5 arg6 harg6 arg7 harg7 arg8 harg8 arg9 harg9 arg10 harg10 arg11 harg11 arg13 arg14 x0 x1 x2 x3 x4 x5 x6 x7 x8 x9) : ∃ s p, q = piece i arg2 harg2 arg3 harg3 arg4 harg4 arg5 harg5 arg6 harg6 arg7 harg7 arg8 harg8 arg9 harg9 arg10 harg10 arg11 harg11 arg13 arg14 x0 x1 x2 x3 x4 x5 x6 x7 x8 x9 s p := by
  rw [pieces_eq] at h
  obtain ⟨s, -, h⟩ := List.mem_flatMap.1 h
  obtain ⟨p, -, h⟩ := List.mem_map.1 h
  exact ⟨s, p, h.symm⟩

/-- The result's block at an element of a store is that store's element. -/
theorem out_piece (p : Fin 4) (r l : Fin 128) : (out0_A_10 c i arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7 x8 x9 (ix3 0 ⟨128 * s.val + r.val, by omega⟩ ⟨128 * p.val + l.val, by omega⟩) : EReal)
    = (piece i arg2 harg2 arg3 harg3 arg4 harg4 arg5 harg5 arg6 harg6 arg7 harg7 arg8 harg8 arg9 harg9 arg10 harg10 arg11 harg11 arg13 arg14 x0 x1 x2 x3 x4 x5 x6 x7 x8 x9 s p).2 (ix3 0 r l) := by
  have e : (ix3 0 ⟨128 * s.val + r.val, by omega⟩ ⟨128 * p.val + l.val, by omega⟩ : S1x1024x512.Idx) = (piece i arg2 harg2 arg3 harg3 arg4 harg4 arg5 harg5 arg6 harg6 arg7 harg7 arg8 harg8 arg9 harg9 arg10 harg10 arg11 harg11 arg13 arg14 x0 x1 x2 x3 x4 x5 x6 x7 x8 x9 s p).1.emb (ix3 0 r l) := by
    funext a
    apply Fin.ext
    match a with
    | ⟨0, _⟩ => rfl
    | ⟨1, _⟩ => show 128 * s.val + r.val = 128 * s.val + 1 * r.val; omega
    | ⟨2, _⟩ => show 128 * p.val + l.val = 128 * p.val + 1 * l.val; omega
  unfold out0_A_10
  rw [run_pieces]
  refine read_piece _ _ _ (piece i arg2 harg2 arg3 harg3 arg4 harg4 arg5 harg5 arg6 harg6 arg7 harg7 arg8 harg8 arg9 harg9 arg10 harg10 arg11 harg11 arg13 arg14 x0 x1 x2 x3 x4 x5 x6 x7 x8 x9 s p) (ix3 0 r l) _ e (piece_mem i arg2 harg2 arg3 harg3 arg4 harg4 arg5 harg5 arg6 harg6 arg7 harg7 arg8 harg8 arg9 harg9 arg10 harg10 arg11 harg11 arg13 arg14 x0 x1 x2 x3 x4 x5 x6 x7 x8 x9 s p) fun q hq hm => ?_
  obtain ⟨s', p', rfl⟩ := mem_pieces i arg2 harg2 arg3 harg3 arg4 harg4 arg5 harg5 arg6 harg6 arg7 harg7 arg8 harg8 arg9 harg9 arg10 harg10 arg11 harg11 arg13 arg14 x0 x1 x2 x3 x4 x5 x6 x7 x8 x9 q hq
  have h1 : 128 * s'.val ≤ 128 * s.val + r.val ∧ 128 * s.val + r.val < 128 * s'.val + 128 := (Rect.mem_set_unit (inb := inb_o s' p')).1 hm 1
  have h2 : 128 * p'.val ≤ 128 * p.val + l.val ∧ 128 * p.val + l.val < 128 * p'.val + 128 := (Rect.mem_set_unit (inb := inb_o s' p')).1 hm 2
  have es : s' = s := Fin.ext (by omega)
  have ep : p' = p := Fin.ext (by omega)
  rw [es, ep]

/-- The store of a head's pair is the head's tile. -/
theorem piece_tile (g : Fin 4) : (piece i arg2 harg2 arg3 harg3 arg4 harg4 arg5 harg5 arg6 harg6 arg7 harg7 arg8 harg8 arg9 harg9 arg10 harg10 arg11 harg11 arg13 arg14 x0 x1 x2 x3 x4 x5 x6 x7 x8 x9 s ⟨2 * j.val + g.val / 2, by omega⟩).2
    = tile (inp i arg2 harg2 arg3 harg3 arg4 harg4 arg5 harg5 arg6 harg6 arg10 harg10 arg13 x0 x1 x2 x3 x4 x8 s j) (inpVw arg7 harg7 arg8 harg8 arg9 harg9 arg14 x5 x6 x7 s j) (inpVx arg11 harg11 x9 j) g := by
  fin_cases j <;> fin_cases g <;> rfl

/-- The result's block at a row and a head's lane. -/
theorem out_at (g : Fin 4) (r : Fin 128) (d : Fin 64) :
    (out0_A_10 c i arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7 x8 x9 (ix3 0 ⟨128 * s.val + r.val, by omega⟩ ⟨256 * j.val + 64 * g.val + d.val, by omega⟩) : EReal)
    = tile (inp i arg2 harg2 arg3 harg3 arg4 harg4 arg5 harg5 arg6 harg6 arg10 harg10 arg13 x0 x1 x2 x3 x4 x8 s j) (inpVw arg7 harg7 arg8 harg8 arg9 harg9 arg14 x5 x6 x7 s j) (inpVx arg11 harg11 x9 j) g (ix3 0 r ⟨64 * (g.val % 2) + d.val, by omega⟩) := by
  rw [← piece_tile i arg2 harg2 arg3 harg3 arg4 harg4 arg5 harg5 arg6 harg6 arg7 harg7 arg8 harg8 arg9 harg9 arg10 harg10 arg11 harg11 arg13 arg14 x0 x1 x2 x3 x4 x5 x6 x7 x8 x9 s j g]
  refine Eq.trans ?_ (out_piece c i arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7 x8 x9 s ⟨2 * j.val + g.val / 2, by omega⟩ r ⟨64 * (g.val % 2) + d.val, by omega⟩)
  congr 2
  exact Fin.ext (by simp only; omega)

end Cert.AttnOut
end
-- ==== Proof.AttnRow.lean ====
module

public import proofs.«01_k».proof.Proof.AttnOut

/-! A block of the attention kernel's results from windows that hold the packed arrays' rows: the windowed attention of
its rows. -/

@[expose] public section

set_option maxRecDepth 16384

noncomputable section

namespace Cert.AttnRow

open Idealize.ShloMosaic Idealize.ShloMosaic.TcCoe Idealize.SL.Sem Cert.KernelIdeal Cert.KernelIdeal.Gen Cert.Attn Cert.AttnTile Cert.AttnMask Cert.AttnPieces Cert.AttnBlock Cert.AttnOut

/-- The scores of a query that fills one half of the lanes against keys that fill both. -/
theorem half_sum (h : Nat) (hh : h < 2) (a k : Fin 64 → EReal) (s : EReal) (hs : 0 ≤ s) (ht : s ≠ ⊤) :
    ∑ l : Fin 128, (if h = l.val / 64 then a ⟨l.val % 64, by omega⟩ * s else 0) * k ⟨l.val % 64, by omega⟩ = (∑ d, k d * a d) * s := by
  have e : ∀ f : Fin (64 + 64) → EReal, ∑ l : Fin 128, f l = ∑ d : Fin 64, f (Fin.castAdd 64 d) + ∑ d : Fin 64, f (Fin.natAdd 64 d) :=
    fun f => Fin.sum_univ_add f
  have lo : ∀ d : Fin 64, ((Fin.castAdd 64 d : Fin (64 + 64)).val / 64 = 0) ∧ ((Fin.castAdd 64 d : Fin (64 + 64)).val % 64 = d.val) := fun d => by
    have := d.isLt
    simp only [Fin.val_castAdd]
    omega
  have hi : ∀ d : Fin 64, ((Fin.natAdd 64 d : Fin (64 + 64)).val / 64 = 1) ∧ ((Fin.natAdd 64 d : Fin (64 + 64)).val % 64 = d.val) := fun d => by
    have := d.isLt
    simp only [Fin.val_natAdd]
    omega
  rw [← sum_mul_of_nonneg _ _ hs ht]
  refine (e _).trans ?_
  have hc : h = 0 ∨ h = 1 := by omega
  rcases hc with rfl | rfl
  · rw [Finset.sum_eq_zero (s := Finset.univ) (f := fun d : Fin 64 => (if 0 = (Fin.natAdd 64 d : Fin (64 + 64)).val / 64 then a ⟨(Fin.natAdd 64 d : Fin (64 + 64)).val % 64, by omega⟩ * s else 0) * k ⟨(Fin.natAdd 64 d : Fin (64 + 64)).val % 64, by omega⟩)
      (fun d _ => by rw [if_neg (by rw [(hi d).1]; decide), zero_mul]), add_zero]
    refine Finset.sum_congr rfl fun d _ => ?_
    have ed : (⟨(Fin.castAdd 64 d : Fin (64 + 64)).val % 64, by omega⟩ : Fin 64) = d := Fin.ext (lo d).2
    rw [if_pos (lo d).1.symm, ed]
    exact (mul_comm _ _).trans (mul_assoc _ _ _).symm
  · rw [Finset.sum_eq_zero (s := Finset.univ) (f := fun d : Fin 64 => (if 1 = (Fin.castAdd 64 d : Fin (64 + 64)).val / 64 then a ⟨(Fin.castAdd 64 d : Fin (64 + 64)).val % 64, by omega⟩ * s else 0) * k ⟨(Fin.castAdd 64 d : Fin (64 + 64)).val % 64, by omega⟩)
      (fun d _ => by rw [if_neg (by rw [(lo d).1]; decide), zero_mul]), zero_add]
    refine Finset.sum_congr rfl fun d _ => ?_
    have ed : (⟨(Fin.natAdd 64 d : Fin (64 + 64)).val % 64, by omega⟩ : Fin 64) = d := Fin.ext (hi d).2
    rw [if_pos (hi d).1.symm, ed]
    exact (mul_comm _ _).trans (mul_assoc _ _ _).symm

/-- The scale the kernel's host code gives the queries is a nonnegative number. -/
theorem scale_nonneg : (0 : EReal) ≤ scale * Attn.κ := by
  rw [← EReal.coe_mul]
  exact EReal.coe_nonneg.mpr (mul_nonneg (by norm_num) κ_pos.le)

/-- The scale the kernel's host code gives the queries is finite. -/
theorem scale_ne_top : scale * Attn.κ ≠ ⊤ := by
  rw [← EReal.coe_mul]
  exact EReal.coe_ne_top _

/-- An element of the packed values: the value, or one in the columns that count the weights. -/
def packed (X : (⟨4, ![4, 4096, 2, 64]⟩ : Shape).Idx → EReal) (b : Fin 4) (R : Fin 4096) (C : Fin 512) : EReal :=
  if C.val / 128 % 2 = C.val / 64 % 2 then X (ix4 b R ⟨C.val / 256, by omega⟩ ⟨C.val % 64, by omega⟩) else 1

/-- A block's number as a word. -/
theorem word_eq : ∀ s : Fin 8, word s = BitVec.ofNat 32 s.val := by decide

/-- The windows of a grid point hold the packed arguments' rows. -/
structure Blk (A : Args) (b N : Fin 4) (x0 : S8.Idx → EReal) (x1 : S1x1024x1024.Idx → EReal) (x2 : S1x128x256.Idx → EReal)
    (x3 : S1x1024x256.Idx → EReal) (x4 : S1x128x256.Idx → EReal) (x5 : S1x128x512.Idx → EReal) (x6 : S1x1024x512.Idx → EReal)
    (x7 : S1x128x512.Idx → EReal) (x8 : S1x256x256.Idx → EReal) (x9 : S1x256x512.Idx → EReal) : Prop where
  s : ∀ h, x0 (ix1 h) = A.sink (ix1 h)
  q : ∀ (R : Fin 1024) (h : Fin 8) (l : Fin 128), x1 (ix3 0 R ⟨128 * h.val + l.val, by omega⟩)
    = if h.val % 2 = l.val / 64 then A.q (ix4 b ⟨1024 * N.val + R.val, by omega⟩ h ⟨l.val % 64, by omega⟩) * (scale * Attn.κ) else 0
  kp : ∀ (R : Fin 128) (j : Fin 2) (l : Fin 128), x2 (ix3 0 R ⟨128 * j.val + l.val, by omega⟩)
    = A.k (ix4 b ⟨128 * (8 * N.val - 1) + R.val, by omega⟩ j ⟨l.val % 64, by omega⟩)
  kc : ∀ (R : Fin 1024) (j : Fin 2) (l : Fin 128), x3 (ix3 0 R ⟨128 * j.val + l.val, by omega⟩)
    = A.k (ix4 b ⟨1024 * N.val + R.val, by omega⟩ j ⟨l.val % 64, by omega⟩)
  kn : ∀ (R : Fin 128) (j : Fin 2) (l : Fin 128), x4 (ix3 0 R ⟨128 * j.val + l.val, by omega⟩)
    = A.k (ix4 b ⟨128 * min (8 * N.val + 8) 31 + R.val, by omega⟩ j ⟨l.val % 64, by omega⟩)
  vp : ∀ (R : Fin 128) (C : Fin 512), x5 (ix3 0 R C) = packed A.v b ⟨128 * (8 * N.val - 1) + R.val, by omega⟩ C
  vc : ∀ (R : Fin 1024) (C : Fin 512), x6 (ix3 0 R C) = packed A.v b ⟨1024 * N.val + R.val, by omega⟩ C
  vn : ∀ (R : Fin 128) (C : Fin 512), x7 (ix3 0 R C) = packed A.v b ⟨128 * min (8 * N.val + 8) 31 + R.val, by omega⟩ C
  kx : ∀ (R : Fin 256) (j : Fin 2) (l : Fin 128), x8 (ix3 0 R ⟨128 * j.val + l.val, by omega⟩) = A.kc (ix4 b R j ⟨l.val % 64, by omega⟩)
  vx : ∀ (R : Fin 256) (C : Fin 512), x9 (ix3 0 R C)
    = if C.val / 128 % 2 = C.val / 64 % 2 then A.vc (ix4 b R ⟨C.val / 256, by omega⟩ ⟨C.val % 64, by omega⟩) else 1

variable (c : Dev nD) (i : grid0.Coords) (arg2 : Memref sig .tc .smem S8 .f32) (harg2 : arg2.IsWhole) (arg3 : Memref sig .tc .vmem S1x1024x1024 .bf16) (harg3 : arg3.IsWhole) (arg4 : Memref sig .tc .vmem S1x128x256 .bf16) (harg4 : arg4.IsWhole) (arg5 : Memref sig .tc .vmem S1x1024x256 .bf16) (harg5 : arg5.IsWhole) (arg6 : Memref sig .tc .vmem S1x128x256 .bf16) (harg6 : arg6.IsWhole) (arg7 : Memref sig .tc .vmem S1x128x512 .bf16) (harg7 : arg7.IsWhole) (arg8 : Memref sig .tc .vmem S1x1024x512 .bf16) (harg8 : arg8.IsWhole) (arg9 : Memref sig .tc .vmem S1x128x512 .bf16) (harg9 : arg9.IsWhole) (arg10 : Memref sig .tc .vmem S1x256x256 .bf16) (harg10 : arg10.IsWhole) (arg11 : Memref sig .tc .vmem S1x256x512 .bf16) (harg11 : arg11.IsWhole) (arg12 : Memref sig .tc .vmem S1x1024x512 .f32) (harg12 : arg12.IsWhole) (arg13 : Memref sig .tc .vmem S1280x256 .bf16) (harg13 : arg13.IsWhole) (arg14 : Memref sig .tc .vmem S1280x512 .bf16) (harg14 : arg14.IsWhole)
  (x0 : Vec Ideal S8 .f32) (x1 : Vec Ideal S1x1024x1024 .bf16) (x2 : Vec Ideal S1x128x256 .bf16) (x3 : Vec Ideal S1x1024x256 .bf16) (x4 : Vec Ideal S1x128x256 .bf16) (x5 : Vec Ideal S1x128x512 .bf16) (x6 : Vec Ideal S1x1024x512 .bf16) (x7 : Vec Ideal S1x128x512 .bf16) (x8 : Vec Ideal S1x256x256 .bf16) (x9 : Vec Ideal S1x256x512 .bf16)

variable {x0 x1 x2 x3 x4 x5 x6 x7 x8 x9} {A : Args} {b N : Fin 4}
  (B : Blk A b N x0 x1 x2 x3 x4 x5 x6 x7 x8 x9) (s : Fin 8) (j : Fin 2) (g : Fin 4) (r : Fin 128) (d : Fin 64)

/-- The number of the block of rows. -/
abbrev blkN (N : Fin 4) (s : Fin 8) : Fin 32 := ⟨8 * N.val + s.val, by omega⟩

include B

/-- The keys of the three blocks about a block of rows. -/
theorem keys_at (cc : Fin 384) (l : Fin 128) (hc : 128 ≤ 128 * (blkN N s).val + cc.val ∧ 128 * (blkN N s).val + cc.val < 4224) :
    row3 x2 x3 x4 ⟨128 * s.val + cc.val, by omega⟩ ⟨128 * j.val + l.val, by omega⟩ = rowAt b (blkN N s) j A.k cc ⟨l.val % 64, by omega⟩ := by
  have hc' : 128 ≤ 128 * (8 * N.val + s.val) + cc.val ∧ 128 * (8 * N.val + s.val) + cc.val < 4224 := hc
  have hN := N.isLt
  unfold row3 rowAt
  rw [dif_pos hc]
  split_ifs with h1 h2
  · have h1' : 128 * s.val + cc.val < 128 := h1
    refine (B.kp _ j l).trans (congrArg (fun z => A.k (ix4 b z j _)) (Fin.ext ?_))
    show 128 * (8 * N.val - 1) + (128 * s.val + cc.val) = 128 * (8 * N.val + s.val) + cc.val - 128
    omega
  · have h1' : ¬ 128 * s.val + cc.val < 128 := h1
    refine (B.kc _ j l).trans (congrArg (fun z => A.k (ix4 b z j _)) (Fin.ext ?_))
    show 1024 * N.val + (128 * s.val + cc.val - 128) = 128 * (8 * N.val + s.val) + cc.val - 128
    omega
  · have h1' : ¬ 128 * s.val + cc.val < 1152 := h2
    refine (B.kn _ j l).trans (congrArg (fun z => A.k (ix4 b z j _)) (Fin.ext ?_))
    show 128 * min (8 * N.val + 8) 31 + (128 * s.val + cc.val - 1152) = 128 * (8 * N.val + s.val) + cc.val - 128
    omega

/-- The values' rows of the three blocks about a block of rows. -/
theorem vals_row (R : Fin 1280) (C : Fin 512) : ∃ R' : Fin 4096, row3 x5 x6 x7 R C = packed A.v b R' C
    ∧ (128 ≤ 1024 * N.val + R.val → 1024 * N.val + R.val < 4224 → R'.val = 1024 * N.val + R.val - 128) := by
  have hN := N.isLt
  unfold row3
  split_ifs with h1 h2
  · exact ⟨_, B.vp _ C, fun _ _ => by show 128 * (8 * N.val - 1) + R.val = _; omega⟩
  · exact ⟨_, B.vc _ C, fun _ _ => by show 1024 * N.val + (R.val - 128) = _; omega⟩
  · exact ⟨_, B.vn _ C, fun _ _ => by show 128 * min (8 * N.val + 8) 31 + (R.val - 1152) = _; omega⟩

/-- The values of the three blocks about a block of rows. -/
theorem vals_at (cc : Fin 384) (hc : 128 ≤ 128 * (blkN N s).val + cc.val ∧ 128 * (blkN N s).val + cc.val < 4224) :
    row3 x5 x6 x7 ⟨128 * s.val + cc.val, by omega⟩ ⟨256 * j.val + (numCol g d).val, by omega⟩ = rowAt b (blkN N s) j A.v cc d := by
  have hc' : 128 ≤ 128 * (8 * N.val + s.val) + cc.val ∧ 128 * (8 * N.val + s.val) + cc.val < 4224 := hc
  obtain ⟨R', e, hR⟩ := vals_row B ⟨128 * s.val + cc.val, by omega⟩ ⟨256 * j.val + (numCol g d).val, by omega⟩
  have hR' : R'.val = 1024 * N.val + (128 * s.val + cc.val) - 128 := hR (by show 128 ≤ 1024 * N.val + (128 * s.val + cc.val); omega) (by show 1024 * N.val + (128 * s.val + cc.val) < 4224; omega)
  have hcol : (numCol g d).val = 192 * (g.val % 2) + d.val := rfl
  have hg : g.val % 2 = 0 ∨ g.val % 2 = 1 := by omega
  refine e.trans ?_
  unfold packed rowAt
  rw [dif_pos hc, if_pos (by show (256 * j.val + (numCol g d).val) / 128 % 2 = (256 * j.val + (numCol g d).val) / 64 % 2; rcases hg with hg | hg <;> omega)]
  have e1 : R' = ⟨128 * (blkN N s).val + cc.val - 128, by omega⟩ := Fin.ext (by show R'.val = 128 * (8 * N.val + s.val) + cc.val - 128; omega)
  have e2 : (⟨(256 * j.val + (numCol g d).val) / 256, by omega⟩ : Fin 2) = j := Fin.ext (by show (256 * j.val + (numCol g d).val) / 256 = j.val; omega)
  have e3 : (⟨(256 * j.val + (numCol g d).val) % 64, by omega⟩ : Fin 64) = d := Fin.ext (by show (256 * j.val + (numCol g d).val) % 64 = d.val; omega)
  rw [e1]
  exact congrArg₂ (fun u v => A.v (ix4 b _ u v)) e2 e3

/-- The columns that count the weights hold ones. -/
theorem ones_at (cc : Fin 384) : row3 x5 x6 x7 ⟨128 * s.val + cc.val, by omega⟩ ⟨256 * j.val + (denCol g d).val, by omega⟩ = 1 := by
  obtain ⟨R', e, -⟩ := vals_row B ⟨128 * s.val + cc.val, by omega⟩ ⟨256 * j.val + (denCol g d).val, by omega⟩
  have hcol : (denCol g d).val = 64 + 64 * (g.val % 2) + d.val := rfl
  refine e.trans ?_
  unfold packed
  rw [if_neg (by show ¬ (256 * j.val + (denCol g d).val) / 128 % 2 = (256 * j.val + (denCol g d).val) / 64 % 2; omega)]

/-- The context's values. -/
theorem valx_at (cc : Fin 256) : x9 (ix3 0 cc ⟨256 * j.val + (numCol g d).val, by omega⟩) = A.vc (ix4 b cc j d) := by
  have hcol : (numCol g d).val = 192 * (g.val % 2) + d.val := rfl
  have hg : g.val % 2 = 0 ∨ g.val % 2 = 1 := by omega
  refine (B.vx _ _).trans ?_
  rw [if_pos (by show (256 * j.val + (numCol g d).val) / 128 % 2 = (256 * j.val + (numCol g d).val) / 64 % 2; rcases hg with hg | hg <;> omega)]
  have e2 : (⟨(256 * j.val + (numCol g d).val) / 256, by omega⟩ : Fin 2) = j := Fin.ext (by show (256 * j.val + (numCol g d).val) / 256 = j.val; omega)
  have e3 : (⟨(256 * j.val + (numCol g d).val) % 64, by omega⟩ : Fin 64) = d := Fin.ext (by show (256 * j.val + (numCol g d).val) % 64 = d.val; omega)
  exact congrArg₂ (fun u v => A.vc (ix4 b _ u v)) e2 e3

/-- The context's columns that count the weights hold ones. -/
theorem onesx_at (cc : Fin 256) : x9 (ix3 0 cc ⟨256 * j.val + (denCol g d).val, by omega⟩) = 1 := by
  have hcol : (denCol g d).val = 64 + 64 * (g.val % 2) + d.val := rfl
  refine (B.vx _ _).trans ?_
  rw [if_neg (by show ¬ (256 * j.val + (denCol g d).val) / 128 % 2 = (256 * j.val + (denCol g d).val) / 64 % 2; omega)]

/-- A query's packed lanes. -/
theorem query_at (l : Fin 128) : x1 (ix3 0 ⟨128 * s.val + r.val, by omega⟩ ⟨128 * (4 * j.val + g.val) + l.val, by omega⟩)
    = if g.val % 2 = l.val / 64 then qAt A b (blkN N s) r j g ⟨l.val % 64, by omega⟩ * (scale * Attn.κ) else 0 := by
  refine (B.q ⟨128 * s.val + r.val, by omega⟩ ⟨4 * j.val + g.val, by omega⟩ l).trans ?_
  have hg : (4 * j.val + g.val) % 2 = g.val % 2 := by omega
  have e : (⟨1024 * N.val + (128 * s.val + r.val), by omega⟩ : Fin 4096) = ⟨128 * (blkN N s).val + r.val, by omega⟩ :=
    Fin.ext (by show 1024 * N.val + (128 * s.val + r.val) = 128 * (8 * N.val + s.val) + r.val; omega)
  show (if (4 * j.val + g.val) % 2 = l.val / 64 then A.q (ix4 b ⟨1024 * N.val + (128 * s.val + r.val), by omega⟩ _ _) * (scale * Attn.κ) else 0) = _
  rw [hg, e]
  rfl

/-- The context's scores, scaled. -/
theorem sx_eq : sx (inp i arg2 harg2 arg3 harg3 arg4 harg4 arg5 harg5 arg6 harg6 arg10 harg10 arg13 x0 x1 x2 x3 x4 x8 s j) g r = fun cc => ctxScore A b (blkN N s) r j g cc * Attn.κ := by
  funext cc
  unfold sx ctxScore
  rw [mul_assoc, ← half_sum (g.val % 2) (by omega) (qAt A b (blkN N s) r j g) (fun d => A.kc (ix4 b cc j d)) _ scale_nonneg scale_ne_top]
  refine Finset.sum_congr rfl fun l _ => ?_
  refine congrArg₂ (fun u v : EReal => u * v) ((AttnBlock.q_at i arg2 harg2 arg3 harg3 arg4 harg4 arg5 harg5 arg6 harg6 arg10 harg10 arg13 x0 x1 x2 x3 x4 x8 s j g r l).trans (query_at B s j g r l)) ?_
  exact (AttnBlock.kx_at i arg2 harg2 arg3 harg3 arg4 harg4 arg5 harg5 arg6 harg6 arg10 harg10 arg13 x0 x1 x2 x3 x4 x8 s j cc l).trans (B.kx cc j l)

/-- The three blocks' scores, scaled. -/
theorem sl_eq (hi : (i 1).val = N.val) : sl (inp i arg2 harg2 arg3 harg3 arg4 harg4 arg5 harg5 arg6 harg6 arg10 harg10 arg13 x0 x1 x2 x3 x4 x8 s j) g r = fun cc => locScore A b (blkN N s) r j g cc * Attn.κ := by
  funext cc
  have hw : word s = BitVec.ofNat 32 s.val := word_eq s
  have hv : (inp i arg2 harg2 arg3 harg3 arg4 harg4 arg5 harg5 arg6 harg6 arg10 harg10 arg13 x0 x1 x2 x3 x4 x8 s j).valid (ix3 0 r cc) = BitVec.ofBool (decide (near (blkN N s) r cc)) := by
    dsimp only [inp]
    exact (congrArg₂ (fun u v => valid u v (ix3 0 r cc)) (congrArg (BitVec.ofNat 32) hi) hw).trans (valid_at N s r cc)
  unfold sl locScore
  rw [hv]
  by_cases hn : near (blkN N s) r cc
  · rw [decide_eq_true hn, if_pos (by decide), if_pos hn]
    rw [mul_assoc, ← half_sum (g.val % 2) (by omega) (qAt A b (blkN N s) r j g) (fun d => rowAt b (blkN N s) j A.k cc d) _ scale_nonneg scale_ne_top]
    refine Finset.sum_congr rfl fun l _ => ?_
    refine congrArg₂ (fun u v : EReal => u * v) ((AttnBlock.q_at i arg2 harg2 arg3 harg3 arg4 harg4 arg5 harg5 arg6 harg6 arg10 harg10 arg13 x0 x1 x2 x3 x4 x8 s j g r l).trans (query_at B s j g r l)) ?_
    exact (AttnBlock.kw_at i arg2 harg2 arg3 harg3 arg4 harg4 arg5 harg5 arg6 harg6 arg10 harg10 arg13 x0 x1 x2 x3 x4 x8 s j cc l).trans (keys_at B s j cc l hn.2)
  · rw [decide_eq_false hn, if_neg (by decide), if_neg hn, EReal.bot_mul_coe_of_pos κ_pos]

/-- An element of the kernel's block of results is the windowed attention there. -/
theorem out_res (hA : Fin' A) (hi : (i 1).val = N.val) :
    (out0_A_10 c i arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7 x8 x9 (ix3 0 ⟨128 * s.val + r.val, by omega⟩ ⟨256 * j.val + 64 * g.val + d.val, by omega⟩) : EReal)
    = res A b (blkN N s) r j g d := by
  refine (out_at c i arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7 x8 x9 s j g r d).trans ?_
  refine (tile_at (inp i arg2 harg2 arg3 harg3 arg4 harg4 arg5 harg5 arg6 harg6 arg10 harg10 arg13 x0 x1 x2 x3 x4 x8 s j) (inpVw arg7 harg7 arg8 harg8 arg9 harg9 arg14 x5 x6 x7 s j) (inpVx arg11 harg11 x9 j) g r d
    (fun cc => (vw_at arg7 harg7 arg8 harg8 arg9 harg9 arg14 x5 x6 x7 s j cc _).trans (ones_at B s j g d cc))
    (fun cc => (vx_at arg11 harg11 x9 j cc _).trans (onesx_at B j g d cc))).trans ?_
  rw [sl_eq (B := B) (hi := hi), sx_eq (B := B), AttnBlock.s_at, B.s]
  have hvx : (fun cc => ((inpVx arg11 harg11 x9 j) (ix3 0 cc (numCol g d)) : EReal)) = fun cc => A.vc (ix4 b cc j d) :=
    funext fun cc => (vx_at arg11 harg11 x9 j cc _).trans (valx_at B j g d cc)
  unfold res
  refine (congrArg (fun w => outK _ _ _ _ w) hvx).trans ?_
  refine outK_eq (locScore A b (blkN N s) r j g) (ctxScore A b (blkN N s) r j g) (sinkAt A j g) (fun cc => rowAt b (blkN N s) j A.v cc d) _ _
    (locScore_ne_top _ _ _ _ _ hA) (ctxScore_ne_top _ _ _ _ _ hA) (hA.sink _).1 (hA.sink _).2 fun cc hcc => ?_
  have hn : near (blkN N s) r cc := by
    by_contra hn
    exact hcc (if_neg hn)
  exact (vw_at arg7 harg7 arg8 harg8 arg9 harg9 arg14 x5 x6 x7 s j cc _).trans (vals_at B s j g d cc hn.2)

end Cert.AttnRow

end
-- ==== Proof.AttnHost.lean ====
module

public import proofs.«01_k».proof.Proof.AttnSpec
public import proofs.«01_k».proof.Proof.Gen.KernelIdeal.Value
public import Idealize.ShloMosaic.Lib.StableHlo.ReadAt

/-! The arrays the attention kernel's host code packs, read at an element from the arguments. -/

@[expose] public section

set_option maxRecDepth 16384

noncomputable section

namespace Cert.AttnHost

open Idealize.ShloMosaic Idealize.ShloMosaic.TcCoe Idealize.SL.Sem Cert.KernelIdeal Cert.KernelIdeal.Gen Cert.Attn Idealize.ShloMosaic.StableHlo

/-- The host code's lines. -/
abbrev line : List (HloOp τ sig (Elt Ideal)) :=
  List.flatten [hostOps0, hostOps0_1, hostOps0_2, hostOps0_3, hostOps0_4, hostOps0_5, hostOps0_6, hostOps0_7, hostOps0_8]

variable (W : Valuation τ sig (Elt Ideal)) (b : Fin 4)

/-- A choice by a word that holds a condition. -/
theorem sel_if {α : Type} (p : Prop) [Decidable p] (w : BitVec 1) (h : w = BitVec.ofBool (decide p)) (x y : α) :
    Scalar.select w x y = if p then x else y := by
  subst h
  by_cases hp : p
  · rw [decide_eq_true hp, if_pos hp]; rfl
  · rw [decide_eq_false hp, if_neg hp]; rfl

/-- Two bits compared as words. -/
theorem bits_eq : ∀ a b : Fin 2, IntOp.cmpi .eq (BitVec.ofNat 32 a.val) (BitVec.ofNat 32 b.val) = BitVec.ofBool (decide (a.val = b.val)) := by decide

/-- One, as the program writes it. -/
theorem one_eq : Ideal.ofBits .f32 1065353216#32 = 1 := by
  simp [Ideal.ofBits, Ideal.ieee, -EReal.coe_mul]; norm_num

/-- Two, as the program writes it. -/
theorem two_eq : Ideal.ofBits .f32 1073741824#32 = ((2 : ℝ) : EReal) := by
  simp [Ideal.ofBits, Ideal.ieee, -EReal.coe_mul]; norm_num

/-- The scale, as the program writes it. -/
theorem scale_eq : Ideal.ofBits .f32 1040187392#32 = scale := by
  unfold scale
  simp [Ideal.ofBits, Ideal.ieee, -EReal.coe_mul]; norm_num

/-- The host's quotient of the scale by the logarithm of two. -/
theorem quot_eq : Ideal.div (Ideal.ofBits .f32 1040187392#32) (Ideal.log (Ideal.ofBits .f32 1073741824#32)) = scale * Attn.κ := by
  rw [scale_eq, two_eq]
  have hl : (0 : ℝ) < Real.log 2 := Real.log_pos (by norm_num)
  have e : Ideal.log ((2 : ℝ) : EReal) = ((Real.log 2 : ℝ) : EReal) := by
    show (if (2 : ℝ) ≤ 0 then (⊥ : EReal) else ((Real.log 2 : ℝ) : EReal)) = _
    rw [if_neg (by norm_num)]
  rw [e]
  unfold Ideal.div
  rw [if_neg (by exact_mod_cast hl.ne'), ← EReal.coe_inv]

/-- The divisor of the program's remainder. -/
abbrev two : BitVec 32 := Scalar.select (IntOp.cmpi .eq 2#32 0#32) (1#32) (2#32)

/-- The program's remainder by two. -/
abbrev rem2 (x : BitVec 32) : BitVec 32 :=
  Scalar.select (IntOp.andi (IntOp.cmpi .ne (IntOp.cmpi .slt (IntOp.remsi ArithUnit.host x two) 0#32) (IntOp.cmpi .slt two 0#32))
    (IntOp.cmpi .ne (IntOp.remsi ArithUnit.host x two) 0#32)) (IntOp.addi (IntOp.remsi ArithUnit.host x two) two) (IntOp.remsi ArithUnit.host x two)

/-- The remainder of a head by two. -/
theorem rem2_at : ∀ h : Fin 8, rem2 (BitVec.ofNat 32 h.val) = BitVec.ofNat 32 (h.val % 2) := by decide +kernel

/-- The packed keys: each head's elements twice. -/
theorem k_at (R : Fin 4096) (j : Fin 2) (l : Fin 128) :
    after line W (Proc.devRef .tc main_v16) (ix3 b R ⟨128 * j.val + l.val, by omega⟩) = W (Proc.devRef .tc main_arg1) (ix4 b R j ⟨l.val % 64, by omega⟩) := by
  after_reads_at
  congr 2
  exact Fin.ext (by simp only; omega)

/-- The packed keys of the context. -/
theorem kc_at (R : Fin 256) (j : Fin 2) (l : Fin 128) :
    after line W (Proc.devRef .tc main_v28) (ix3 b R ⟨128 * j.val + l.val, by omega⟩) = W (Proc.devRef .tc main_arg3) (ix4 b R j ⟨l.val % 64, by omega⟩) := by
  after_reads_at
  congr 2
  exact Fin.ext (by simp only; omega)

/-- The packed values. -/
theorem v_at (R : Fin 4096) (C : Fin 512) :
    after line W (Proc.devRef .tc main_v24) (ix3 b R C)
      = if C.val / 128 % 2 = C.val / 64 % 2 then W (Proc.devRef .tc main_arg2) (ix4 b R ⟨C.val / 256, by omega⟩ ⟨C.val % 64, by omega⟩) else (1 : EReal) := by
  after_reads_at
  refine (sel_if _ _ (bits_eq ⟨C.val / 128 % 2, by omega⟩ ⟨C.val / 64 % 2, by omega⟩) _ _).trans ?_
  exact congrArg (fun y : EReal => if C.val / 128 % 2 = C.val / 64 % 2 then _ else y) one_eq

/-- The packed values of the context. -/
theorem vc_at (R : Fin 256) (C : Fin 512) :
    after line W (Proc.devRef .tc main_v36) (ix3 b R C)
      = if C.val / 128 % 2 = C.val / 64 % 2 then W (Proc.devRef .tc main_arg4) (ix4 b R ⟨C.val / 256, by omega⟩ ⟨C.val % 64, by omega⟩) else (1 : EReal) := by
  after_reads_at
  refine (sel_if _ _ (bits_eq ⟨C.val / 128 % 2, by omega⟩ ⟨C.val / 64 % 2, by omega⟩) _ _).trans ?_
  exact congrArg (fun y : EReal => if C.val / 128 % 2 = C.val / 64 % 2 then _ else y) one_eq

/-- The packed queries. -/
theorem q_at (R : Fin 4096) (h : Fin 8) (l : Fin 128) :
    after line W (Proc.devRef .tc main_v12) (ix3 b R ⟨128 * h.val + l.val, by omega⟩)
      = if h.val % 2 = l.val / 64 then (show EReal from W (Proc.devRef .tc main_arg0) (ix4 b R h ⟨l.val % 64, by omega⟩)) * (scale * Attn.κ) else (0 : EReal) := by
  after_reads_at
  refine (congrArg (fun w => Scalar.select (IntOp.cmpi .eq w _) _ _) (rem2_at h)).trans ?_
  refine (sel_if _ _ (bits_eq ⟨h.val % 2, by omega⟩ ⟨(128 * h.val + l.val) / 64 % 2, by omega⟩) _ _).trans ?_
  have e0 : (id (constant (F := Ideal) S_ .f32 0#32) ix0 : EReal) = 0 := by
    show Ideal.ofBits .f32 0#32 = 0
    simp [Ideal.ofBits, Ideal.ieee]
  by_cases hp : h.val % 2 = l.val / 64
  · refine (if_pos (show h.val % 2 = (128 * h.val + l.val) / 64 % 2 by omega)).trans (Eq.trans ?_ (if_pos hp).symm)
    refine congrArg₂ (fun x y : EReal => x * y) ?_ quot_eq
    congr 2
    exact Fin.ext (by simp only; omega)
  · exact (if_neg (show ¬ h.val % 2 = (128 * h.val + l.val) / 64 % 2 by omega)).trans (e0.trans (if_neg hp).symm)

end Cert.AttnHost
end
-- ==== Proof.AttnWin.lean ====
module

public import proofs.«01_k».proof.Proof.AttnHost
public import Idealize.ShloMosaic.Lib.Pipeline.ValueKit

/-! The attention kernel's windows: at each grid point, the rows of the packed arrays that its blocks hold. -/

@[expose] public section

set_option maxRecDepth 16384

noncomputable section

namespace Cert.AttnWin

open Idealize.ShloMosaic Idealize.ShloMosaic.TcCoe Idealize.SL.Sem Cert.KernelIdeal Cert.KernelIdeal.Gen Cert.Attn

/-- Where each window's block lies at a grid point. -/
theorem idxA : ∀ t : Fin cfg0.N, win0_0.index t = ![0] ∧ win0_1.index t = ![t.val / 4, t.val % 4, 0]
    ∧ win0_2.index t = ![t.val / 4, 8 * (t.val % 4) - 1, 0] ∧ win0_3.index t = ![t.val / 4, t.val % 4, 0]
    ∧ win0_4.index t = ![t.val / 4, min (8 * (t.val % 4) + 8) 31, 0] ∧ win0_5.index t = ![t.val / 4, 8 * (t.val % 4) - 1, 0]
    ∧ win0_6.index t = ![t.val / 4, t.val % 4, 0] ∧ win0_7.index t = ![t.val / 4, min (8 * (t.val % 4) + 8) 31, 0] :=
  (by decide +kernel : ∀ t : Fin grid0.N, _)

/-- The context's windows, the result's, and the grid coordinates. -/
theorem idxB : ∀ t : Fin cfg0.N, win0_8.index t = ![t.val / 4, 0, 0] ∧ win0_9.index t = ![t.val / 4, 0, 0]
    ∧ win0_10.index t = ![t.val / 4, t.val % 4, 0] ∧ (grid0.coords t 1).val = t.val % 4 :=
  (by decide +kernel : ∀ t : Fin grid0.N, _)

variable (t : Fin cfg0.N) (b N : Fin 4) (ht : t.val = 4 * b.val + N.val)

include ht

/-- Where window 1's block lies in its array. -/
theorem emb1 (Z : S4x4096x1024.Idx → EReal) (R : Fin 1024) (C : Fin 1024) :
    Z (ix3 b ⟨1024 * N.val + R.val, by omega⟩ C) = Z ((win0_1.blk t).view.emb (ix3 0 R C)) := by
  have _ := ht
  have hN := N.isLt
  have h1 : t.val / 4 = b.val := by omega
  have h2 : t.val % 4 = N.val := by omega
  blk_ext [idxA t, h1, h2]

/-- Where window 2's block lies in its array. -/
theorem emb2 (Z : S4x4096x256.Idx → EReal) (R : Fin 128) (C : Fin 256) :
    Z (ix3 b ⟨128 * (8 * N.val - 1) + R.val, by omega⟩ C) = Z ((win0_2.blk t).view.emb (ix3 0 R C)) := by
  have _ := ht
  have hN := N.isLt
  have h1 : t.val / 4 = b.val := by omega
  have h2 : t.val % 4 = N.val := by omega
  blk_ext [idxA t, h1, h2]

/-- Where window 3's block lies in its array. -/
theorem emb3 (Z : S4x4096x256.Idx → EReal) (R : Fin 1024) (C : Fin 256) :
    Z (ix3 b ⟨1024 * N.val + R.val, by omega⟩ C) = Z ((win0_3.blk t).view.emb (ix3 0 R C)) := by
  have _ := ht
  have hN := N.isLt
  have h1 : t.val / 4 = b.val := by omega
  have h2 : t.val % 4 = N.val := by omega
  blk_ext [idxA t, h1, h2]

/-- Where window 4's block lies in its array. -/
theorem emb4 (Z : S4x4096x256.Idx → EReal) (R : Fin 128) (C : Fin 256) :
    Z (ix3 b ⟨128 * min (8 * N.val + 8) 31 + R.val, by omega⟩ C) = Z ((win0_4.blk t).view.emb (ix3 0 R C)) := by
  have _ := ht
  have hN := N.isLt
  have h1 : t.val / 4 = b.val := by omega
  have h2 : t.val % 4 = N.val := by omega
  blk_ext [idxA t, h1, h2]

/-- Where window 5's block lies in its array. -/
theorem emb5 (Z : S4x4096x512.Idx → EReal) (R : Fin 128) (C : Fin 512) :
    Z (ix3 b ⟨128 * (8 * N.val - 1) + R.val, by omega⟩ C) = Z ((win0_5.blk t).view.emb (ix3 0 R C)) := by
  have _ := ht
  have hN := N.isLt
  have h1 : t.val / 4 = b.val := by omega
  have h2 : t.val % 4 = N.val := by omega
  blk_ext [idxA t, h1, h2]

/-- Where window 6's block lies in its array. -/
theorem emb6 (Z : S4x4096x512.Idx → EReal) (R : Fin 1024) (C : Fin 512) :
    Z (ix3 b ⟨1024 * N.val + R.val, by omega⟩ C) = Z ((win0_6.blk t).view.emb (ix3 0 R C)) := by
  have _ := ht
  have hN := N.isLt
  have h1 : t.val / 4 = b.val := by omega
  have h2 : t.val % 4 = N.val := by omega
  blk_ext [idxA t, h1, h2]

/-- Where window 7's block lies in its array. -/
theorem emb7 (Z : S4x4096x512.Idx → EReal) (R : Fin 128) (C : Fin 512) :
    Z (ix3 b ⟨128 * min (8 * N.val + 8) 31 + R.val, by omega⟩ C) = Z ((win0_7.blk t).view.emb (ix3 0 R C)) := by
  have _ := ht
  have hN := N.isLt
  have h1 : t.val / 4 = b.val := by omega
  have h2 : t.val % 4 = N.val := by omega
  blk_ext [idxA t, h1, h2]

/-- Where window 8's block lies in its array. -/
theorem emb8 (Z : S4x256x256.Idx → EReal) (R : Fin 256) (C : Fin 256) :
    Z (ix3 b ⟨R.val, by omega⟩ C) = Z ((win0_8.blk t).view.emb (ix3 0 R C)) := by
  have _ := ht
  have hN := N.isLt
  have h1 : t.val / 4 = b.val := by omega
  have h2 : t.val % 4 = N.val := by omega
  blk_ext [idxB t, h1, h2]

/-- Where window 9's block lies in its array. -/
theorem emb9 (Z : S4x256x512.Idx → EReal) (R : Fin 256) (C : Fin 512) :
    Z (ix3 b ⟨R.val, by omega⟩ C) = Z ((win0_9.blk t).view.emb (ix3 0 R C)) := by
  have _ := ht
  have hN := N.isLt
  have h1 : t.val / 4 = b.val := by omega
  have h2 : t.val % 4 = N.val := by omega
  blk_ext [idxB t, h1, h2]

/-- Where window 10's block lies in its array. -/
theorem emb10 (Z : S4x4096x512.Idx → EReal) (R : Fin 1024) (C : Fin 512) :
    Z (ix3 b ⟨1024 * N.val + R.val, by omega⟩ C) = Z ((win0_10.blk t).view.emb (ix3 0 R C)) := by
  have _ := ht
  have hN := N.isLt
  have h1 : t.val / 4 = b.val := by omega
  have h2 : t.val % 4 = N.val := by omega
  blk_ext [idxB t, h1, h2]

omit ht

/-- Where window 0's block lies in its array. -/
theorem emb0 (Z : S8.Idx → EReal) (h : Fin 8) : Z (ix1 h) = Z ((win0_0.blk t).view.emb (ix1 h)) := by
  blk_ext [idxA t]

end Cert.AttnWin

end
-- ==== Proof.AttnArr.lean ====
module

public import proofs.«01_k».proof.Proof.AttnRow
public import proofs.«01_k».proof.Proof.AttnWin

/-! The attention kernel's windows hold the packed arguments' rows. -/

@[expose] public section

set_option maxRecDepth 16384

noncomputable section

namespace Cert.AttnArr

open Idealize.ShloMosaic Idealize.ShloMosaic.TcCoe Idealize.SL.Sem Cert.KernelIdeal Cert.KernelIdeal.Gen Cert.Attn Cert.AttnRow

/-- The arguments a device's memory holds at launch. -/
def argsOf (m : (ℓ : Loc nD τ sig) → Buf (Elt Ideal) ℓ) (c : Dev nD) : Args where
  q := m ((c.tc : Thread nD τ).loc main_arg0)
  k := m ((c.tc : Thread nD τ).loc main_arg1)
  v := m ((c.tc : Thread nD τ).loc main_arg2)
  kc := m ((c.tc : Thread nD τ).loc main_arg3)
  vc := m ((c.tc : Thread nD τ).loc main_arg4)
  sink := m ((c.tc : Thread nD τ).loc main_arg5)

/-- The result array at a block's row and a head's lane. -/
theorem resArr_at (A : Args) (b N : Fin 4) (s : Fin 8) (j : Fin 2) (g : Fin 4) (r : Fin 128) (d : Fin 64) :
    res A b (blkN N s) r j g d = resArr A (ix3 b ⟨1024 * N.val + (128 * s.val + r.val), by omega⟩ ⟨256 * j.val + 64 * g.val + d.val, by omega⟩) := by
  have e1 : (⟨(1024 * N.val + (128 * s.val + r.val)) / 128, by omega⟩ : Fin 32) = blkN N s :=
    Fin.ext (by show (1024 * N.val + (128 * s.val + r.val)) / 128 = 8 * N.val + s.val; omega)
  have e2 : (⟨(1024 * N.val + (128 * s.val + r.val)) % 128, by omega⟩ : Fin 128) = r :=
    Fin.ext (by show (1024 * N.val + (128 * s.val + r.val)) % 128 = r.val; omega)
  have e3 : (⟨(256 * j.val + 64 * g.val + d.val) / 256, by omega⟩ : Fin 2) = j :=
    Fin.ext (by show (256 * j.val + 64 * g.val + d.val) / 256 = j.val; omega)
  have e4 : (⟨(256 * j.val + 64 * g.val + d.val) / 64 % 4, by omega⟩ : Fin 4) = g :=
    Fin.ext (by show (256 * j.val + 64 * g.val + d.val) / 64 % 4 = g.val; omega)
  have e5 : (⟨(256 * j.val + 64 * g.val + d.val) % 64, by omega⟩ : Fin 64) = d :=
    Fin.ext (by show (256 * j.val + 64 * g.val + d.val) % 64 = d.val; omega)
  show _ = res A b ⟨(1024 * N.val + (128 * s.val + r.val)) / 128, _⟩ ⟨(1024 * N.val + (128 * s.val + r.val)) % 128, _⟩
    ⟨(256 * j.val + 64 * g.val + d.val) / 256, _⟩ ⟨(256 * j.val + 64 * g.val + d.val) / 64 % 4, _⟩ ⟨(256 * j.val + 64 * g.val + d.val) % 64, _⟩
  rw [e1, e2, e3, e4, e5]

variable (m : (ℓ : Loc nD τ sig) → Buf (Elt Ideal) ℓ) (c : Dev nD)

/-- The packed queries. -/
theorem v12_at (b : Fin 4) (R : Fin 4096) (h : Fin 8) (l : Fin 128) : (V m c main_v12 (ix3 b R ⟨128 * h.val + l.val, by omega⟩) : EReal) = if h.val % 2 = l.val / 64 then (argsOf m c).q (ix4 b R h ⟨l.val % 64, by omega⟩) * (scale * Attn.κ) else (0 : EReal) :=
  AttnHost.q_at (fun x => m (c, x)) b R h l

/-- The packed keys. -/
theorem v16_at (b : Fin 4) (R : Fin 4096) (j : Fin 2) (l : Fin 128) : (V m c main_v16 (ix3 b R ⟨128 * j.val + l.val, by omega⟩) : EReal) = (argsOf m c).k (ix4 b R j ⟨l.val % 64, by omega⟩) :=
  AttnHost.k_at (fun x => m (c, x)) b R j l

/-- The packed values. -/
theorem v24_at (b : Fin 4) (R : Fin 4096) (C : Fin 512) : (V m c main_v24 (ix3 b R C) : EReal) = packed (argsOf m c).v b R C :=
  AttnHost.v_at (fun x => m (c, x)) b R C

/-- The context's packed keys. -/
theorem v28_at (b : Fin 4) (R : Fin 256) (j : Fin 2) (l : Fin 128) : (V m c main_v28 (ix3 b R ⟨128 * j.val + l.val, by omega⟩) : EReal) = (argsOf m c).kc (ix4 b R j ⟨l.val % 64, by omega⟩) :=
  AttnHost.kc_at (fun x => m (c, x)) b R j l

/-- The context's packed values. -/
theorem v36_at (b : Fin 4) (R : Fin 256) (C : Fin 512) : (V m c main_v36 (ix3 b R C) : EReal) = if C.val / 128 % 2 = C.val / 64 % 2 then (argsOf m c).vc (ix4 b R ⟨C.val / 256, by omega⟩ ⟨C.val % 64, by omega⟩) else (1 : EReal) :=
  AttnHost.vc_at (fun x => m (c, x)) b R C

variable (t : Fin cfg0.N) (b N : Fin 4) (ht : t.val = 4 * b.val + N.val)

include ht in
/-- Window 1's block of an array. -/
theorem rd1 (Z : S4x4096x1024.Idx → EReal) (R : Fin 1024) (C : Fin 1024) :
    (((cfg0.win 1).blk t).view.read (Elt Ideal) Z (ix3 0 R C) : EReal) = Z (ix3 b ⟨1024 * N.val + R.val, by omega⟩ C) :=
  (AttnWin.emb1 t b N ht Z R C).symm

include ht in
/-- Window 1's block. -/
theorem x1_eq (R : Fin 1024) (C : Fin 1024) : (iblk m c 1 t (ix3 0 R C) : EReal) = V m c main_v12 (ix3 b ⟨1024 * N.val + R.val, by omega⟩ C) := by
  unfold iblk
  exact rd1 t b N ht (V m c main_v12) R C

include ht in
/-- Window 2's block of an array. -/
theorem rd2 (Z : S4x4096x256.Idx → EReal) (R : Fin 128) (C : Fin 256) :
    (((cfg0.win 2).blk t).view.read (Elt Ideal) Z (ix3 0 R C) : EReal) = Z (ix3 b ⟨128 * (8 * N.val - 1) + R.val, by omega⟩ C) :=
  (AttnWin.emb2 t b N ht Z R C).symm

include ht in
/-- Window 2's block. -/
theorem x2_eq (R : Fin 128) (C : Fin 256) : (iblk m c 2 t (ix3 0 R C) : EReal) = V m c main_v16 (ix3 b ⟨128 * (8 * N.val - 1) + R.val, by omega⟩ C) := by
  unfold iblk
  exact rd2 t b N ht (V m c main_v16) R C

include ht in
/-- Window 3's block of an array. -/
theorem rd3 (Z : S4x4096x256.Idx → EReal) (R : Fin 1024) (C : Fin 256) :
    (((cfg0.win 3).blk t).view.read (Elt Ideal) Z (ix3 0 R C) : EReal) = Z (ix3 b ⟨1024 * N.val + R.val, by omega⟩ C) :=
  (AttnWin.emb3 t b N ht Z R C).symm

include ht in
/-- Window 3's block. -/
theorem x3_eq (R : Fin 1024) (C : Fin 256) : (iblk m c 3 t (ix3 0 R C) : EReal) = V m c main_v16 (ix3 b ⟨1024 * N.val + R.val, by omega⟩ C) := by
  unfold iblk
  exact rd3 t b N ht (V m c main_v16) R C

include ht in
/-- Window 4's block of an array. -/
theorem rd4 (Z : S4x4096x256.Idx → EReal) (R : Fin 128) (C : Fin 256) :
    (((cfg0.win 4).blk t).view.read (Elt Ideal) Z (ix3 0 R C) : EReal) = Z (ix3 b ⟨128 * min (8 * N.val + 8) 31 + R.val, by omega⟩ C) :=
  (AttnWin.emb4 t b N ht Z R C).symm

include ht in
/-- Window 4's block. -/
theorem x4_eq (R : Fin 128) (C : Fin 256) : (iblk m c 4 t (ix3 0 R C) : EReal) = V m c main_v16 (ix3 b ⟨128 * min (8 * N.val + 8) 31 + R.val, by omega⟩ C) := by
  unfold iblk
  exact rd4 t b N ht (V m c main_v16) R C

include ht in
/-- Window 5's block of an array. -/
theorem rd5 (Z : S4x4096x512.Idx → EReal) (R : Fin 128) (C : Fin 512) :
    (((cfg0.win 5).blk t).view.read (Elt Ideal) Z (ix3 0 R C) : EReal) = Z (ix3 b ⟨128 * (8 * N.val - 1) + R.val, by omega⟩ C) :=
  (AttnWin.emb5 t b N ht Z R C).symm

include ht in
/-- Window 5's block. -/
theorem x5_eq (R : Fin 128) (C : Fin 512) : (iblk m c 5 t (ix3 0 R C) : EReal) = V m c main_v24 (ix3 b ⟨128 * (8 * N.val - 1) + R.val, by omega⟩ C) := by
  unfold iblk
  exact rd5 t b N ht (V m c main_v24) R C

include ht in
/-- Window 6's block of an array. -/
theorem rd6 (Z : S4x4096x512.Idx → EReal) (R : Fin 1024) (C : Fin 512) :
    (((cfg0.win 6).blk t).view.read (Elt Ideal) Z (ix3 0 R C) : EReal) = Z (ix3 b ⟨1024 * N.val + R.val, by omega⟩ C) :=
  (AttnWin.emb6 t b N ht Z R C).symm

include ht in
/-- Window 6's block. -/
theorem x6_eq (R : Fin 1024) (C : Fin 512) : (iblk m c 6 t (ix3 0 R C) : EReal) = V m c main_v24 (ix3 b ⟨1024 * N.val + R.val, by omega⟩ C) := by
  unfold iblk
  exact rd6 t b N ht (V m c main_v24) R C

include ht in
/-- Window 7's block of an array. -/
theorem rd7 (Z : S4x4096x512.Idx → EReal) (R : Fin 128) (C : Fin 512) :
    (((cfg0.win 7).blk t).view.read (Elt Ideal) Z (ix3 0 R C) : EReal) = Z (ix3 b ⟨128 * min (8 * N.val + 8) 31 + R.val, by omega⟩ C) :=
  (AttnWin.emb7 t b N ht Z R C).symm

include ht in
/-- Window 7's block. -/
theorem x7_eq (R : Fin 128) (C : Fin 512) : (iblk m c 7 t (ix3 0 R C) : EReal) = V m c main_v24 (ix3 b ⟨128 * min (8 * N.val + 8) 31 + R.val, by omega⟩ C) := by
  unfold iblk
  exact rd7 t b N ht (V m c main_v24) R C

include ht in
/-- Window 8's block of an array. -/
theorem rd8 (Z : S4x256x256.Idx → EReal) (R : Fin 256) (C : Fin 256) :
    (((cfg0.win 8).blk t).view.read (Elt Ideal) Z (ix3 0 R C) : EReal) = Z (ix3 b R C) :=
  (AttnWin.emb8 t b N ht Z R C).symm

include ht in
/-- Window 8's block. -/
theorem x8_eq (R : Fin 256) (C : Fin 256) : (iblk m c 8 t (ix3 0 R C) : EReal) = V m c main_v28 (ix3 b R C) := by
  unfold iblk
  exact rd8 t b N ht (V m c main_v28) R C

include ht in
/-- Window 9's block of an array. -/
theorem rd9 (Z : S4x256x512.Idx → EReal) (R : Fin 256) (C : Fin 512) :
    (((cfg0.win 9).blk t).view.read (Elt Ideal) Z (ix3 0 R C) : EReal) = Z (ix3 b R C) :=
  (AttnWin.emb9 t b N ht Z R C).symm

include ht in
/-- Window 9's block. -/
theorem x9_eq (R : Fin 256) (C : Fin 512) : (iblk m c 9 t (ix3 0 R C) : EReal) = V m c main_v36 (ix3 b R C) := by
  unfold iblk
  exact rd9 t b N ht (V m c main_v36) R C

/-- Window 0's block of an array. -/
theorem rd0 (Z : S8.Idx → EReal) (h : Fin 8) : (((cfg0.win 0).blk t).view.read (Elt Ideal) Z (ix1 h) : EReal) = Z (ix1 h) :=
  (AttnWin.emb0 t Z h).symm

/-- Window 0's block. -/
theorem x0_eq (h : Fin 8) : (iblk m c 0 t (ix1 h) : EReal) = (argsOf m c).sink (ix1 h) := by
  unfold iblk
  exact (rd0 t (V m c main_arg5) h).trans (congrFun (V_main_arg5 m c) _)

include ht in
/-- A grid point's windows hold the packed arguments' rows. -/
theorem blk : Blk (argsOf m c) b N (iblk m c 0 t) (iblk m c 1 t) (iblk m c 2 t) (iblk m c 3 t) (iblk m c 4 t) (iblk m c 5 t) (iblk m c 6 t) (iblk m c 7 t) (iblk m c 8 t) (iblk m c 9 t) :=
  ⟨x0_eq m c t,
   fun R h l => (x1_eq m c t b N ht R _).trans (v12_at m c b _ h l),
   fun R j l => (x2_eq m c t b N ht R _).trans (v16_at m c b _ j l),
   fun R j l => (x3_eq m c t b N ht R _).trans (v16_at m c b _ j l),
   fun R j l => (x4_eq m c t b N ht R _).trans (v16_at m c b _ j l),
   fun R C => (x5_eq m c t b N ht R C).trans (v24_at m c b _ C),
   fun R C => (x6_eq m c t b N ht R C).trans (v24_at m c b _ C),
   fun R C => (x7_eq m c t b N ht R C).trans (v24_at m c b _ C),
   fun R j l => (x8_eq m c t b N ht R _).trans (v28_at m c b R j l),
   fun R C => (x9_eq m c t b N ht R C).trans (v36_at m c b R C)⟩

end Cert.AttnArr

end
-- ==== Proof.AttnWhole.lean ====
module

public import proofs.«01_k».proof.Proof.AttnArr

/-! The attention kernel's result array is the windowed attention of its arguments. -/

@[expose] public section

set_option maxRecDepth 16384

noncomputable section

namespace Cert.AttnWhole

open Idealize.ShloMosaic Idealize.ShloMosaic.TcCoe Idealize.SL.Sem Cert.KernelIdeal Cert.KernelIdeal.Gen Cert.Attn Cert.AttnRow Cert.AttnArr

variable (m : (ℓ : Loc nD τ sig) → Buf (Elt Ideal) ℓ) (c : Dev nD)

/-- A grid point's block of results at an element. -/
theorem outs_at (t : Fin cfg0.N) (b N : Fin 4) (ht : t.val = 4 * b.val + N.val) (hA : Fin' (argsOf m c)) (s : Fin 8) (j : Fin 2) (g : Fin 4)
    (r : Fin 128) (d : Fin 64) :
    (outsAt0 m c t (ix3 0 ⟨128 * s.val + r.val, by omega⟩ ⟨256 * j.val + 64 * g.val + d.val, by omega⟩) : EReal)
      = res (argsOf m c) b (blkN N s) r j g d := by
  have hB := blk m c t b N ht
  have hi : (grid0.coords t 1).val = N.val := by
    rw [(AttnWin.idxB t).2.2.2]
    omega
  unfold outsAt0
  generalize iblk m c 0 t = x0 at hB ⊢
  generalize iblk m c 1 t = x1 at hB ⊢
  generalize iblk m c 2 t = x2 at hB ⊢
  generalize iblk m c 3 t = x3 at hB ⊢
  generalize iblk m c 4 t = x4 at hB ⊢
  generalize iblk m c 5 t = x5 at hB ⊢
  generalize iblk m c 6 t = x6 at hB ⊢
  generalize iblk m c 7 t = x7 at hB ⊢
  generalize iblk m c 8 t = x8 at hB ⊢
  generalize iblk m c 9 t = x9 at hB ⊢
  exact out_res c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) hB s j g r d hA hi

/-- The kernel's result array is the windowed attention of its arguments. -/
theorem arr_eq (hA : Fin' (argsOf m c)) : (dats m 0 c).arrAt 10 cfg0.N = resArr (argsOf m c) := by
  refine (dats m 0 c).arrAt_eq_of_covers 10 _ (by decide +kernel) fun t hf y => ?_
  blk_simp
  rw [after0_10]
  have hN : t.val < 16 := t.isLt
  obtain ⟨R, C, rfl⟩ : ∃ (R : Fin 1024) (C : Fin 512), y = ix3 0 R C := ⟨y 1, y 2, by
    funext a
    fin_cases a
    · exact Fin.ext (by have h : (y 0).val < 1 := (y 0).isLt; show (y 0).val = 0; omega)
    · rfl
    · rfl⟩
  obtain ⟨s, r, rfl⟩ : ∃ (s : Fin 8) (r : Fin 128), R = ⟨128 * s.val + r.val, by omega⟩ :=
    ⟨⟨R.val / 128, by omega⟩, ⟨R.val % 128, by omega⟩, Fin.ext (by show R.val = 128 * (R.val / 128) + R.val % 128; omega)⟩
  obtain ⟨j, g, d, rfl⟩ : ∃ (j : Fin 2) (g : Fin 4) (d : Fin 64), C = ⟨256 * j.val + 64 * g.val + d.val, by omega⟩ :=
    ⟨⟨C.val / 256, by omega⟩, ⟨C.val / 64 % 4, by omega⟩, ⟨C.val % 64, by omega⟩,
      Fin.ext (by show C.val = 256 * (C.val / 256) + 64 * (C.val / 64 % 4) + C.val % 64; omega)⟩
  have ht : t.val = 4 * (⟨t.val / 4, by omega⟩ : Fin 4).val + (⟨t.val % 4, by omega⟩ : Fin 4).val := by
    show t.val = 4 * (t.val / 4) + t.val % 4
    omega
  refine Eq.trans ?_ (AttnWin.emb10 t _ _ ht (resArr (argsOf m c)) ⟨128 * s.val + r.val, by omega⟩ ⟨256 * j.val + 64 * g.val + d.val, by omega⟩)
  refine Eq.trans ?_ (resArr_at (argsOf m c) _ _ s j g r d)
  exact outs_at m c t _ _ ht hA s j g r d

end Cert.AttnWhole

end
-- ==== Proof.AttnPre.lean ====
module

public import proofs.«01_k».proof.Defs
public import proofs.«01_k».proof.Proof.AttnSpec
public import Idealize.ShloMosaic.Lib.Pointwise

/-! What the precondition says of the attention's arguments: the queries, the keys and the sinks are numbers. -/

@[expose] public section

set_option maxRecDepth 16384

noncomputable section

namespace Cert.AttnPre

open Idealize.ShloMosaic Idealize.ShloMosaic.TcCoe Idealize.SL.Sem Cert.Attn

/-- The precondition's shapes fit. -/
theorem facts : Cert.Pre_finite.Facts where
  slices_S4x4096x8x64_S4x4096x6x64_0_0_2_0 := by decide
  concatenates_S4x4096x2x64_S4x4096x6x64_S4x4096x8x64_d2 := by decide
  slices_S4x4096x2x64_S4x3840x2x64_0_256_0_0 := by decide
  concatenates_S4x256x2x64_S4x3840x2x64_S4x4096x2x64_d1 := by decide
  bcast_S_S4x4096x8x64 := by decide
  bcast_S_S8 := by decide
  bcast_S8_S1x1x8x1_2 := by decide
  bcast_S1x1x8x1_S4x4096x8x64_0_1_2_3 := by decide

attribute [local instance] facts

/-- The bit that says of an element that its absolute value is less than infinity. -/
def bit (x : EReal) : BitVec 1 :=
  BitVec.ofBool (decide ((FloatOps.absf (F := Ideal) (φ := .f32) x : EReal) < Ideal.ofBits FTy.f32 2139095040#32))

/-- An element whose bit is set is a number. -/
theorem bit_fin {x : EReal} (h : bit x = 1#1) : x ≠ ⊤ ∧ x ≠ ⊥ := by
  have hi : (Ideal.ofBits FTy.f32 2139095040#32 : EReal) = ⊤ := by simp [Ideal.ofBits, Ideal.ieee]
  by_cases hx : max x (-x) < ⊤
  · refine ⟨fun e => ?_, fun e => ?_⟩
    · subst e; simp at hx
    · subst e; simp at hx
  · exfalso
    have e : bit x = 0#1 := by
      show BitVec.ofBool (decide (max x (-x) < Ideal.ofBits FTy.f32 2139095040#32)) = 0#1
      rw [hi, decide_eq_false hx]
      decide
    rw [e] at h
    exact absurd h (by decide)

/-- A conjunction of bits is set when both are. -/
theorem and_bits : ∀ x y : BitVec 1, IntOp.andi x y = 1#1 → x = 1#1 ∧ y = 1#1 := by decide

/-- What the precondition says at an element of the queries. -/
theorem pre_at (A : Args) (h : Cert.Pre_finite.fn (F := Ideal) A.q A.k A.v A.kc A.vc A.sink = fun _ => 1#1)
    (b : Fin 4) (s : Fin 4096) (e : Fin 8) (d : Fin 64) :
    bit (A.q (ix4 b s e d)) = 1#1
    ∧ bit (if h : e.val < 2 then A.k (ix4 b s ⟨e.val, h⟩ d) else A.q (ix4 b s ⟨2 + (e.val - 2), by omega⟩ d)) = 1#1
    ∧ bit (if h : e.val < 2 then
        if h' : s.val < 256 then A.kc (ix4 b ⟨s.val, h'⟩ ⟨e.val, h⟩ d) else A.k (ix4 b ⟨256 + (s.val - 256), by omega⟩ ⟨e.val, h⟩ d)
      else A.q (ix4 b s ⟨2 + (e.val - 2), by omega⟩ d)) = 1#1
    ∧ bit (A.sink (ix1 e)) = 1#1 := by
  have e1 : Cert.Pre_finite.fn (F := Ideal) A.q A.k A.v A.kc A.vc A.sink (ix4 b s e d)
      = IntOp.andi (IntOp.andi (IntOp.andi (bit (A.q (ix4 b s e d)))
          (bit (if h : e.val < 2 then A.k (ix4 b s ⟨e.val, h⟩ d) else A.q (ix4 b s ⟨2 + (e.val - 2), by omega⟩ d))))
          (bit (if h : e.val < 2 then
              if h' : s.val < 256 then A.kc (ix4 b ⟨s.val, h'⟩ ⟨e.val, h⟩ d) else A.k (ix4 b ⟨256 + (s.val - 256), by omega⟩ ⟨e.val, h⟩ d)
            else A.q (ix4 b s ⟨2 + (e.val - 2), by omega⟩ d))))
          (bit (A.sink (ix1 e))) := by
    pointwise [Cert.Pre_finite.fn, Cert.Pre_finite.fn_part1]
    rfl
  have h1 := e1.symm.trans (congrFun h (ix4 b s e d))
  obtain ⟨h2, h3⟩ := and_bits _ _ h1
  obtain ⟨h4, h5⟩ := and_bits _ _ h2
  obtain ⟨h6, h7⟩ := and_bits _ _ h4
  exact ⟨h6, h7, h5, h3⟩

/-- Arguments the precondition admits have queries, keys, context's keys and sinks that are numbers. -/
theorem fin_of (A : Args) (h : Cert.Pre_finite.fn (F := Ideal) A.q A.k A.v A.kc A.vc A.sink = fun _ => 1#1) : Fin' A where
  q i := by
    obtain ⟨b, s, e, d, rfl⟩ : ∃ (b : Fin 4) (s : Fin 4096) (e : Fin 8) (d : Fin 64), i = ix4 b s e d :=
      ⟨i 0, i 1, i 2, i 3, by funext a; fin_cases a <;> rfl⟩
    exact bit_fin (pre_at A h b s e d).1
  k i := by
    obtain ⟨b, s, e, d, rfl⟩ : ∃ (b : Fin 4) (s : Fin 4096) (e : Fin 2) (d : Fin 64), i = ix4 b s e d :=
      ⟨i 0, i 1, i 2, i 3, by funext a; fin_cases a <;> rfl⟩
    have h2 := (pre_at A h b s ⟨e.val, by omega⟩ d).2.1
    rw [dif_pos (show (⟨e.val, by omega⟩ : Fin 8).val < 2 from e.isLt)] at h2
    exact bit_fin h2
  kc i := by
    obtain ⟨b, s, e, d, rfl⟩ : ∃ (b : Fin 4) (s : Fin 256) (e : Fin 2) (d : Fin 64), i = ix4 b s e d :=
      ⟨i 0, i 1, i 2, i 3, by funext a; fin_cases a <;> rfl⟩
    have h2 := (pre_at A h b ⟨s.val, by omega⟩ ⟨e.val, by omega⟩ d).2.2.1
    rw [dif_pos (show (⟨e.val, by omega⟩ : Fin 8).val < 2 from e.isLt), dif_pos (show (⟨s.val, by omega⟩ : Fin 4096).val < 256 from s.isLt)] at h2
    exact bit_fin h2
  sink i := by
    obtain ⟨e, rfl⟩ : ∃ e : Fin 8, i = ix1 e := ⟨i 0, by funext a; fin_cases a; rfl⟩
    exact bit_fin (pre_at A h 0 0 e 0).2.2.2

end Cert.AttnPre

end
-- ==== Proof.AttnLine.lean ====
module
public import proofs.«01_k».proof.Proof.Gen.ReferenceIdeal
public import Idealize.ShloMosaic.Lib.StableHlo.RunHlo
public import Idealize.ShloMosaic.Lib.StableHlo.RunRead
public import Idealize.ShloMosaic.Lib.Pipeline.Frame
public import Idealize.ShloMosaic.PureOps.Ideal.Laws

/-! The attention reference's host operations as eight short lines, one after the other, and its run: every buffer ends
with what the eight lines leave in it. -/

@[expose] public section
set_option maxRecDepth 16384
noncomputable section
namespace Cert.AttnLine
open Cert.ReferenceIdeal Cert.ReferenceIdeal.Gen Idealize.ShloMosaic Idealize.ShloMosaic.TcCoe Idealize.SL.Sem Idealize.ShloMosaic.StableHlo
variable {F : FTy → Type} [FloatOps F]

/-- Three neighbouring blocks of rows, one after the other. -/
def join3 (a b c : (⟨S4x32x128x2x64, .f32⟩ : BufTy).Contents (Elt F)) : (⟨S4x32x384x2x64, .f32⟩ : BufTy).Contents (Elt F) :=
  concatenate S4x32x384x2x64 2 [⟨S4x32x128x2x64, a⟩, ⟨S4x32x128x2x64, b⟩, ⟨S4x32x128x2x64, c⟩]
    concatenates_S4x32x128x2x64_S4x32x128x2x64_S4x32x128x2x64_S4x32x384x2x64_d2

/-- The scores of the three blocks, of the context and of the sink, one after the other. -/
def joinRow (a : (⟨S4x32x2x4x128x384, .f32⟩ : BufTy).Contents (Elt F)) (b : (⟨S4x32x2x4x128x256, .f32⟩ : BufTy).Contents (Elt F))
    (c : (⟨S4x32x2x4x128x1, .f32⟩ : BufTy).Contents (Elt F)) : (⟨S4x32x2x4x128x641, .f32⟩ : BufTy).Contents (Elt F) :=
  concatenate S4x32x2x4x128x641 5 [⟨S4x32x2x4x128x384, a⟩, ⟨S4x32x2x4x128x256, b⟩, ⟨S4x32x2x4x128x1, c⟩]
    concatenates_S4x32x2x4x128x384_S4x32x2x4x128x256_S4x32x2x4x128x1_S4x32x2x4x128x641_d5

/-- The queries by block, the padded keys and values by block. -/
abbrev c0 : List (HloOp τ sig (Elt F)) :=
  [ reshape main_arg0 main_v0 (rfl : (.f32 : EltTy) = .f32) shapeCasts_S4x4096x8x64_S4x32x128x2x4x64,
    nullary main_c (constantI S_ 32 0#32),
    TRef.unary (TRef.of (T := ⟨S_, .i32⟩) main_c) (TRef.of (T := ⟨S_, .f32⟩) main_call0_v0) (sitofp .f32),
    TRef.binary (TRef.of (T := ⟨S4x4096x2x64, .f32⟩) main_arg1) (TRef.of (T := ⟨S_, .f32⟩) main_call0_v0) (TRef.of (T := ⟨S4x4352x2x64, .f32⟩) main_v1) (fun x v => pad S4x4352x2x64 ![0, 128, 0, 0] ![0, 128, 0, 0] ![0, 0, 0, 0] x v pads_S4x4096x2x64_S4x4352x2x64_000_1281280_000_000 h_S_),
    reshape main_v1 main_v2 (rfl : (.f32 : EltTy) = .f32) shapeCasts_S4x4352x2x64_S4x34x128x2x64,
    nullary main_c_0 (constantI S_ 32 0#32),
    TRef.unary (TRef.of (T := ⟨S_, .i32⟩) main_c_0) (TRef.of (T := ⟨S_, .f32⟩) main_call1_v0) (sitofp .f32),
    TRef.binary (TRef.of (T := ⟨S4x4096x2x64, .f32⟩) main_arg2) (TRef.of (T := ⟨S_, .f32⟩) main_call1_v0) (TRef.of (T := ⟨S4x4352x2x64, .f32⟩) main_v3) (fun x v => pad S4x4352x2x64 ![0, 128, 0, 0] ![0, 128, 0, 0] ![0, 0, 0, 0] x v pads_S4x4096x2x64_S4x4352x2x64_000_1281280_000_000 h_S_),
    reshape main_v3 main_v4 (rfl : (.f32 : EltTy) = .f32) shapeCasts_S4x4352x2x64_S4x34x128x2x64,
    unary main_v2 main_v5 ((extractStridedSlice S4x32x128x2x64 ![0, 0, 0, 0, 0] · slices_S4x34x128x2x64_S4x32x128x2x64_0_0_0_0_0) : (⟨S4x34x128x2x64, .f32⟩ : BufTy).Contents (Elt F) → (⟨S4x32x128x2x64, .f32⟩ : BufTy).Contents (Elt F)),
    unary main_v2 main_v6 ((extractStridedSlice S4x32x128x2x64 ![0, 1, 0, 0, 0] · slices_S4x34x128x2x64_S4x32x128x2x64_0_1_0_0_0) : (⟨S4x34x128x2x64, .f32⟩ : BufTy).Contents (Elt F) → (⟨S4x32x128x2x64, .f32⟩ : BufTy).Contents (Elt F)),
    unary main_v2 main_v7 ((extractStridedSlice S4x32x128x2x64 ![0, 2, 0, 0, 0] · slices_S4x34x128x2x64_S4x32x128x2x64_0_2_0_0_0) : (⟨S4x34x128x2x64, .f32⟩ : BufTy).Contents (Elt F) → (⟨S4x32x128x2x64, .f32⟩ : BufTy).Contents (Elt F)) ]

/-- The three neighbouring blocks of keys and the padded values. -/
abbrev c1 : List (HloOp τ sig (Elt F)) :=
  [ nary ![main_v5, main_v6, main_v7] main_v8 (fun u => join3 (F := F) (u 0) (u 1) (u 2)),
    unary main_v4 main_v9 ((extractStridedSlice S4x32x128x2x64 ![0, 0, 0, 0, 0] · slices_S4x34x128x2x64_S4x32x128x2x64_0_0_0_0_0) : (⟨S4x34x128x2x64, .f32⟩ : BufTy).Contents (Elt F) → (⟨S4x32x128x2x64, .f32⟩ : BufTy).Contents (Elt F)),
    unary main_v4 main_v10 ((extractStridedSlice S4x32x128x2x64 ![0, 1, 0, 0, 0] · slices_S4x34x128x2x64_S4x32x128x2x64_0_1_0_0_0) : (⟨S4x34x128x2x64, .f32⟩ : BufTy).Contents (Elt F) → (⟨S4x32x128x2x64, .f32⟩ : BufTy).Contents (Elt F)),
    unary main_v4 main_v11 ((extractStridedSlice S4x32x128x2x64 ![0, 2, 0, 0, 0] · slices_S4x34x128x2x64_S4x32x128x2x64_0_2_0_0_0) : (⟨S4x34x128x2x64, .f32⟩ : BufTy).Contents (Elt F) → (⟨S4x32x128x2x64, .f32⟩ : BufTy).Contents (Elt F)) ]

/-- The scores of the three blocks. -/
abbrev c2 : List (HloOp τ sig (Elt F)) :=
  [ nary ![main_v9, main_v10, main_v11] main_v12 (fun u => join3 (F := F) (u 0) (u 1) (u 2)),
    binary main_v8 main_v0 main_v13 ((fun l r => Host.dotGeneral dot_S4x32x384x2x64_S4x32x128x2x4x64_S4x32x2x384x128x4_4_5_2_24_013_013 none l r) : (⟨S4x32x384x2x64, .f32⟩ : BufTy).Contents (Elt F) → (⟨S4x32x128x2x4x64, .f32⟩ : BufTy).Contents (Elt F) → (⟨S4x32x2x384x128x4, .f32⟩ : BufTy).Contents (Elt F)),
    unary main_v13 main_v14 ((transpose S4x32x2x4x128x384 [0, 1, 2, 5, 4, 3] · transposes_S4x32x2x384x128x4_S4x32x2x4x128x384_0_1_2_5_4_3) : (⟨S4x32x2x384x128x4, .f32⟩ : BufTy).Contents (Elt F) → (⟨S4x32x2x4x128x384, .f32⟩ : BufTy).Contents (Elt F)),
    nullary main_cst (constant S_ .f32 0x3E000000#32),
    unary main_cst main_v15 (broadcastInDim S4x32x2x4x128x384 ![] bcast_S_S4x32x2x4x128x384 : (⟨S_, .f32⟩ : BufTy).Contents (Elt F) → (⟨S4x32x2x4x128x384, .f32⟩ : BufTy).Contents (Elt F)),
    binary main_v14 main_v15 main_v16 (mulf : (⟨S4x32x2x4x128x384, .f32⟩ : BufTy).Contents (Elt F) → (⟨S4x32x2x4x128x384, .f32⟩ : BufTy).Contents (Elt F) → (⟨S4x32x2x4x128x384, .f32⟩ : BufTy).Contents (Elt F)) ]

/-- The window mask. -/
abbrev c3 : List (HloOp τ sig (Elt F)) :=
  [ nullary main_v17 (iotaInDim S32 32 0),
    unary main_v17 main_v18 (broadcastInDim S32x1 ![0] bcast_S32_S32x1_0 : (⟨S32, .i32⟩ : BufTy).Contents (Elt F) → (⟨S32x1, .i32⟩ : BufTy).Contents (Elt F)),
    nullary main_c_1 (constantI S_ 32 128#32),
    unary main_c_1 main_v19 (broadcastInDim S32x1 ![] bcast_S_S32x1 : (⟨S_, .i32⟩ : BufTy).Contents (Elt F) → (⟨S32x1, .i32⟩ : BufTy).Contents (Elt F)),
    binary main_v18 main_v19 main_v20 (muli : (⟨S32x1, .i32⟩ : BufTy).Contents (Elt F) → (⟨S32x1, .i32⟩ : BufTy).Contents (Elt F) → (⟨S32x1, .i32⟩ : BufTy).Contents (Elt F)),
    nullary main_v21 (iotaInDim S128 32 0),
    unary main_v21 main_v22 (broadcastInDim S1x128 ![1] bcast_S128_S1x128_1 : (⟨S128, .i32⟩ : BufTy).Contents (Elt F) → (⟨S1x128, .i32⟩ : BufTy).Contents (Elt F)),
    unary main_v20 main_v23 (broadcastInDim S32x128 ![0, 1] bcast_S32x1_S32x128_0_1 : (⟨S32x1, .i32⟩ : BufTy).Contents (Elt F) → (⟨S32x128, .i32⟩ : BufTy).Contents (Elt F)),
    unary main_v22 main_v24 (broadcastInDim S32x128 ![0, 1] bcast_S1x128_S32x128_0_1 : (⟨S1x128, .i32⟩ : BufTy).Contents (Elt F) → (⟨S32x128, .i32⟩ : BufTy).Contents (Elt F)),
    binary main_v23 main_v24 main_v25 (addi : (⟨S32x128, .i32⟩ : BufTy).Contents (Elt F) → (⟨S32x128, .i32⟩ : BufTy).Contents (Elt F) → (⟨S32x128, .i32⟩ : BufTy).Contents (Elt F)),
    nullary main_c_2 (constantI S_ 32 128#32),
    unary main_c_2 main_v26 (broadcastInDim S32x1 ![] bcast_S_S32x1 : (⟨S_, .i32⟩ : BufTy).Contents (Elt F) → (⟨S32x1, .i32⟩ : BufTy).Contents (Elt F)),
    binary main_v20 main_v26 main_v27 (subi : (⟨S32x1, .i32⟩ : BufTy).Contents (Elt F) → (⟨S32x1, .i32⟩ : BufTy).Contents (Elt F) → (⟨S32x1, .i32⟩ : BufTy).Contents (Elt F)),
    nullary main_v28 (iotaInDim S384 32 0),
    unary main_v28 main_v29 (broadcastInDim S1x384 ![1] bcast_S384_S1x384_1 : (⟨S384, .i32⟩ : BufTy).Contents (Elt F) → (⟨S1x384, .i32⟩ : BufTy).Contents (Elt F)),
    unary main_v27 main_v30 (broadcastInDim S32x384 ![0, 1] bcast_S32x1_S32x384_0_1 : (⟨S32x1, .i32⟩ : BufTy).Contents (Elt F) → (⟨S32x384, .i32⟩ : BufTy).Contents (Elt F)),
    unary main_v29 main_v31 (broadcastInDim S32x384 ![0, 1] bcast_S1x384_S32x384_0_1 : (⟨S1x384, .i32⟩ : BufTy).Contents (Elt F) → (⟨S32x384, .i32⟩ : BufTy).Contents (Elt F)),
    binary main_v30 main_v31 main_v32 (addi : (⟨S32x384, .i32⟩ : BufTy).Contents (Elt F) → (⟨S32x384, .i32⟩ : BufTy).Contents (Elt F) → (⟨S32x384, .i32⟩ : BufTy).Contents (Elt F)),
    unary main_v25 main_v33 (broadcastInDim S32x128x1 ![0, 1] bcast_S32x128_S32x128x1_0_1 : (⟨S32x128, .i32⟩ : BufTy).Contents (Elt F) → (⟨S32x128x1, .i32⟩ : BufTy).Contents (Elt F)),
    unary main_v32 main_v34 (broadcastInDim S32x1x384 ![0, 2] bcast_S32x384_S32x1x384_0_2 : (⟨S32x384, .i32⟩ : BufTy).Contents (Elt F) → (⟨S32x1x384, .i32⟩ : BufTy).Contents (Elt F)),
    unary main_v33 main_v35 (broadcastInDim S32x128x384 ![0, 1, 2] bcast_S32x128x1_S32x128x384_0_1_2 : (⟨S32x128x1, .i32⟩ : BufTy).Contents (Elt F) → (⟨S32x128x384, .i32⟩ : BufTy).Contents (Elt F)),
    unary main_v34 main_v36 (broadcastInDim S32x128x384 ![0, 1, 2] bcast_S32x1x384_S32x128x384_0_1_2 : (⟨S32x1x384, .i32⟩ : BufTy).Contents (Elt F) → (⟨S32x128x384, .i32⟩ : BufTy).Contents (Elt F)),
    binary main_v35 main_v36 main_v37 (subi : (⟨S32x128x384, .i32⟩ : BufTy).Contents (Elt F) → (⟨S32x128x384, .i32⟩ : BufTy).Contents (Elt F) → (⟨S32x128x384, .i32⟩ : BufTy).Contents (Elt F)),
    unary main_v37 main_v38 (absi : (⟨S32x128x384, .i32⟩ : BufTy).Contents (Elt F) → (⟨S32x128x384, .i32⟩ : BufTy).Contents (Elt F)),
    nullary main_c_3 (constantI S_ 32 128#32),
    unary main_c_3 main_v39 (broadcastInDim S32x128x384 ![] bcast_S_S32x128x384 : (⟨S_, .i32⟩ : BufTy).Contents (Elt F) → (⟨S32x128x384, .i32⟩ : BufTy).Contents (Elt F)),
    binary main_v38 main_v39 main_v40 (cmpi .sle : (⟨S32x128x384, .i32⟩ : BufTy).Contents (Elt F) → (⟨S32x128x384, .i32⟩ : BufTy).Contents (Elt F) → (⟨S32x128x384, .i1⟩ : BufTy).Contents (Elt F)),
    unary main_v32 main_v41 (broadcastInDim S32x1x384 ![0, 2] bcast_S32x384_S32x1x384_0_2 : (⟨S32x384, .i32⟩ : BufTy).Contents (Elt F) → (⟨S32x1x384, .i32⟩ : BufTy).Contents (Elt F)),
    nullary main_c_4 (constantI S_ 32 0#32),
    unary main_c_4 main_v42 (broadcastInDim S32x1x384 ![] bcast_S_S32x1x384 : (⟨S_, .i32⟩ : BufTy).Contents (Elt F) → (⟨S32x1x384, .i32⟩ : BufTy).Contents (Elt F)),
    binary main_v41 main_v42 main_v43 (cmpi .sge : (⟨S32x1x384, .i32⟩ : BufTy).Contents (Elt F) → (⟨S32x1x384, .i32⟩ : BufTy).Contents (Elt F) → (⟨S32x1x384, .i1⟩ : BufTy).Contents (Elt F)),
    unary main_v43 main_v44 (broadcastInDim S32x128x384 ![0, 1, 2] bcast_S32x1x384_S32x128x384_0_1_2 : (⟨S32x1x384, .i1⟩ : BufTy).Contents (Elt F) → (⟨S32x128x384, .i1⟩ : BufTy).Contents (Elt F)),
    binary main_v40 main_v44 main_v45 (andi : (⟨S32x128x384, .i1⟩ : BufTy).Contents (Elt F) → (⟨S32x128x384, .i1⟩ : BufTy).Contents (Elt F) → (⟨S32x128x384, .i1⟩ : BufTy).Contents (Elt F)),
    unary main_v32 main_v46 (broadcastInDim S32x1x384 ![0, 2] bcast_S32x384_S32x1x384_0_2 : (⟨S32x384, .i32⟩ : BufTy).Contents (Elt F) → (⟨S32x1x384, .i32⟩ : BufTy).Contents (Elt F)),
    nullary main_c_5 (constantI S_ 32 4096#32),
    unary main_c_5 main_v47 (broadcastInDim S32x1x384 ![] bcast_S_S32x1x384 : (⟨S_, .i32⟩ : BufTy).Contents (Elt F) → (⟨S32x1x384, .i32⟩ : BufTy).Contents (Elt F)),
    binary main_v46 main_v47 main_v48 (cmpi .slt : (⟨S32x1x384, .i32⟩ : BufTy).Contents (Elt F) → (⟨S32x1x384, .i32⟩ : BufTy).Contents (Elt F) → (⟨S32x1x384, .i1⟩ : BufTy).Contents (Elt F)),
    unary main_v48 main_v49 (broadcastInDim S32x128x384 ![0, 1, 2] bcast_S32x1x384_S32x128x384_0_1_2 : (⟨S32x1x384, .i1⟩ : BufTy).Contents (Elt F) → (⟨S32x128x384, .i1⟩ : BufTy).Contents (Elt F)),
    binary main_v45 main_v49 main_v50 (andi : (⟨S32x128x384, .i1⟩ : BufTy).Contents (Elt F) → (⟨S32x128x384, .i1⟩ : BufTy).Contents (Elt F) → (⟨S32x128x384, .i1⟩ : BufTy).Contents (Elt F)),
    unary main_v50 main_v51 (broadcastInDim S1x32x1x1x128x384 ![1, 4, 5] bcast_S32x128x384_S1x32x1x1x128x384_1_4_5 : (⟨S32x128x384, .i1⟩ : BufTy).Contents (Elt F) → (⟨S1x32x1x1x128x384, .i1⟩ : BufTy).Contents (Elt F)),
    nullary main_cst_6 (constant S_ .f32 0xFF800000#32),
    TRef.unary (TRef.of (T := ⟨S_, .f32⟩) main_cst_6) (TRef.of (T := ⟨S_, .f32⟩) main_call2_v0) id,
    TRef.unary (TRef.of (T := ⟨S1x32x1x1x128x384, .i1⟩) main_v51) (TRef.of (T := ⟨S4x32x2x4x128x384, .i1⟩) main_call2_v1) (broadcastInDim S4x32x2x4x128x384 ![0, 1, 2, 3, 4, 5] bcast_S1x32x1x1x128x384_S4x32x2x4x128x384_0_1_2_3_4_5),
    TRef.unary (TRef.of (T := ⟨S_, .f32⟩) main_call2_v0) (TRef.of (T := ⟨S4x32x2x4x128x384, .f32⟩) main_call2_v2) (broadcastInDim S4x32x2x4x128x384 ![] bcast_S_S4x32x2x4x128x384),
    TRef.ternary (TRef.of (T := ⟨S4x32x2x4x128x384, .i1⟩) main_call2_v1) (TRef.of (T := ⟨S4x32x2x4x128x384, .f32⟩) main_v16) (TRef.of (T := ⟨S4x32x2x4x128x384, .f32⟩) main_call2_v2) (TRef.of (T := ⟨S4x32x2x4x128x384, .f32⟩) main_v52) select ]

/-- The scores of the context and the sink. -/
abbrev c4 : List (HloOp τ sig (Elt F)) :=
  [ binary main_arg3 main_v0 main_v53 ((fun l r => Host.dotGeneral dot_S4x256x2x64_S4x32x128x2x4x64_S4x2x256x32x128x4_3_5_1_124_02_03 none l r) : (⟨S4x256x2x64, .f32⟩ : BufTy).Contents (Elt F) → (⟨S4x32x128x2x4x64, .f32⟩ : BufTy).Contents (Elt F) → (⟨S4x2x256x32x128x4, .f32⟩ : BufTy).Contents (Elt F)),
    unary main_v53 main_v54 ((transpose S4x32x2x4x128x256 [0, 3, 1, 5, 4, 2] · transposes_S4x2x256x32x128x4_S4x32x2x4x128x256_0_3_1_5_4_2) : (⟨S4x2x256x32x128x4, .f32⟩ : BufTy).Contents (Elt F) → (⟨S4x32x2x4x128x256, .f32⟩ : BufTy).Contents (Elt F)),
    nullary main_cst_7 (constant S_ .f32 0x3E000000#32),
    unary main_cst_7 main_v55 (broadcastInDim S4x32x2x4x128x256 ![] bcast_S_S4x32x2x4x128x256 : (⟨S_, .f32⟩ : BufTy).Contents (Elt F) → (⟨S4x32x2x4x128x256, .f32⟩ : BufTy).Contents (Elt F)),
    binary main_v54 main_v55 main_v56 (mulf : (⟨S4x32x2x4x128x256, .f32⟩ : BufTy).Contents (Elt F) → (⟨S4x32x2x4x128x256, .f32⟩ : BufTy).Contents (Elt F) → (⟨S4x32x2x4x128x256, .f32⟩ : BufTy).Contents (Elt F)),
    reshape main_arg5 main_v57 (rfl : (.f32 : EltTy) = .f32) shapeCasts_S8_S2x4,
    unary main_v57 main_v58 (broadcastInDim S2x4x1x1 ![0, 1] bcast_S2x4_S2x4x1x1_0_1 : (⟨S2x4, .f32⟩ : BufTy).Contents (Elt F) → (⟨S2x4x1x1, .f32⟩ : BufTy).Contents (Elt F)),
    unary main_v58 main_v59 (broadcastInDim S4x32x2x4x128x1 ![2, 3, 4, 5] bcast_S2x4x1x1_S4x32x2x4x128x1_2_3_4_5 : (⟨S2x4x1x1, .f32⟩ : BufTy).Contents (Elt F) → (⟨S4x32x2x4x128x1, .f32⟩ : BufTy).Contents (Elt F)) ]

/-- The row maximum and the exponentials. -/
abbrev c5 : List (HloOp τ sig (Elt F)) :=
  [ nary ![main_v52, main_v56, main_v59] main_v60 (fun u => joinRow (F := F) (u 0) (u 1) (u 2)),
    nullary main_cst_8 (constant S_ .f32 0xFF800000#32),
    binary main_v60 main_cst_8 main_v61 ((fun x v => Host.reduce FloatOps.maximumf x v reducesTo_S4x32x2x4x128x641_S4x32x2x4x128_d5 h_S_) : (⟨S4x32x2x4x128x641, .f32⟩ : BufTy).Contents (Elt F) → (⟨S_, .f32⟩ : BufTy).Contents (Elt F) → (⟨S4x32x2x4x128, .f32⟩ : BufTy).Contents (Elt F)),
    nullary main_cst_9 (constant S_ .f32 0xFF800000#32),
    unary main_cst_9 main_v62 (broadcastInDim S4x32x2x4x128 ![] bcast_S_S4x32x2x4x128 : (⟨S_, .f32⟩ : BufTy).Contents (Elt F) → (⟨S4x32x2x4x128, .f32⟩ : BufTy).Contents (Elt F)),
    binary main_v62 main_v61 main_v63 (maximumf : (⟨S4x32x2x4x128, .f32⟩ : BufTy).Contents (Elt F) → (⟨S4x32x2x4x128, .f32⟩ : BufTy).Contents (Elt F) → (⟨S4x32x2x4x128, .f32⟩ : BufTy).Contents (Elt F)),
    unary main_v63 main_v64 (broadcastInDim S4x32x2x4x128x1 ![0, 1, 2, 3, 4] bcast_S4x32x2x4x128_S4x32x2x4x128x1_0_1_2_3_4 : (⟨S4x32x2x4x128, .f32⟩ : BufTy).Contents (Elt F) → (⟨S4x32x2x4x128x1, .f32⟩ : BufTy).Contents (Elt F)),
    unary main_v64 main_v65 (broadcastInDim S4x32x2x4x128x641 ![0, 1, 2, 3, 4, 5] bcast_S4x32x2x4x128x1_S4x32x2x4x128x641_0_1_2_3_4_5 : (⟨S4x32x2x4x128x1, .f32⟩ : BufTy).Contents (Elt F) → (⟨S4x32x2x4x128x641, .f32⟩ : BufTy).Contents (Elt F)),
    binary main_v60 main_v65 main_v66 (subf : (⟨S4x32x2x4x128x641, .f32⟩ : BufTy).Contents (Elt F) → (⟨S4x32x2x4x128x641, .f32⟩ : BufTy).Contents (Elt F) → (⟨S4x32x2x4x128x641, .f32⟩ : BufTy).Contents (Elt F)),
    unary main_v66 main_v67 (Host.exp : (⟨S4x32x2x4x128x641, .f32⟩ : BufTy).Contents (Elt F) → (⟨S4x32x2x4x128x641, .f32⟩ : BufTy).Contents (Elt F)) ]

/-- The weights. -/
abbrev c6 : List (HloOp τ sig (Elt F)) :=
  [ nullary main_cst_10 (constant S_ .f32 0x00000000#32),
    binary main_v67 main_cst_10 main_v68 ((fun x v => Host.reduceAdd x v reducesTo_S4x32x2x4x128x641_S4x32x2x4x128_d5 h_S_) : (⟨S4x32x2x4x128x641, .f32⟩ : BufTy).Contents (Elt F) → (⟨S_, .f32⟩ : BufTy).Contents (Elt F) → (⟨S4x32x2x4x128, .f32⟩ : BufTy).Contents (Elt F)),
    unary main_v68 main_v69 (broadcastInDim S4x32x2x4x128x1 ![0, 1, 2, 3, 4] bcast_S4x32x2x4x128_S4x32x2x4x128x1_0_1_2_3_4 : (⟨S4x32x2x4x128, .f32⟩ : BufTy).Contents (Elt F) → (⟨S4x32x2x4x128x1, .f32⟩ : BufTy).Contents (Elt F)),
    unary main_v69 main_v70 (broadcastInDim S4x32x2x4x128x641 ![0, 1, 2, 3, 4, 5] bcast_S4x32x2x4x128x1_S4x32x2x4x128x641_0_1_2_3_4_5 : (⟨S4x32x2x4x128x1, .f32⟩ : BufTy).Contents (Elt F) → (⟨S4x32x2x4x128x641, .f32⟩ : BufTy).Contents (Elt F)),
    binary main_v67 main_v70 main_v71 (Host.divf : (⟨S4x32x2x4x128x641, .f32⟩ : BufTy).Contents (Elt F) → (⟨S4x32x2x4x128x641, .f32⟩ : BufTy).Contents (Elt F) → (⟨S4x32x2x4x128x641, .f32⟩ : BufTy).Contents (Elt F)) ]

/-- The weighted sums. -/
abbrev c7 : List (HloOp τ sig (Elt F)) :=
  [ unary main_v71 main_v72 ((extractStridedSlice S4x32x2x4x128x384 ![0, 0, 0, 0, 0, 0] · slices_S4x32x2x4x128x641_S4x32x2x4x128x384_0_0_0_0_0_0) : (⟨S4x32x2x4x128x641, .f32⟩ : BufTy).Contents (Elt F) → (⟨S4x32x2x4x128x384, .f32⟩ : BufTy).Contents (Elt F)),
    binary main_v12 main_v72 main_v73 ((fun l r => Host.dotGeneral dot_S4x32x384x2x64_S4x32x2x4x128x384_S4x32x2x64x4x128_2_5_4_34_013_012 none l r) : (⟨S4x32x384x2x64, .f32⟩ : BufTy).Contents (Elt F) → (⟨S4x32x2x4x128x384, .f32⟩ : BufTy).Contents (Elt F) → (⟨S4x32x2x64x4x128, .f32⟩ : BufTy).Contents (Elt F)),
    unary main_v73 main_v74 ((transpose S4x32x128x2x4x64 [0, 1, 5, 2, 4, 3] · transposes_S4x32x2x64x4x128_S4x32x128x2x4x64_0_1_5_2_4_3) : (⟨S4x32x2x64x4x128, .f32⟩ : BufTy).Contents (Elt F) → (⟨S4x32x128x2x4x64, .f32⟩ : BufTy).Contents (Elt F)),
    unary main_v71 main_v75 ((extractStridedSlice S4x32x2x4x128x256 ![0, 0, 0, 0, 0, 384] · slices_S4x32x2x4x128x641_S4x32x2x4x128x256_0_0_0_0_0_384) : (⟨S4x32x2x4x128x641, .f32⟩ : BufTy).Contents (Elt F) → (⟨S4x32x2x4x128x256, .f32⟩ : BufTy).Contents (Elt F)),
    binary main_arg4 main_v75 main_v76 ((fun l r => Host.dotGeneral dot_S4x256x2x64_S4x32x2x4x128x256_S4x2x64x32x4x128_1_5_3_134_02_02 none l r) : (⟨S4x256x2x64, .f32⟩ : BufTy).Contents (Elt F) → (⟨S4x32x2x4x128x256, .f32⟩ : BufTy).Contents (Elt F) → (⟨S4x2x64x32x4x128, .f32⟩ : BufTy).Contents (Elt F)),
    unary main_v76 main_v77 ((transpose S4x32x128x2x4x64 [0, 3, 5, 1, 4, 2] · transposes_S4x2x64x32x4x128_S4x32x128x2x4x64_0_3_5_1_4_2) : (⟨S4x2x64x32x4x128, .f32⟩ : BufTy).Contents (Elt F) → (⟨S4x32x128x2x4x64, .f32⟩ : BufTy).Contents (Elt F)),
    binary main_v74 main_v77 main_v78 (addf : (⟨S4x32x128x2x4x64, .f32⟩ : BufTy).Contents (Elt F) → (⟨S4x32x128x2x4x64, .f32⟩ : BufTy).Contents (Elt F) → (⟨S4x32x128x2x4x64, .f32⟩ : BufTy).Contents (Elt F)),
    reshape main_v78 main_v79 (rfl : (.f32 : EltTy) = .f32) shapeCasts_S4x32x128x2x4x64_S4x4096x512 ]

/-- All eight lines. -/
abbrev ops : List (HloOp τ sig (Elt F)) := c0 ++ (c1 ++ (c2 ++ (c3 ++ (c4 ++ (c5 ++ (c6 ++ c7))))))

set_option maxHeartbeats 4000000 in
/-- The reference runs the eight lines. -/
theorem main_eq (c : Dev nD) : main (F := F) c = seq ops := rfl

/-- What line 0 writes. -/
abbrev w0 : List (Ref sig .tc) := [main_v0, main_c, main_call0_v0, main_v1, main_v2, main_c_0, main_call1_v0, main_v3, main_v4, main_v5, main_v6, main_v7]

/-- Line 0 keeps every buffer it does not write. -/
theorem keep0 (V : Valuation τ sig (Elt F)) (r : Ref sig .tc) (h : r ∉ w0) :
    after c0 V (Proc.devRef .tc r) = V (Proc.devRef .tc r) :=
  after_of_writes_sub c0 V (forall_writes_sub_of_map (W := w0) rfl) h

/-- Line 0 touches the device's own buffers. -/
theorem sub0 : (c0 : List (HloOp τ sig (Elt F))).Forall fun op => op.bufs ⊆ tcRefs τ sig :=
  ⟨reshape_bufs_sub .., nullary_bufs_sub .., unary_bufs_sub .., binary_bufs_sub .., reshape_bufs_sub .., nullary_bufs_sub .., unary_bufs_sub .., binary_bufs_sub .., reshape_bufs_sub .., unary_bufs_sub .., unary_bufs_sub .., unary_bufs_sub ..⟩

/-- Line 0 determines every result. -/
theorem fresh0 : ∀ op ∈ (c0 : List (HloOp τ sig (Elt F))), op.fresh = ∅ := by
  intro _ h; (repeat (cases h with | head => rfl | tail _ h => ?_)); exact nomatch h

/-- What line 1 writes. -/
abbrev w1 : List (Ref sig .tc) := [main_v8, main_v9, main_v10, main_v11]

/-- Line 1 keeps every buffer it does not write. -/
theorem keep1 (V : Valuation τ sig (Elt F)) (r : Ref sig .tc) (h : r ∉ w1) :
    after c1 V (Proc.devRef .tc r) = V (Proc.devRef .tc r) :=
  after_of_writes_sub c1 V (forall_writes_sub_of_map (W := w1) rfl) h

/-- Line 1 touches the device's own buffers. -/
theorem sub1 : (c1 : List (HloOp τ sig (Elt F))).Forall fun op => op.bufs ⊆ tcRefs τ sig :=
  ⟨nary_bufs_sub .., unary_bufs_sub .., unary_bufs_sub .., unary_bufs_sub ..⟩

/-- Line 1 determines every result. -/
theorem fresh1 : ∀ op ∈ (c1 : List (HloOp τ sig (Elt F))), op.fresh = ∅ := by
  intro _ h; (repeat (cases h with | head => rfl | tail _ h => ?_)); exact nomatch h

/-- What line 2 writes. -/
abbrev w2 : List (Ref sig .tc) := [main_v12, main_v13, main_v14, main_cst, main_v15, main_v16]

/-- Line 2 keeps every buffer it does not write. -/
theorem keep2 (V : Valuation τ sig (Elt F)) (r : Ref sig .tc) (h : r ∉ w2) :
    after c2 V (Proc.devRef .tc r) = V (Proc.devRef .tc r) :=
  after_of_writes_sub c2 V (forall_writes_sub_of_map (W := w2) rfl) h

/-- Line 2 touches the device's own buffers. -/
theorem sub2 : (c2 : List (HloOp τ sig (Elt F))).Forall fun op => op.bufs ⊆ tcRefs τ sig :=
  ⟨nary_bufs_sub .., binary_bufs_sub .., unary_bufs_sub .., nullary_bufs_sub .., unary_bufs_sub .., binary_bufs_sub ..⟩

/-- Line 2 determines every result. -/
theorem fresh2 : ∀ op ∈ (c2 : List (HloOp τ sig (Elt F))), op.fresh = ∅ := by
  intro _ h; (repeat (cases h with | head => rfl | tail _ h => ?_)); exact nomatch h

/-- What line 3 writes. -/
abbrev w3 : List (Ref sig .tc) := [main_v17, main_v18, main_c_1, main_v19, main_v20, main_v21, main_v22, main_v23, main_v24, main_v25, main_c_2, main_v26, main_v27, main_v28, main_v29, main_v30, main_v31, main_v32, main_v33, main_v34, main_v35, main_v36, main_v37, main_v38, main_c_3, main_v39, main_v40, main_v41, main_c_4, main_v42, main_v43, main_v44, main_v45, main_v46, main_c_5, main_v47, main_v48, main_v49, main_v50, main_v51, main_cst_6, main_call2_v0, main_call2_v1, main_call2_v2, main_v52]

/-- Line 3 keeps every buffer it does not write. -/
theorem keep3 (V : Valuation τ sig (Elt F)) (r : Ref sig .tc) (h : r ∉ w3) :
    after c3 V (Proc.devRef .tc r) = V (Proc.devRef .tc r) :=
  after_of_writes_sub c3 V (forall_writes_sub_of_map (W := w3) rfl) h

/-- Line 3 touches the device's own buffers. -/
theorem sub3 : (c3 : List (HloOp τ sig (Elt F))).Forall fun op => op.bufs ⊆ tcRefs τ sig :=
  ⟨nullary_bufs_sub .., unary_bufs_sub .., nullary_bufs_sub .., unary_bufs_sub .., binary_bufs_sub .., nullary_bufs_sub .., unary_bufs_sub .., unary_bufs_sub .., unary_bufs_sub .., binary_bufs_sub .., nullary_bufs_sub .., unary_bufs_sub .., binary_bufs_sub .., nullary_bufs_sub .., unary_bufs_sub .., unary_bufs_sub .., unary_bufs_sub .., binary_bufs_sub .., unary_bufs_sub .., unary_bufs_sub .., unary_bufs_sub .., unary_bufs_sub .., binary_bufs_sub .., unary_bufs_sub .., nullary_bufs_sub .., unary_bufs_sub .., binary_bufs_sub .., unary_bufs_sub .., nullary_bufs_sub .., unary_bufs_sub .., binary_bufs_sub .., unary_bufs_sub .., binary_bufs_sub .., unary_bufs_sub .., nullary_bufs_sub .., unary_bufs_sub .., binary_bufs_sub .., unary_bufs_sub .., binary_bufs_sub .., unary_bufs_sub .., nullary_bufs_sub .., unary_bufs_sub .., unary_bufs_sub .., unary_bufs_sub .., ternary_bufs_sub ..⟩

/-- Line 3 determines every result. -/
theorem fresh3 : ∀ op ∈ (c3 : List (HloOp τ sig (Elt F))), op.fresh = ∅ := by
  intro _ h; (repeat (cases h with | head => rfl | tail _ h => ?_)); exact nomatch h

/-- What line 4 writes. -/
abbrev w4 : List (Ref sig .tc) := [main_v53, main_v54, main_cst_7, main_v55, main_v56, main_v57, main_v58, main_v59]

/-- Line 4 keeps every buffer it does not write. -/
theorem keep4 (V : Valuation τ sig (Elt F)) (r : Ref sig .tc) (h : r ∉ w4) :
    after c4 V (Proc.devRef .tc r) = V (Proc.devRef .tc r) :=
  after_of_writes_sub c4 V (forall_writes_sub_of_map (W := w4) rfl) h

/-- Line 4 touches the device's own buffers. -/
theorem sub4 : (c4 : List (HloOp τ sig (Elt F))).Forall fun op => op.bufs ⊆ tcRefs τ sig :=
  ⟨binary_bufs_sub .., unary_bufs_sub .., nullary_bufs_sub .., unary_bufs_sub .., binary_bufs_sub .., reshape_bufs_sub .., unary_bufs_sub .., unary_bufs_sub ..⟩

/-- Line 4 determines every result. -/
theorem fresh4 : ∀ op ∈ (c4 : List (HloOp τ sig (Elt F))), op.fresh = ∅ := by
  intro _ h; (repeat (cases h with | head => rfl | tail _ h => ?_)); exact nomatch h

/-- What line 5 writes. -/
abbrev w5 : List (Ref sig .tc) := [main_v60, main_cst_8, main_v61, main_cst_9, main_v62, main_v63, main_v64, main_v65, main_v66, main_v67]

/-- Line 5 keeps every buffer it does not write. -/
theorem keep5 (V : Valuation τ sig (Elt F)) (r : Ref sig .tc) (h : r ∉ w5) :
    after c5 V (Proc.devRef .tc r) = V (Proc.devRef .tc r) :=
  after_of_writes_sub c5 V (forall_writes_sub_of_map (W := w5) rfl) h

/-- Line 5 touches the device's own buffers. -/
theorem sub5 : (c5 : List (HloOp τ sig (Elt F))).Forall fun op => op.bufs ⊆ tcRefs τ sig :=
  ⟨nary_bufs_sub .., nullary_bufs_sub .., binary_bufs_sub .., nullary_bufs_sub .., unary_bufs_sub .., binary_bufs_sub .., unary_bufs_sub .., unary_bufs_sub .., binary_bufs_sub .., unary_bufs_sub ..⟩

/-- Line 5 determines every result. -/
theorem fresh5 : ∀ op ∈ (c5 : List (HloOp τ sig (Elt F))), op.fresh = ∅ := by
  intro _ h; (repeat (cases h with | head => rfl | tail _ h => ?_)); exact nomatch h

/-- What line 6 writes. -/
abbrev w6 : List (Ref sig .tc) := [main_cst_10, main_v68, main_v69, main_v70, main_v71]

/-- Line 6 keeps every buffer it does not write. -/
theorem keep6 (V : Valuation τ sig (Elt F)) (r : Ref sig .tc) (h : r ∉ w6) :
    after c6 V (Proc.devRef .tc r) = V (Proc.devRef .tc r) :=
  after_of_writes_sub c6 V (forall_writes_sub_of_map (W := w6) rfl) h

/-- Line 6 touches the device's own buffers. -/
theorem sub6 : (c6 : List (HloOp τ sig (Elt F))).Forall fun op => op.bufs ⊆ tcRefs τ sig :=
  ⟨nullary_bufs_sub .., binary_bufs_sub .., unary_bufs_sub .., unary_bufs_sub .., binary_bufs_sub ..⟩

/-- Line 6 determines every result. -/
theorem fresh6 : ∀ op ∈ (c6 : List (HloOp τ sig (Elt F))), op.fresh = ∅ := by
  intro _ h; (repeat (cases h with | head => rfl | tail _ h => ?_)); exact nomatch h

/-- What line 7 writes. -/
abbrev w7 : List (Ref sig .tc) := [main_v72, main_v73, main_v74, main_v75, main_v76, main_v77, main_v78, main_v79]

/-- Line 7 keeps every buffer it does not write. -/
theorem keep7 (V : Valuation τ sig (Elt F)) (r : Ref sig .tc) (h : r ∉ w7) :
    after c7 V (Proc.devRef .tc r) = V (Proc.devRef .tc r) :=
  after_of_writes_sub c7 V (forall_writes_sub_of_map (W := w7) rfl) h

/-- Line 7 touches the device's own buffers. -/
theorem sub7 : (c7 : List (HloOp τ sig (Elt F))).Forall fun op => op.bufs ⊆ tcRefs τ sig :=
  ⟨unary_bufs_sub .., binary_bufs_sub .., unary_bufs_sub .., unary_bufs_sub .., binary_bufs_sub .., unary_bufs_sub .., binary_bufs_sub .., reshape_bufs_sub ..⟩

/-- Line 7 determines every result. -/
theorem fresh7 : ∀ op ∈ (c7 : List (HloOp τ sig (Elt F))), op.fresh = ∅ := by
  intro _ h; (repeat (cases h with | head => rfl | tail _ h => ?_)); exact nomatch h

/-- The program has no scoped buffers. -/
theorem scopedRefs_eq : (Finset.univ.filter fun b : Ref sig .tc => b.isScoped) = ∅ := by decide
/-- The program has no scoped semaphores. -/
theorem scopedSems_eq : (Finset.univ.filter fun sm : SemLoc sig => sm.isScoped .tc) = ∅ := by decide

/-- All lines touch the device's own buffers. -/
theorem ops_sub : (ops : List (HloOp τ sig (Elt F))).Forall fun op => op.bufs ⊆ tcRefs τ sig := by
  simp only [ops, List.forall_append]
  exact ⟨sub0, sub1, sub2, sub3, sub4, sub5, sub6, sub7⟩

/-- All lines determine every result. -/
theorem ops_fresh : ∀ op ∈ (ops : List (HloOp τ sig (Elt F))), op.fresh = ∅ := by
  intro op h
  simp only [ops, List.mem_append] at h
  rcases h with h | h | h | h | h | h | h | h
  exacts [fresh0 op h, fresh1 op h, fresh2 op h, fresh3 op h, fresh4 op h, fresh5 op h, fresh6 op h, fresh7 op h]

/-- The buffers after the first 1 lines, from contents `V`. -/
def v1 (V : Valuation τ sig (Elt F)) := after c0 V
/-- The buffers after the first 2 lines, from contents `V`. -/
def v2 (V : Valuation τ sig (Elt F)) := after c1 (v1 V)
/-- The buffers after the first 3 lines, from contents `V`. -/
def v3 (V : Valuation τ sig (Elt F)) := after c2 (v2 V)
/-- The buffers after the first 4 lines, from contents `V`. -/
def v4 (V : Valuation τ sig (Elt F)) := after c3 (v3 V)
/-- The buffers after the first 5 lines, from contents `V`. -/
def v5 (V : Valuation τ sig (Elt F)) := after c4 (v4 V)
/-- The buffers after the first 6 lines, from contents `V`. -/
def v6 (V : Valuation τ sig (Elt F)) := after c5 (v5 V)
/-- The buffers after the first 7 lines, from contents `V`. -/
def v7 (V : Valuation τ sig (Elt F)) := after c6 (v6 V)
/-- The buffers after the first 8 lines, from contents `V`. -/
def v8 (V : Valuation τ sig (Elt F)) := after c7 (v7 V)

/-- The whole line by its parts. -/
theorem after_ops (V : Valuation τ sig (Elt F)) : after ops V = v8 V := by
  simp only [ops, after_append]; rfl

/-- A buffer that the first 1 lines do not write keeps its contents through them. -/
theorem kept1 (V : Valuation τ sig (Elt F)) (r : Ref sig .tc) (h : r ∉ w0) :
    v1 V (Proc.devRef .tc r) = V (Proc.devRef .tc r) := by
  exact keep0 V r h

/-- A buffer that the first 2 lines do not write keeps its contents through them. -/
theorem kept2 (V : Valuation τ sig (Elt F)) (r : Ref sig .tc) (h : r ∉ w0 ++ w1) :
    v2 V (Proc.devRef .tc r) = V (Proc.devRef .tc r) := by
  have h' := List.mem_append.not.mp h
  exact (keep1 _ r fun x => h' (Or.inr x)).trans (kept1 V r fun x => h' (Or.inl x))

/-- A buffer that the first 3 lines do not write keeps its contents through them. -/
theorem kept3 (V : Valuation τ sig (Elt F)) (r : Ref sig .tc) (h : r ∉ w0 ++ w1 ++ w2) :
    v3 V (Proc.devRef .tc r) = V (Proc.devRef .tc r) := by
  have h' := List.mem_append.not.mp h
  exact (keep2 _ r fun x => h' (Or.inr x)).trans (kept2 V r fun x => h' (Or.inl x))

/-- A buffer that the first 4 lines do not write keeps its contents through them. -/
theorem kept4 (V : Valuation τ sig (Elt F)) (r : Ref sig .tc) (h : r ∉ w0 ++ w1 ++ w2 ++ w3) :
    v4 V (Proc.devRef .tc r) = V (Proc.devRef .tc r) := by
  have h' := List.mem_append.not.mp h
  exact (keep3 _ r fun x => h' (Or.inr x)).trans (kept3 V r fun x => h' (Or.inl x))

/-- A buffer that the first 5 lines do not write keeps its contents through them. -/
theorem kept5 (V : Valuation τ sig (Elt F)) (r : Ref sig .tc) (h : r ∉ w0 ++ w1 ++ w2 ++ w3 ++ w4) :
    v5 V (Proc.devRef .tc r) = V (Proc.devRef .tc r) := by
  have h' := List.mem_append.not.mp h
  exact (keep4 _ r fun x => h' (Or.inr x)).trans (kept4 V r fun x => h' (Or.inl x))

/-- A buffer that the first 6 lines do not write keeps its contents through them. -/
theorem kept6 (V : Valuation τ sig (Elt F)) (r : Ref sig .tc) (h : r ∉ w0 ++ w1 ++ w2 ++ w3 ++ w4 ++ w5) :
    v6 V (Proc.devRef .tc r) = V (Proc.devRef .tc r) := by
  have h' := List.mem_append.not.mp h
  exact (keep5 _ r fun x => h' (Or.inr x)).trans (kept5 V r fun x => h' (Or.inl x))

/-- A buffer that the first 7 lines do not write keeps its contents through them. -/
theorem kept7 (V : Valuation τ sig (Elt F)) (r : Ref sig .tc) (h : r ∉ w0 ++ w1 ++ w2 ++ w3 ++ w4 ++ w5 ++ w6) :
    v7 V (Proc.devRef .tc r) = V (Proc.devRef .tc r) := by
  have h' := List.mem_append.not.mp h
  exact (keep6 _ r fun x => h' (Or.inr x)).trans (kept6 V r fun x => h' (Or.inl x))

/-- A buffer that the first 8 lines do not write keeps its contents through them. -/
theorem kept8 (V : Valuation τ sig (Elt F)) (r : Ref sig .tc) (h : r ∉ w0 ++ w1 ++ w2 ++ w3 ++ w4 ++ w5 ++ w6 ++ w7) :
    v8 V (Proc.devRef .tc r) = V (Proc.devRef .tc r) := by
  have h' := List.mem_append.not.mp h
  exact (keep7 _ r fun x => h' (Or.inr x)).trans (kept7 V r fun x => h' (Or.inl x))

/-- From any memory with zero counters every execution of the reference terminates, each buffer at what the eight lines
leave. -/
theorem run (m : (ℓ : Loc nD τ sig) → Buf (Elt F) ℓ) (ρ : Dev nD → PrngReg) :
    θ_run defs (onTc (τ := τ) (main (F := F))) ⟨m, fun _ => 0, ρ⟩ fun r => ∀ (d : Dev nD) (b : Ref sig .tc),
      r.2.mem ((d.tc : Thread nD τ).loc b) = v8 (launchContents m d) (Proc.devRef .tc b) :=
  (θ_run defs _ _).mono (fun _ h d b => (h d b).trans (by rw [after_ops]))
    (run_seq scopedRefs_eq scopedSems_eq defs main (fun _ => ops) main_eq (fun _ => ops_sub) m ρ (fun _ => ops_fresh))

end Cert.AttnLine

end
-- ==== Proof.AttnRef.lean ====
module

public import proofs.«01_k».proof.Proof.AttnLine
public import proofs.«01_k».proof.Proof.AttnSpec
public import proofs.«01_k».proof.Proof.AttnWords
public import Idealize.ShloMosaic.Lib.StableHlo.ReadAt

/-! The attention reference's scores, read at an element from the buffers before each line. -/

@[expose] public section

set_option maxRecDepth 16384

noncomputable section

namespace Cert.AttnRef

open Idealize.SL.Sem Cert.ReferenceIdeal Cert.ReferenceIdeal.Gen Cert.AttnLine Cert.Attn Idealize.ShloMosaic Idealize.ShloMosaic.TcCoe
  Idealize.ShloMosaic.StableHlo

variable (A : Args) (b : Fin 4) (n : Fin 32) (r : Fin 128) (j : Fin 2) (g : Fin 4) (V : Valuation τ sig (Elt Ideal))

/-- The scores' scale as the program writes it. -/
theorem scale_eq : Ideal.ofBits .f32 1040187392#32 = scale := by
  unfold scale
  simp [Ideal.ofBits, Ideal.ieee, -EReal.coe_mul]; norm_num

/-- The mask's value as the program writes it. -/
theorem mask_eq : Ideal.ofBits .f32 4286578688#32 = ⊥ := by simp [Ideal.ofBits, Ideal.ieee]

/-- The padding is zero. -/
theorem pad_zero : (FloatOps.sitofp FTy.f32 (0#32) : Ideal .f32) = (0 : EReal) := by
  show (((0#32 : BitVec 32).toInt : ℝ) : EReal) = 0
  simp

/-- A row inside the array. -/
theorem rowAt_pos (X : (⟨4, ![4, 4096, 2, 64]⟩ : Shape).Idx → EReal) (c : Fin 384) (d : Fin 64) (h : 128 ≤ 128 * n.val + c.val ∧ 128 * n.val + c.val < 4224) :
    rowAt b n j X c d = X (ix4 b ⟨128 * n.val + c.val - 128, by omega⟩ j d) := dif_pos h

/-- A row outside the array. -/
theorem rowAt_neg (X : (⟨4, ![4, 4096, 2, 64]⟩ : Shape).Idx → EReal) (c : Fin 384) (d : Fin 64) (h : ¬ (128 ≤ 128 * n.val + c.val ∧ 128 * n.val + c.val < 4224)) :
    rowAt b n j X c d = 0 := dif_neg h

/-- The queries by block. -/
theorem q_at (d : Fin 64) (h : V (Proc.devRef .tc main_arg0) = A.q) :
    after c0 V (Proc.devRef .tc main_v0) (ix6 b n r j g d) = qAt A b n r j g d := by
  after_reads_at
  rw [h]
  unfold qAt
  congr 2
  · exact Fin.ext (by simp only; omega)
  · exact Fin.ext (by simp only; omega)

/-- The keys of the block 0 rows after the first of the three. -/
theorem k5_at (c : Fin 128) (d : Fin 64) (h : V (Proc.devRef .tc main_arg1) = A.k) :
    after c0 V (Proc.devRef .tc main_v5) (ix5 b n c j d) = rowAt b n j A.k ⟨c.val, by omega⟩ d := by
  after_reads_at
  split
  · next h1 =>
    refine (congrFun h _).trans (Eq.trans ?_ (rowAt_pos b n j A.k ⟨c.val, by omega⟩ d (by first | omega | (simp only; omega))).symm)
    refine congrArg (fun t => A.k (ix4 b t j d)) (Fin.ext ?_)
    first | omega | (simp only; omega)
  · next h1 =>
    exact pad_zero.trans (rowAt_neg b n j A.k ⟨c.val, by omega⟩ d (by first | omega | (simp only; omega))).symm

/-- The keys of the block 128 rows after the first of the three. -/
theorem k6_at (c : Fin 128) (d : Fin 64) (h : V (Proc.devRef .tc main_arg1) = A.k) :
    after c0 V (Proc.devRef .tc main_v6) (ix5 b n c j d) = rowAt b n j A.k ⟨128 + c.val, by omega⟩ d := by
  after_reads_at
  split
  · next h1 =>
    refine (congrFun h _).trans (Eq.trans ?_ (rowAt_pos b n j A.k ⟨128 + c.val, by omega⟩ d (by first | omega | (simp only; omega))).symm)
    refine congrArg (fun t => A.k (ix4 b t j d)) (Fin.ext ?_)
    first | omega | (simp only; omega)
  · next h1 =>
    exact pad_zero.trans (rowAt_neg b n j A.k ⟨128 + c.val, by omega⟩ d (by first | omega | (simp only; omega))).symm

/-- The keys of the block 256 rows after the first of the three. -/
theorem k7_at (c : Fin 128) (d : Fin 64) (h : V (Proc.devRef .tc main_arg1) = A.k) :
    after c0 V (Proc.devRef .tc main_v7) (ix5 b n c j d) = rowAt b n j A.k ⟨256 + c.val, by omega⟩ d := by
  after_reads_at
  split
  · next h1 =>
    refine (congrFun h _).trans (Eq.trans ?_ (rowAt_pos b n j A.k ⟨256 + c.val, by omega⟩ d (by first | omega | (simp only; omega))).symm)
    refine congrArg (fun t => A.k (ix4 b t j d)) (Fin.ext ?_)
    first | omega | (simp only; omega)
  · next h1 =>
    exact pad_zero.trans (rowAt_neg b n j A.k ⟨256 + c.val, by omega⟩ d (by first | omega | (simp only; omega))).symm

/-- The padded values by block. -/
theorem v4_at (B : Fin 34) (c : Fin 128) (d : Fin 64) (h : V (Proc.devRef .tc main_arg2) = A.v) (c' : Fin 384)
    (e : B.val * 128 + c.val = 128 * n.val + c'.val) :
    after c0 V (Proc.devRef .tc main_v4) (ix5 b B c j d) = rowAt b n j A.v c' d := by
  after_reads_at
  split
  · next h1 =>
    refine (congrFun h _).trans (Eq.trans ?_ (rowAt_pos b n j A.v c' d (by first | omega | (simp only; omega))).symm)
    refine congrArg (fun t => A.v (ix4 b t j d)) (Fin.ext ?_)
    first | omega | (simp only; omega)
  · next h1 =>
    exact pad_zero.trans (rowAt_neg b n j A.v c' d (by first | omega | (simp only; omega))).symm

/-- A block of the padded values. -/
theorem v9_at (c : Fin 128) (d : Fin 64) (G : EReal) (h : V (Proc.devRef .tc main_v4) (ix5 b ⟨n.val, by omega⟩ c j d) = G) :
    after c1 V (Proc.devRef .tc main_v9) (ix5 b n c j d) = G := by
  after_reads_at
  first
  | exact h
  | (refine Eq.trans ?_ h; congr 2; exact Fin.ext (by simp only; omega))

/-- A block of the padded values. -/
theorem v10_at (c : Fin 128) (d : Fin 64) (G : EReal) (h : V (Proc.devRef .tc main_v4) (ix5 b ⟨1 + n.val, by omega⟩ c j d) = G) :
    after c1 V (Proc.devRef .tc main_v10) (ix5 b n c j d) = G := by
  after_reads_at
  first
  | exact h
  | (refine Eq.trans ?_ h; congr 2; exact Fin.ext (by simp only; omega))

/-- A block of the padded values. -/
theorem v11_at (c : Fin 128) (d : Fin 64) (G : EReal) (h : V (Proc.devRef .tc main_v4) (ix5 b ⟨2 + n.val, by omega⟩ c j d) = G) :
    after c1 V (Proc.devRef .tc main_v11) (ix5 b n c j d) = G := by
  after_reads_at
  first
  | exact h
  | (refine Eq.trans ?_ h; congr 2; exact Fin.ext (by simp only; omega))

/-- The three blocks about a block, one after the other. -/
theorem k8_at (c : Fin 384) (d : Fin 64)
    (h0 : ∀ (c : Fin 128) (d : Fin 64), V (Proc.devRef .tc main_v5) (ix5 b n c j d) = rowAt b n j A.k ⟨c.val, by omega⟩ d)
    (h1 : ∀ (c : Fin 128) (d : Fin 64), V (Proc.devRef .tc main_v6) (ix5 b n c j d) = rowAt b n j A.k ⟨128 + c.val, by omega⟩ d)
    (h2 : ∀ (c : Fin 128) (d : Fin 64), V (Proc.devRef .tc main_v7) (ix5 b n c j d) = rowAt b n j A.k ⟨256 + c.val, by omega⟩ d) :
    after c1 V (Proc.devRef .tc main_v8) (ix5 b n c j d) = rowAt b n j A.k c d := by
  after_reads_at
  pointwise [join3]
  split_ifs
  all_goals first
    | exact h0 ⟨c.val, by omega⟩ d
    | exact (h1 ⟨c.val - 128, by omega⟩ d).trans (congrArg (fun x => rowAt b n j _ x d) (Fin.ext (by simp only; omega)))
    | exact (h2 ⟨c.val - 128 - 128, by omega⟩ d).trans (congrArg (fun x => rowAt b n j _ x d) (Fin.ext (by simp only; omega)))

/-- The three blocks about a block, one after the other. -/
theorem v12_at (c : Fin 384) (d : Fin 64)
    (h0 : ∀ (c : Fin 128) (d : Fin 64), V (Proc.devRef .tc main_v9) (ix5 b n c j d) = rowAt b n j A.v ⟨c.val, by omega⟩ d)
    (h1 : ∀ (c : Fin 128) (d : Fin 64), V (Proc.devRef .tc main_v10) (ix5 b n c j d) = rowAt b n j A.v ⟨128 + c.val, by omega⟩ d)
    (h2 : ∀ (c : Fin 128) (d : Fin 64), V (Proc.devRef .tc main_v11) (ix5 b n c j d) = rowAt b n j A.v ⟨256 + c.val, by omega⟩ d) :
    after c2 V (Proc.devRef .tc main_v12) (ix5 b n c j d) = rowAt b n j A.v c d := by
  after_reads_at
  pointwise [join3]
  split_ifs
  all_goals first
    | exact h0 ⟨c.val, by omega⟩ d
    | exact (h1 ⟨c.val - 128, by omega⟩ d).trans (congrArg (fun x => rowAt b n j _ x d) (Fin.ext (by simp only; omega)))
    | exact (h2 ⟨c.val - 128 - 128, by omega⟩ d).trans (congrArg (fun x => rowAt b n j _ x d) (Fin.ext (by simp only; omega)))

/-- The scores of the three blocks before the mask. -/
theorem s16_at (c : Fin 384) (h8 : ∀ d, V (Proc.devRef .tc main_v8) (ix5 b n c j d) = rowAt b n j A.k c d)
    (h0 : ∀ d, V (Proc.devRef .tc main_v0) (ix6 b n r j g d) = qAt A b n r j g d) :
    after c2 V (Proc.devRef .tc main_v16) (ix6 b n j g r c) = (∑ d, rowAt b n j A.k c d * qAt A b n r j g d) * scale := by
  after_reads_at
  rw [scale_eq]
  exact congrArg (· * scale) (Finset.sum_congr rfl fun d _ => congrArg₂ (fun x y : EReal => x * y) (h8 d) (h0 d))

/-- The masked scores. -/
theorem s52_at (c : Fin 384) (G : EReal) (h : V (Proc.devRef .tc main_v16) (ix6 b n j g r c) = G) :
    after c3 V (Proc.devRef .tc main_v52) (ix6 b n j g r c) = if near n r c then G else ⊥ := by
  after_reads_at
  refine (congrArg (fun w => Scalar.select w _ _) (AttnWords.ref_near n r c)).trans ?_
  by_cases hn : near n r c
  · rw [if_pos hn, decide_eq_true hn]
    exact h
  · rw [if_neg hn, decide_eq_false hn]
    exact mask_eq

/-- The scores of the context. -/
theorem s56_at (c : Fin 256) (hk : V (Proc.devRef .tc main_arg3) = A.kc)
    (h0 : ∀ d, V (Proc.devRef .tc main_v0) (ix6 b n r j g d) = qAt A b n r j g d) :
    after c4 V (Proc.devRef .tc main_v56) (ix6 b n j g r c) = ctxScore A b n r j g c := by
  after_reads_at
  rw [scale_eq, hk]
  exact congrArg (· * scale) (Finset.sum_congr rfl fun d _ => congrArg (fun y : EReal => A.kc (ix4 b c j d) * y) (h0 d))

/-- The sinks. -/
theorem s59_at (h : V (Proc.devRef .tc main_arg5) = A.sink) :
    after c4 V (Proc.devRef .tc main_v59) (ix6 b n j g r 0) = sinkAt A j g := by
  after_reads_at
  rw [h]
  unfold sinkAt
  congr 2
  exact Fin.ext (by simp only; omega)

end Cert.AttnRef
end
-- ==== Proof.AttnSoft.lean ====
module

public import proofs.«01_k».proof.Proof.AttnLine
public import proofs.«01_k».proof.Proof.AttnSpec
public import Idealize.ShloMosaic.Lib.StableHlo.ReadAt

/-! The attention reference's softmax and weighted sums, read at an element from the buffers before each line. -/

@[expose] public section

set_option maxRecDepth 16384

noncomputable section

namespace Cert.AttnSoft

open Idealize.SL.Sem Cert.ReferenceIdeal Cert.ReferenceIdeal.Gen Cert.AttnLine Cert.Attn Idealize.ShloMosaic Idealize.ShloMosaic.TcCoe
  Idealize.ShloMosaic.StableHlo

section Line

variable {F : FTy → Type} [FloatOps F]

/-- The joined scores. -/
abbrev c5a : List (HloOp τ sig (Elt F)) :=
  [ nary ![main_v52, main_v56, main_v59] main_v60 (fun u => joinRow (F := F) (u 0) (u 1) (u 2)),
    nullary main_cst_8 (constant S_ .f32 0xFF800000#32) ]

/-- The rows' maxima. -/
abbrev c5b : List (HloOp τ sig (Elt F)) :=
  [ binary main_v60 main_cst_8 main_v61 ((fun x v => Host.reduce FloatOps.maximumf x v reducesTo_S4x32x2x4x128x641_S4x32x2x4x128_d5 h_S_) : (⟨S4x32x2x4x128x641, .f32⟩ : BufTy).Contents (Elt F) → (⟨S_, .f32⟩ : BufTy).Contents (Elt F) → (⟨S4x32x2x4x128, .f32⟩ : BufTy).Contents (Elt F)) ]

/-- The exponentials. -/
abbrev c5c : List (HloOp τ sig (Elt F)) :=
  [ nullary main_cst_9 (constant S_ .f32 0xFF800000#32),
    unary main_cst_9 main_v62 (broadcastInDim S4x32x2x4x128 ![] bcast_S_S4x32x2x4x128 : (⟨S_, .f32⟩ : BufTy).Contents (Elt F) → (⟨S4x32x2x4x128, .f32⟩ : BufTy).Contents (Elt F)),
    binary main_v62 main_v61 main_v63 (maximumf : (⟨S4x32x2x4x128, .f32⟩ : BufTy).Contents (Elt F) → (⟨S4x32x2x4x128, .f32⟩ : BufTy).Contents (Elt F) → (⟨S4x32x2x4x128, .f32⟩ : BufTy).Contents (Elt F)),
    unary main_v63 main_v64 (broadcastInDim S4x32x2x4x128x1 ![0, 1, 2, 3, 4] bcast_S4x32x2x4x128_S4x32x2x4x128x1_0_1_2_3_4 : (⟨S4x32x2x4x128, .f32⟩ : BufTy).Contents (Elt F) → (⟨S4x32x2x4x128x1, .f32⟩ : BufTy).Contents (Elt F)),
    unary main_v64 main_v65 (broadcastInDim S4x32x2x4x128x641 ![0, 1, 2, 3, 4, 5] bcast_S4x32x2x4x128x1_S4x32x2x4x128x641_0_1_2_3_4_5 : (⟨S4x32x2x4x128x1, .f32⟩ : BufTy).Contents (Elt F) → (⟨S4x32x2x4x128x641, .f32⟩ : BufTy).Contents (Elt F)),
    binary main_v60 main_v65 main_v66 (subf : (⟨S4x32x2x4x128x641, .f32⟩ : BufTy).Contents (Elt F) → (⟨S4x32x2x4x128x641, .f32⟩ : BufTy).Contents (Elt F) → (⟨S4x32x2x4x128x641, .f32⟩ : BufTy).Contents (Elt F)),
    unary main_v66 main_v67 (Host.exp : (⟨S4x32x2x4x128x641, .f32⟩ : BufTy).Contents (Elt F) → (⟨S4x32x2x4x128x641, .f32⟩ : BufTy).Contents (Elt F)) ]

/-- The zero. -/
abbrev c6a : List (HloOp τ sig (Elt F)) :=
  [ nullary main_cst_10 (constant S_ .f32 0x00000000#32) ]

/-- The rows' sums. -/
abbrev c6b : List (HloOp τ sig (Elt F)) :=
  [ binary main_v67 main_cst_10 main_v68 ((fun x v => Host.reduceAdd x v reducesTo_S4x32x2x4x128x641_S4x32x2x4x128_d5 h_S_) : (⟨S4x32x2x4x128x641, .f32⟩ : BufTy).Contents (Elt F) → (⟨S_, .f32⟩ : BufTy).Contents (Elt F) → (⟨S4x32x2x4x128, .f32⟩ : BufTy).Contents (Elt F)) ]

/-- The quotients. -/
abbrev c6c : List (HloOp τ sig (Elt F)) :=
  [ unary main_v68 main_v69 (broadcastInDim S4x32x2x4x128x1 ![0, 1, 2, 3, 4] bcast_S4x32x2x4x128_S4x32x2x4x128x1_0_1_2_3_4 : (⟨S4x32x2x4x128, .f32⟩ : BufTy).Contents (Elt F) → (⟨S4x32x2x4x128x1, .f32⟩ : BufTy).Contents (Elt F)),
    unary main_v69 main_v70 (broadcastInDim S4x32x2x4x128x641 ![0, 1, 2, 3, 4, 5] bcast_S4x32x2x4x128x1_S4x32x2x4x128x641_0_1_2_3_4_5 : (⟨S4x32x2x4x128x1, .f32⟩ : BufTy).Contents (Elt F) → (⟨S4x32x2x4x128x641, .f32⟩ : BufTy).Contents (Elt F)),
    binary main_v67 main_v70 main_v71 (Host.divf : (⟨S4x32x2x4x128x641, .f32⟩ : BufTy).Contents (Elt F) → (⟨S4x32x2x4x128x641, .f32⟩ : BufTy).Contents (Elt F) → (⟨S4x32x2x4x128x641, .f32⟩ : BufTy).Contents (Elt F)) ]

end Line

/-- A row's three blocks, the context and the sink one after the other. -/
def rowOf (x : Fin 384 → EReal) (y : Fin 256 → EReal) (s : EReal) (k : Fin 641) : EReal :=
  if h : k.val < 384 then x ⟨k.val, h⟩ else if h : k.val - 384 < 256 then y ⟨k.val - 384, h⟩ else s

section Row

variable (x : Fin 384 → EReal) (y : Fin 256 → EReal) (s : EReal)

/-- The row's first part. -/
theorem rowOf_l (c : Fin 384) : rowOf x y s ⟨c.val, by omega⟩ = x c := by
  unfold rowOf
  rw [dif_pos c.isLt]

/-- The row's second part. -/
theorem rowOf_x (c : Fin 256) : rowOf x y s ⟨384 + c.val, by omega⟩ = y c := by
  unfold rowOf
  rw [dif_neg (by simp only; omega), dif_pos (by simp only; omega)]
  exact congrArg y (Fin.ext (by simp only; omega))

/-- The row's last element. -/
theorem rowOf_s : rowOf x y s ⟨640, by omega⟩ = s := by
  unfold rowOf
  rw [dif_neg (by simp only; omega), dif_neg (by simp only; omega)]

/-- The row's maximum. -/
theorem rowOf_max : max ⊥ ((Finset.univ : Finset (Fin 641)).fold max ⊥ (rowOf x y s)) = rowMax x y s := by
  refine eq_rowMax fun b => ?_
  rw [max_le_iff, Finset.fold_max_le]
  constructor
  · rintro ⟨-, -, h⟩
    exact ⟨fun c => rowOf_l x y s c ▸ h _ (Finset.mem_univ _), fun c => rowOf_x x y s c ▸ h _ (Finset.mem_univ _),
      rowOf_s x y s ▸ h _ (Finset.mem_univ _)⟩
  · rintro ⟨hx, hy, hs⟩
    refine ⟨bot_le, bot_le, fun k _ => ?_⟩
    unfold rowOf
    split
    · exact hx _
    · split
      · exact hy _
      · exact hs

/-- A sum over the row is the sum over its parts. -/
theorem rowOf_sum (f : EReal → EReal) : ∑ k, f (rowOf x y s k) = (∑ c, f (x c)) + (∑ c, f (y c)) + f s := by
  have h1 := Fin.sum_univ_add (a := 640) (b := 1) (fun k : Fin (640 + 1) => f (rowOf x y s k))
  have h2 := Fin.sum_univ_add (a := 384) (b := 256) (fun k : Fin (384 + 256) => f (rowOf x y s (Fin.castAdd 1 k)))
  refine h1.trans ?_
  rw [show ∑ i : Fin 640, f (rowOf x y s (Fin.castAdd 1 i)) = _ from h2, Fin.sum_univ_one]
  refine congrArg₂ (· + ·) (congrArg₂ (· + ·) ?_ ?_) ?_
  · exact Finset.sum_congr rfl fun c _ => congrArg f (rowOf_l x y s c)
  · exact Finset.sum_congr rfl fun c _ => congrArg f (rowOf_x x y s c)
  · exact congrArg f (rowOf_s x y s)

end Row

variable (b : Fin 4) (n : Fin 32) (r : Fin 128) (j : Fin 2) (g : Fin 4) (V : Valuation τ sig (Elt Ideal))

/-- The score array's indices that reduce to a row are the row's. -/
theorem fiber (i : S4x32x2x4x128x641.Idx) :
    reducesTo_S4x32x2x4x128x641_S4x32x2x4x128_d5.drop i = ix5 b n j g r ↔ ∃ k : Fin 641, ix6 b n j g r k = i := by
  constructor
  · intro e
    refine ⟨i 5, ?_⟩
    funext a; apply Fin.ext
    match a with
    | ⟨0, _⟩ => exact (congrArg Fin.val (congrFun e ⟨0, by decide⟩)).symm
    | ⟨1, _⟩ => exact (congrArg Fin.val (congrFun e ⟨1, by decide⟩)).symm
    | ⟨2, _⟩ => exact (congrArg Fin.val (congrFun e ⟨2, by decide⟩)).symm
    | ⟨3, _⟩ => exact (congrArg Fin.val (congrFun e ⟨3, by decide⟩)).symm
    | ⟨4, _⟩ => exact (congrArg Fin.val (congrFun e ⟨4, by decide⟩)).symm
    | ⟨5, _⟩ => rfl
  · rintro ⟨k, rfl⟩
    funext b
    apply Fin.ext
    match b with
    | ⟨0, _⟩ => rfl
    | ⟨1, _⟩ => rfl
    | ⟨2, _⟩ => rfl
    | ⟨3, _⟩ => rfl
    | ⟨4, _⟩ => rfl

/-- The row's maximum as the program folds it. -/
theorem fold_row (W : S4x32x2x4x128x641.Idx → EReal) (z : EReal) :
    Finset.fold max z W (Finset.univ.filter fun i => reducesTo_S4x32x2x4x128x641_S4x32x2x4x128_d5.drop i = ix5 b n j g r)
      = (Finset.univ : Finset (Fin 641)).fold max z fun k => W (ix6 b n j g r k) :=
  Finset.fold_filter_eq_fold_of_fiber max _ (fun k : Fin 641 => ix6 b n j g r k) (fun _ _ e => congrFun e 5)
    (fiber b n r j g) z W

/-- The row's sum as the program takes it. -/
theorem sum_row (W : S4x32x2x4x128x641.Idx → EReal) :
    Ideal.hostReduceAdd reducesTo_S4x32x2x4x128x641_S4x32x2x4x128_d5 W 0 (ix5 b n j g r) = ∑ k : Fin 641, W (ix6 b n j g r k) := by
  refine Eq.trans (zero_add _) ?_
  exact Finset.sum_filter_eq_sum_of_fiber _ (fun k : Fin 641 => ix6 b n j g r k) (fun _ _ e => congrFun e 5) (fiber b n r j g) W

/-- The mask's value as the program writes it. -/
theorem bot_eq : Ideal.ofBits .f32 4286578688#32 = ⊥ := by simp [Ideal.ofBits, Ideal.ieee]

/-- The joined scores at an element. -/
theorem joinRow_at (X : (⟨S4x32x2x4x128x384, .f32⟩ : BufTy).Contents (Elt Ideal)) (Y : (⟨S4x32x2x4x128x256, .f32⟩ : BufTy).Contents (Elt Ideal))
    (Z : (⟨S4x32x2x4x128x1, .f32⟩ : BufTy).Contents (Elt Ideal)) (x : Fin 384 → EReal) (y : Fin 256 → EReal) (s : EReal)
    (hX : ∀ c, X (ix6 b n j g r c) = x c) (hY : ∀ c, Y (ix6 b n j g r c) = y c) (hZ : Z (ix6 b n j g r 0) = s) (k : Fin 641) :
    joinRow (F := Ideal) X Y Z (ix6 b n j g r k) = rowOf x y s k := by
  pointwise [joinRow]
  unfold rowOf
  split_ifs
  all_goals first
    | exact hX _
    | exact hY _
    | exact hZ
    | exact (congrArg (fun z => Z (ix6 b n j g r z)) (Fin.ext (by simp only; omega))).trans hZ

/-- The exponentials' line in three parts. -/
theorem c5_split : after (c5 (F := Ideal)) V = after (c5c (F := Ideal)) (after (c5b (F := Ideal)) (after (c5a (F := Ideal)) V)) := rfl

/-- The weights' line in three parts. -/
theorem c6_split : after (c6 (F := Ideal)) V = after (c6c (F := Ideal)) (after (c6b (F := Ideal)) (after (c6a (F := Ideal)) V)) := rfl

/-- The rows' maxima, read. -/
theorem r61 : after (c5b (F := Ideal)) V (Proc.devRef .tc main_v61) = Host.reduce (FloatOps.maximumf (F := Ideal) (φ := .f32)) (V (Proc.devRef .tc main_v60)) (V (Proc.devRef .tc main_cst_8)) reducesTo_S4x32x2x4x128x641_S4x32x2x4x128_d5 h_S_ := by
  after_reads_simp

/-- The rows' sums, read. -/
theorem r68 : after (c6b (F := Ideal)) V (Proc.devRef .tc main_v68) = Host.reduceAdd (F := Ideal) (φ := .f32) (V (Proc.devRef .tc main_v67)) (V (Proc.devRef .tc main_cst_10)) reducesTo_S4x32x2x4x128x641_S4x32x2x4x128_d5 h_S_ := by
  after_reads_simp

/-- The scores, read. -/
theorem r60 : after (c5a (F := Ideal)) V (Proc.devRef .tc main_v60) = joinRow (F := Ideal) (V (Proc.devRef .tc main_v52)) (V (Proc.devRef .tc main_v56)) (V (Proc.devRef .tc main_v59)) := by
  after_reads_simp
  rfl

/-- The maxima leave the scores. -/
theorem k60 : after (c5b (F := Ideal)) V (Proc.devRef .tc main_v60) = V (Proc.devRef .tc main_v60) := by
  after_reads_simp

/-- The sums leave the exponentials. -/
theorem k67 : after (c6b (F := Ideal)) V (Proc.devRef .tc main_v67) = V (Proc.devRef .tc main_v67) := by
  after_reads_simp

/-- The zero's line leaves the exponentials. -/
theorem k67a : after (c6a (F := Ideal)) V (Proc.devRef .tc main_v67) = V (Proc.devRef .tc main_v67) := by
  after_reads_simp

/-- The maximum's start, read. -/
theorem r8 (i : S_.Idx) : after (c5a (F := Ideal)) V (Proc.devRef .tc main_cst_8) i = (⊥ : EReal) := by
  after_reads_at
  exact bot_eq

/-- The sum's start, read. -/
theorem r10 (i : S_.Idx) : after (c6a (F := Ideal)) V (Proc.devRef .tc main_cst_10) i = (0 : EReal) := by
  after_reads_at

/-- An exponential, read. -/
theorem r67 (k : Fin 641) (w M : EReal) (h : V (Proc.devRef .tc main_v60) (ix6 b n j g r k) = w)
    (h' : V (Proc.devRef .tc main_v61) (ix5 b n j g r) = M) :
    after (c5c (F := Ideal)) V (Proc.devRef .tc main_v67) (ix6 b n j g r k) = Ideal.exp (w - max ⊥ M) := by
  after_reads_at
  rw [bot_eq]
  exact congrArg Ideal.exp (congrArg₂ (fun u v : EReal => u - v) h (congrArg (max ⊥) h'))

/-- A weight, read. -/
theorem r71 (k : Fin 641) (w M : EReal) (h : V (Proc.devRef .tc main_v67) (ix6 b n j g r k) = w)
    (h' : V (Proc.devRef .tc main_v68) (ix5 b n j g r) = M) :
    after (c6c (F := Ideal)) V (Proc.devRef .tc main_v71) (ix6 b n j g r k) = Ideal.div w M := by
  after_reads_at
  exact congrArg₂ Ideal.div h h'

/-- A row's maximum. -/
theorem reduce_row (W : FVec Ideal S4x32x2x4x128x641 .f32) (z : FVec Ideal S_ .f32) (w : Fin 641 → EReal) (hw : ∀ k, W (ix6 b n j g r k) = w k)
    (hz : ∀ i, z i = (⊥ : EReal)) :
    Host.reduce (FloatOps.maximumf (F := Ideal) (φ := .f32)) W z reducesTo_S4x32x2x4x128x641_S4x32x2x4x128_d5 h_S_ (ix5 b n j g r)
      = (Finset.univ : Finset (Fin 641)).fold max (⊥ : EReal) w := by
  refine (Host.reduce_eq_fold (α := EReal) max W z _ _ _).trans ?_
  rw [hz]
  refine (fold_row b n r j g W ⊥).trans ?_
  exact congrArg (fun f => Finset.fold max ⊥ f Finset.univ) (funext hw)

/-- A row's sum. -/
theorem reduceAdd_row (W : FVec Ideal S4x32x2x4x128x641 .f32) (z : FVec Ideal S_ .f32) (w : Fin 641 → EReal) (hw : ∀ k, W (ix6 b n j g r k) = w k)
    (hz : ∀ i, z i = (0 : EReal)) :
    Host.reduceAdd W z reducesTo_S4x32x2x4x128x641_S4x32x2x4x128_d5 h_S_ (ix5 b n j g r) = ∑ k, w k := by
  refine (ValueIdx.hostReduceAdd_apply W z _ h_S_ _).trans ?_
  refine (congrArg (fun u => Ideal.hostReduceAdd reducesTo_S4x32x2x4x128x641_S4x32x2x4x128_d5 W u (ix5 b n j g r)) (hz _)).trans ?_
  exact (sum_row b n r j g W).trans (Finset.sum_congr rfl fun k _ => hw k)

/-- The exponentials. -/
theorem s67_at (k : Fin 641) (x : Fin 384 → EReal) (y : Fin 256 → EReal) (s : EReal)
    (hX : ∀ c, V (Proc.devRef .tc main_v52) (ix6 b n j g r c) = x c) (hY : ∀ c, V (Proc.devRef .tc main_v56) (ix6 b n j g r c) = y c)
    (hZ : V (Proc.devRef .tc main_v59) (ix6 b n j g r 0) = s) :
    after (c5 (F := Ideal)) V (Proc.devRef .tc main_v67) (ix6 b n j g r k) = Ideal.exp (rowOf x y s k - rowMax x y s) := by
  rw [c5_split]
  have hW : ∀ k, after (c5a (F := Ideal)) V (Proc.devRef .tc main_v60) (ix6 b n j g r k) = rowOf x y s k := fun k =>
    (congrFun (r60 V) _).trans (joinRow_at b n r j g _ _ _ x y s hX hY hZ k)
  have h61 := (congrFun (r61 (after (c5a (F := Ideal)) V)) (ix5 b n j g r)).trans (reduce_row b n r j g _ _ (rowOf x y s) hW (r8 V))
  refine (r67 b n r j g _ k _ _ ((congrFun (k60 (after (c5a (F := Ideal)) V)) _).trans (hW k)) h61).trans ?_
  rw [rowOf_max]

/-- The weights. -/
theorem s71_at (k : Fin 641) (e : Fin 641 → EReal) (h : ∀ k, V (Proc.devRef .tc main_v67) (ix6 b n j g r k) = e k) :
    after (c6 (F := Ideal)) V (Proc.devRef .tc main_v71) (ix6 b n j g r k) = Ideal.div (e k) (∑ k, e k) := by
  rw [c6_split]
  have hW : ∀ k, after (c6a (F := Ideal)) V (Proc.devRef .tc main_v67) (ix6 b n j g r k) = e k := fun k => (congrFun (k67a V) _).trans (h k)
  have h68 := (congrFun (r68 (after (c6a (F := Ideal)) V)) (ix5 b n j g r)).trans (reduceAdd_row b n r j g _ _ e hW (r10 V))
  exact r71 b n r j g _ k _ _ ((congrFun (k67 (after (c6a (F := Ideal)) V)) _).trans (hW k)) h68

/-- The result. -/
theorem s79_at (s : Fin 4096) (e : Fin 512) (v : Fin 384 → EReal) (w : Fin 256 → EReal) (p : Fin 641 → EReal)
    (hv : ∀ c, V (Proc.devRef .tc main_v12) (ix5 b ⟨s.val / 128, by omega⟩ c ⟨e.val / 256, by omega⟩ ⟨e.val % 64, by omega⟩) = v c)
    (hw : ∀ c, V (Proc.devRef .tc main_arg4) (ix4 b c ⟨e.val / 256, by omega⟩ ⟨e.val % 64, by omega⟩) = w c)
    (hp : ∀ k, V (Proc.devRef .tc main_v71) (ix6 b ⟨s.val / 128, by omega⟩ ⟨e.val / 256, by omega⟩ ⟨e.val / 64 % 4, by omega⟩ ⟨s.val % 128, by omega⟩ k) = p k) :
    after c7 V (Proc.devRef .tc main_v79) (ix3 b s e)
      = (∑ c, v c * p ⟨c.val, by omega⟩) + ∑ c, w c * p ⟨384 + c.val, by omega⟩ := by
  after_reads_at
  refine congrArg₂ (fun u v : EReal => u + v) (Finset.sum_congr rfl fun c _ => ?_) (Finset.sum_congr rfl fun c _ => ?_)
  · exact congrArg₂ (fun u v : EReal => u * v) (hv c) (hp _)
  · exact congrArg₂ (fun u v : EReal => u * v) (hw c) (hp _)

end Cert.AttnSoft
end
-- ==== Proof.AttnRun.lean ====
module

public import proofs.«01_k».proof.Proof.AttnRef
public import proofs.«01_k».proof.Proof.AttnSoft

/-! The attention reference's result is `Attn.resArr` of its arguments. -/

@[expose] public section

set_option maxRecDepth 16384

noncomputable section

namespace Cert.AttnRun

open Idealize.SL.Sem Cert.ReferenceIdeal Cert.ReferenceIdeal.Gen Cert.AttnLine Cert.Attn Idealize.ShloMosaic Idealize.ShloMosaic.TcCoe
  Idealize.ShloMosaic.StableHlo Cert.AttnSoft

/-- The memory `V` holds the arguments `A`. -/
structure Holds (A : Args) (V : Valuation τ sig (Elt Ideal)) : Prop where
  h0 : V (Proc.devRef .tc main_arg0) = A.q
  h1 : V (Proc.devRef .tc main_arg1) = A.k
  h2 : V (Proc.devRef .tc main_arg2) = A.v
  h3 : V (Proc.devRef .tc main_arg3) = A.kc
  h4 : V (Proc.devRef .tc main_arg4) = A.vc
  h5 : V (Proc.devRef .tc main_arg5) = A.sink

variable (A : Args) (V : Valuation τ sig (Elt Ideal)) (h : Holds A V) (b : Fin 4) (n : Fin 32) (r : Fin 128) (j : Fin 2) (g : Fin 4)
include h

/-- The queries after the first line. -/
theorem q1 (d : Fin 64) : v1 V (Proc.devRef .tc main_v0) (ix6 b n r j g d) = qAt A b n r j g d := AttnRef.q_at A b n r j g V d h.h0

/-- The queries after the second line. -/
theorem q2 (d : Fin 64) : v2 V (Proc.devRef .tc main_v0) (ix6 b n r j g d) = qAt A b n r j g d :=
  (congrFun (keep1 (v1 V) main_v0 (by decide)) _).trans (q1 A V h b n r j g d)

/-- The queries after the fourth line. -/
theorem q4 (d : Fin 64) : v4 V (Proc.devRef .tc main_v0) (ix6 b n r j g d) = qAt A b n r j g d :=
  (congrFun (keep3 (v3 V) main_v0 (by decide)) _).trans
    ((congrFun (keep2 (v2 V) main_v0 (by decide)) _).trans (q2 A V h b n r j g d))

/-- The keys about a block. -/
theorem k2 (c : Fin 384) (d : Fin 64) : v2 V (Proc.devRef .tc main_v8) (ix5 b n c j d) = rowAt b n j A.k c d :=
  AttnRef.k8_at A b n j (v1 V) c d (fun c d => AttnRef.k5_at A b n j V c d h.h1) (fun c d => AttnRef.k6_at A b n j V c d h.h1)
    (fun c d => AttnRef.k7_at A b n j V c d h.h1)

/-- The values about a block. -/
theorem w3 (c : Fin 384) (d : Fin 64) : v3 V (Proc.devRef .tc main_v12) (ix5 b n c j d) = rowAt b n j A.v c d :=
  AttnRef.v12_at A b n j (v2 V) c d
    (fun c d => AttnRef.v9_at b n j (v1 V) c d _ (AttnRef.v4_at A b n j V ⟨n.val, by omega⟩ c d h.h2 ⟨c.val, by omega⟩ (by simp only; omega)))
    (fun c d => AttnRef.v10_at b n j (v1 V) c d _ (AttnRef.v4_at A b n j V ⟨1 + n.val, by omega⟩ c d h.h2 ⟨128 + c.val, by omega⟩ (by simp only; omega)))
    (fun c d => AttnRef.v11_at b n j (v1 V) c d _ (AttnRef.v4_at A b n j V ⟨2 + n.val, by omega⟩ c d h.h2 ⟨256 + c.val, by omega⟩ (by simp only; omega)))

/-- The values about a block before the weighted sums. -/
theorem w7 (c : Fin 384) (d : Fin 64) : v7 V (Proc.devRef .tc main_v12) (ix5 b n c j d) = rowAt b n j A.v c d :=
  (congrFun (keep6 (v6 V) main_v12 (by decide)) _).trans ((congrFun (keep5 (v5 V) main_v12 (by decide)) _).trans
    ((congrFun (keep4 (v4 V) main_v12 (by decide)) _).trans ((congrFun (keep3 (v3 V) main_v12 (by decide)) _).trans (w3 A V h b n j c d))))

/-- The scores of the rows about a block. -/
theorem x5 (c : Fin 384) : v5 V (Proc.devRef .tc main_v52) (ix6 b n j g r c) = locScore A b n r j g c :=
  (congrFun (keep4 (v4 V) main_v52 (by decide)) _).trans
    (AttnRef.s52_at b n r j g (v3 V) c _ (AttnRef.s16_at A b n r j g (v2 V) c (fun d => k2 A V h b n j c d) (fun d => q2 A V h b n r j g d)))

/-- The scores of the context. -/
theorem y5 (c : Fin 256) : v5 V (Proc.devRef .tc main_v56) (ix6 b n j g r c) = ctxScore A b n r j g c :=
  AttnRef.s56_at A b n r j g (v4 V) c ((kept4 V main_arg3 (by decide)).trans h.h3) (fun d => q4 A V h b n r j g d)

/-- The sinks. -/
theorem s5 : v5 V (Proc.devRef .tc main_v59) (ix6 b n j g r 0) = sinkAt A j g :=
  AttnRef.s59_at A b n r j g (v4 V) ((kept4 V main_arg5 (by decide)).trans h.h5)

/-- The weights. -/
theorem p7 (k : Fin 641) : v7 V (Proc.devRef .tc main_v71) (ix6 b n j g r k)
    = Ideal.div (Ideal.exp (rowOf (locScore A b n r j g) (ctxScore A b n r j g) (sinkAt A j g) k
          - rowMax (locScore A b n r j g) (ctxScore A b n r j g) (sinkAt A j g)))
        (den (locScore A b n r j g) (ctxScore A b n r j g) (sinkAt A j g) (rowMax (locScore A b n r j g) (ctxScore A b n r j g) (sinkAt A j g))) := by
  refine (s71_at b n r j g (v6 V) k _ (fun k => s67_at b n r j g (v5 V) k _ _ _ (x5 A V h b n r j g) (y5 A V h b n r j g) (s5 A V h b n r j g))).trans ?_
  refine congrArg (Ideal.div _) ?_
  exact rowOf_sum _ _ _ (fun z => Ideal.exp (z - rowMax (locScore A b n r j g) (ctxScore A b n r j g) (sinkAt A j g)))

/-- The result at an element. -/
theorem res_at (s : Fin 4096) (e : Fin 512) : v8 V (Proc.devRef .tc main_v79) (ix3 b s e)
    = res A b ⟨s.val / 128, by omega⟩ ⟨s.val % 128, by omega⟩ ⟨e.val / 256, by omega⟩ ⟨e.val / 64 % 4, by omega⟩ ⟨e.val % 64, by omega⟩ := by
  refine (s79_at b (v7 V) s e _ _ _ (fun c => w7 A V h b _ _ c _) (fun c => congrFun ((kept7 V main_arg4 (by decide)).trans h.h4) _)
    (fun k => p7 A V h b _ _ _ _ k)).trans ?_
  unfold res out
  refine congrArg₂ (fun u v : EReal => u + v) (Finset.sum_congr rfl fun c _ => ?_) (Finset.sum_congr rfl fun c _ => ?_)
  · rw [rowOf_l]
  · rw [rowOf_x]

/-- The result. -/
theorem v8_eq : v8 V (Proc.devRef .tc main_v79) = resArr A := by
  funext i
  have e : i = ix3 (i 0) (i 1) (i 2) := by funext a; fin_cases a <;> rfl
  refine (congrArg (v8 V (Proc.devRef .tc main_v79)) e).trans ?_
  exact res_at A V h (i 0) (i 1) (i 2)

omit h in
/-- The arguments a device's memory holds. -/
def argsOf (m : (ℓ : Loc nD τ sig) → Buf (Elt Ideal) ℓ) (c : Dev nD) : Args where
  q := m ((c.tc : Thread nD τ).loc main_arg0)
  k := m ((c.tc : Thread nD τ).loc main_arg1)
  v := m ((c.tc : Thread nD τ).loc main_arg2)
  kc := m ((c.tc : Thread nD τ).loc main_arg3)
  vc := m ((c.tc : Thread nD τ).loc main_arg4)
  sink := m ((c.tc : Thread nD τ).loc main_arg5)

omit h in
/-- On any memory with zero counters the reference terminates, its result the attention's result array and its arguments
kept. -/
theorem run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v79) = resArr (argsOf m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c => ⟨(h c main_v79).trans (v8_eq (argsOf m c) _ ⟨rfl, rfl, rfl, rfl, rfl, rfl⟩),
    (h c main_arg0).trans (kept8 _ main_arg0 (by decide)),
    (h c main_arg1).trans (kept8 _ main_arg1 (by decide)),
    (h c main_arg2).trans (kept8 _ main_arg2 (by decide)),
    (h c main_arg3).trans (kept8 _ main_arg3 (by decide)),
    (h c main_arg4).trans (kept8 _ main_arg4 (by decide)),
    (h c main_arg5).trans (kept8 _ main_arg5 (by decide))⟩)
    (AttnLine.run m ρ)

end Cert.AttnRun

end
-- ==== Proof.AttnValue.lean ====
module

public import proofs.«01_k».proof.Defs
public import proofs.«01_k».proof.Proof.AttnWhole
public import proofs.«01_k».proof.Proof.AttnPre
public import proofs.«01_k».proof.Proof.AttnRun

/-! The attention kernel and the attention reference end with the same result array. -/

@[expose] public section

set_option maxRecDepth 16384

noncomputable section

namespace Cert.AttnValue

open Idealize.ShloMosaic Idealize.ShloMosaic.TcCoe Idealize.SL.Sem

/-- The idealized attention kernel computes its reference, from any memory whose queries, keys and sinks are numbers. -/
theorem algebraic : Cert.algebraic_KernelIdeal_ReferenceIdeal_pre_finite (hKernelIdeal := Cert.KernelIdeal.Gen.facts)
    (hReferenceIdeal := Cert.ReferenceIdeal.Gen.facts) (hPre_finite := AttnPre.facts) := by
  intro m g m' g' hpre hagree
  have hA : ∀ c, Attn.Fin' (AttnArr.argsOf m c) := fun c => AttnPre.fin_of (AttnArr.argsOf m c) (hpre c)
  refine ⟨fun c => Attn.resArr (AttnArr.argsOf m c), ?_, ?_⟩
  · refine (θ_run Cert.KernelIdeal.defs _ _).mono (fun r h c => ?_) (Cert.KernelIdeal.Value.run_blocks m g)
    exact ⟨(h c).1.trans (AttnWhole.arr_eq m c (hA c)), (h c).2⟩
  · refine (θ_run Cert.ReferenceIdeal.defs _ _).mono (fun r h c => ?_) (AttnRun.run m' g')
    refine ⟨(h c).1.trans ?_, (h c).2⟩
    have e : AttnRun.argsOf m' c = AttnArr.argsOf m c := by
      obtain ⟨h0, h1, h2, h3, h4, h5⟩ := hagree c
      unfold AttnRun.argsOf AttnArr.argsOf
      rw [h0, h1, h2, h3, h4, h5]
    rw [e]

end Cert.AttnValue

end
-- ==== Proof.lean ====
module

public import proofs.«01_k».proof.Defs
public import proofs.«01_k».proof.Proof.Gen.Kernel
public import proofs.«01_k».proof.Proof.Gen.Kernel.Frame
public import proofs.«01_k».proof.Proof.Gen.Kernel2
public import proofs.«01_k».proof.Proof.Gen.Kernel2.Frame
public import proofs.«01_k».proof.Proof.Gen.KernelIdeal
public import proofs.«01_k».proof.Proof.Gen.KernelIdeal.Frame
public import proofs.«01_k».proof.Proof.Gen.KernelIdeal.Value
public import proofs.«01_k».proof.Proof.Gen.Kernel2Ideal
public import proofs.«01_k».proof.Proof.Gen.Kernel2Ideal.Frame
public import proofs.«01_k».proof.Proof.Gen.ReferenceIdeal
public import proofs.«01_k».proof.Proof.Gen.ReferenceIdeal.Run
public import proofs.«01_k».proof.Proof.MergeValue
public import proofs.«01_k».proof.Proof.AttnValue
public import Idealize.ShloMosaic.Adequacy
public import Idealize.ShloMosaic.Init

@[expose] public section

noncomputable section

namespace Cert.Proof

open Idealize.ShloMosaic Idealize.SL.Sem

/-- The attention's reference ends with its arguments unchanged and no semaphore counted. -/
theorem frame_ref : Cert.quiescent_ReferenceIdeal (hReferenceIdeal := Cert.ReferenceIdeal.Gen.facts) := by
  intro m ρ _
  exact (θ_run Cert.ReferenceIdeal.defs _ _).mono (fun r h => ⟨fun c => (h c).2, sem_eq_zero_of_no_sems (by decide) r.2⟩)
    (Cert.ReferenceIdeal.Value.run (F := Ideal) m ρ)

/-- The merge's reference ends with its arguments unchanged and no semaphore counted. -/
theorem frame_ref2 : Cert.quiescent_Reference2Ideal (hReference2Ideal := Cert.Reference2Ideal.Gen.facts) := by
  intro m ρ _
  exact (θ_run Cert.Reference2Ideal.defs _ _).mono (fun r h => ⟨fun c => (h c).2, sem_eq_zero_of_no_sems (by decide) r.2⟩)
    (Cert.MergeRef.run m ρ)

/-- The attention's reference ends so from the memories the precondition admits. -/
theorem frame_ref_pre : Cert.quiescent_ReferenceIdeal_pre_finite (hReferenceIdeal := Cert.ReferenceIdeal.Gen.facts)
    (hPre_finite := Cert.AttnPre.facts) := by
  intro m ρ _
  exact frame_ref m ρ trivial

/-- Everything the certificate claims. -/
theorem claim : Cert.Claim :=
  ⟨Cert.Kernel.Gen.facts, Cert.KernelIdeal.Gen.facts, Cert.ReferenceIdeal.Gen.facts, Cert.Kernel2.Gen.facts,
    Cert.Kernel2Ideal.Gen.facts, Cert.Reference2Ideal.Gen.facts,
    Cert.AttnPre.facts,
    fun m ρ _ => Cert.Kernel.Gen.frame m ρ,
    fun m ρ _ => Cert.KernelIdeal.Gen.frame m ρ,
    fun m ρ _ => Cert.KernelIdeal.Gen.frame m ρ,
    frame_ref,
    frame_ref_pre,
    fun m ρ _ => Cert.Kernel2.Gen.frame m ρ,
    fun m ρ _ => Cert.Kernel2Ideal.Gen.frame m ρ,
    frame_ref2,
    ⟨IdealRules.named_const.statement Cert.KernelIdeal.κ "mask" .f32 0xF149F2CA#32 ⊥ rfl,
      IdealRules.named_const.statement Cert.KernelIdeal.κ "log2e" .f32 0x3FB8AA3B#32 (((Real.log 2)⁻¹ : ℝ) : EReal) rfl⟩,
    Cert.AttnValue.algebraic,
    trivial,
    Cert.MergeValue.algebraic⟩

end Cert.Proof

end
